-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoRefIdeal (m : (ℓ : Loc Cert.DoRefIdeal.nD Cert.DoRefIdeal.τ Cert.DoRefIdeal.sig) → Buf (Elt Ideal) ℓ) : Prop :=
  True

def Pre_Dhx (m : (ℓ : Loc Cert.Dhx.nD Cert.Dhx.τ Cert.Dhx.sig) → Buf (Elt Bits) ℓ) : Prop :=
  True

def Pre_DhxIdeal (m : (ℓ : Loc Cert.DhxIdeal.nD Cert.DhxIdeal.τ Cert.DhxIdeal.sig) → Buf (Elt Ideal) ℓ) : Prop :=
  True

def Pre_DhxRefIdeal (m : (ℓ : Loc Cert.DhxRefIdeal.nD Cert.DhxRefIdeal.τ Cert.DhxRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_DwQ (m : (ℓ : Loc Cert.DwQ.nD Cert.DwQ.τ Cert.DwQ.sig) → Buf (Elt Bits) ℓ) : Prop :=
  True

def Pre_DwQIdeal (m : (ℓ : Loc Cert.DwQIdeal.nD Cert.DwQIdeal.τ Cert.DwQIdeal.sig) → Buf (Elt Ideal) ℓ) : Prop :=
  True

def Pre_DwQRefIdeal (m : (ℓ : Loc Cert.DwQRefIdeal.nD Cert.DwQRefIdeal.τ Cert.DwQRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_gate [hPre_finite_gate : Cert.Pre_finite_gate.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_gate.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_gate [hPre_finite_gate : Cert.Pre_finite_gate.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_gate.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1))) = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_DwGuRefIdeal (m : (ℓ : Loc Cert.DwGuRefIdeal.nD Cert.DwGuRefIdeal.τ Cert.DwGuRefIdeal.sig) → Buf (Elt Ideal) ℓ) : Prop :=
  True

def Pre_Dhf (m : (ℓ : Loc Cert.Dhf.nD Cert.Dhf.τ Cert.Dhf.sig) → Buf (Elt Bits) ℓ) : Prop :=
  True

def Pre_DhfIdeal (m : (ℓ : Loc Cert.DhfIdeal.nD Cert.DhfIdeal.τ Cert.DhfIdeal.sig) → Buf (Elt Ideal) ℓ) : Prop :=
  True

def Pre_DhfRefIdeal (m : (ℓ : Loc Cert.DhfRefIdeal.nD Cert.DhfRefIdeal.τ Cert.DhfRefIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_DwMain (m : (ℓ : Loc Cert.DwMain.nD Cert.DwMain.τ Cert.DwMain.sig) → Buf (Elt Bits) ℓ) : Prop :=
  True

def Pre_DwMainIdeal (m : (ℓ : Loc Cert.DwMainIdeal.nD Cert.DwMainIdeal.τ Cert.DwMainIdeal.sig) → Buf (Elt Ideal) ℓ) : Prop :=
  True

def Pre_DwMainRefIdeal (m : (ℓ : Loc Cert.DwMainRefIdeal.nD Cert.DwMainRefIdeal.τ Cert.DwMainRefIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_ORefIdeal (m : (ℓ : Loc Cert.ORefIdeal.nD Cert.ORefIdeal.τ Cert.ORefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GNorm (m : (ℓ : Loc Cert.GNorm.nD Cert.GNorm.τ Cert.GNorm.sig) → Buf (Elt Bits) ℓ) : Prop :=
  True

def Pre_GNormIdeal (m : (ℓ : Loc Cert.GNormIdeal.nD Cert.GNormIdeal.τ Cert.GNormIdeal.sig) → Buf (Elt Ideal) ℓ) : Prop :=
  True

def Pre_GNormIdeal_finite_gnorm [hPre_finite_gnorm : Cert.Pre_finite_gnorm.Facts] (m : (ℓ : Loc Cert.GNormIdeal.nD Cert.GNormIdeal.τ Cert.GNormIdeal.sig) → Buf (Elt Ideal) ℓ) : Prop :=
  ∀ c : Dev Cert.GNormIdeal.nD,
    (Cert.Pre_finite_gnorm.fn (F := Ideal) (m ((c.tc : Thread Cert.GNormIdeal.nD Cert.GNormIdeal.τ).loc Cert.GNormIdeal.main_arg0)) (m ((c.tc : Thread Cert.GNormIdeal.nD Cert.GNormIdeal.τ).loc Cert.GNormIdeal.main_arg1)) (m ((c.tc : Thread Cert.GNormIdeal.nD Cert.GNormIdeal.τ).loc Cert.GNormIdeal.main_arg2)) (m ((c.tc : Thread Cert.GNormIdeal.nD Cert.GNormIdeal.τ).loc Cert.GNormIdeal.main_arg3))) = (fun _ => 1#1)

def Pre_GNormRefIdeal (m : (ℓ : Loc Cert.GNormRefIdeal.nD Cert.GNormRefIdeal.τ Cert.GNormRefIdeal.sig) → Buf (Elt Ideal) ℓ) : Prop :=
  True

def Pre_GNormRefIdeal_finite_gnorm [hPre_finite_gnorm : Cert.Pre_finite_gnorm.Facts] (m : (ℓ : Loc Cert.GNormRefIdeal.nD Cert.GNormRefIdeal.τ Cert.GNormRefIdeal.sig) → Buf (Elt Ideal) ℓ) : Prop :=
  ∀ c : Dev Cert.GNormRefIdeal.nD,
    (Cert.Pre_finite_gnorm.fn (F := Ideal) (m ((c.tc : Thread Cert.GNormRefIdeal.nD Cert.GNormRefIdeal.τ).loc Cert.GNormRefIdeal.main_arg0)) (m ((c.tc : Thread Cert.GNormRefIdeal.nD Cert.GNormRefIdeal.τ).loc Cert.GNormRefIdeal.main_arg1)) (m ((c.tc : Thread Cert.GNormRefIdeal.nD Cert.GNormRefIdeal.τ).loc Cert.GNormRefIdeal.main_arg2)) (m ((c.tc : Thread Cert.GNormRefIdeal.nD Cert.GNormRefIdeal.τ).loc Cert.GNormRefIdeal.main_arg3))) = (fun _ => 1#1)

def Pre_Sc (m : (ℓ : Loc Cert.Sc.nD Cert.Sc.τ Cert.Sc.sig) → Buf (Elt Bits) ℓ) : Prop :=
  True

def Pre_ScIdeal (m : (ℓ : Loc Cert.ScIdeal.nD Cert.ScIdeal.τ Cert.ScIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1))
      ∧ r.2.sem = fun _ => 0)

def quiescent_Dhx [hDhx : Cert.Dhx.Facts] : Prop :=
  ∀ (m : (ℓ : Loc Cert.Dhx.nD Cert.Dhx.τ Cert.Dhx.sig) → Buf (Elt Bits) ℓ) (g : Dev Cert.Dhx.nD → PrngReg), Pre_Dhx m →
    θ_run (Cert.Dhx.defs (F := Bits)) (onTc (τ := Cert.Dhx.τ) (Cert.Dhx.main (F := Bits))) ⟨m, fun _ => 0, g⟩ (fun r => (∀ c : Dev Cert.Dhx.nD,
      r.2.mem ((c.tc : Thread Cert.Dhx.nD Cert.Dhx.τ).loc Cert.Dhx.main_arg0) = m ((c.tc : Thread Cert.Dhx.nD Cert.Dhx.τ).loc Cert.Dhx.main_arg0)
      ∧ r.2.mem ((c.tc : Thread Cert.Dhx.nD Cert.Dhx.τ).loc Cert.Dhx.main_arg1) = m ((c.tc : Thread Cert.Dhx.nD Cert.Dhx.τ).loc Cert.Dhx.main_arg1))
      ∧ r.2.sem = fun _ => 0)

def quiescent_DhxIdeal [hDhxIdeal : Cert.DhxIdeal.Facts] : Prop :=
  ∀ (m : (ℓ : Loc Cert.DhxIdeal.nD Cert.DhxIdeal.τ Cert.DhxIdeal.sig) → Buf (Elt Ideal) ℓ) (g : Dev Cert.DhxIdeal.nD → PrngReg), Pre_DhxIdeal m →
    θ_run (Cert.DhxIdeal.defs (F := Ideal)) (onTc (τ := Cert.DhxIdeal.τ) (Cert.DhxIdeal.main (F := Ideal))) ⟨m, fun _ => 0, g⟩ (fun r => (∀ c : Dev Cert.DhxIdeal.nD,
      r.2.mem ((c.tc : Thread Cert.DhxIdeal.nD Cert.DhxIdeal.τ).loc Cert.DhxIdeal.main_arg0) = m ((c.tc : Thread Cert.DhxIdeal.nD Cert.DhxIdeal.τ).loc Cert.DhxIdeal.main_arg0)
      ∧ r.2.mem ((c.tc : Thread Cert.DhxIdeal.nD Cert.DhxIdeal.τ).loc Cert.DhxIdeal.main_arg1) = m ((c.tc : Thread Cert.DhxIdeal.nD Cert.DhxIdeal.τ).loc Cert.DhxIdeal.main_arg1))
      ∧ r.2.sem = fun _ => 0)

def quiescent_DhxRefIdeal [hDhxRefIdeal : Cert.DhxRefIdeal.Facts] : Prop :=
  ∀ (m : (ℓ : Loc Cert.DhxRefIdeal.nD Cert.DhxRefIdeal.τ Cert.DhxRefIdeal.sig) → Buf (Elt Ideal) ℓ) (g : Dev Cert.DhxRefIdeal.nD → PrngReg), Pre_DhxRefIdeal m →
    θ_run (Cert.DhxRefIdeal.defs (F := Ideal)) (onTc (τ := Cert.DhxRefIdeal.τ) (Cert.DhxRefIdeal.main (F := Ideal))) ⟨m, fun _ => 0, g⟩ (fun r => (∀ c : Dev Cert.DhxRefIdeal.nD,
      r.2.mem ((c.tc : Thread Cert.DhxRefIdeal.nD Cert.DhxRefIdeal.τ).loc Cert.DhxRefIdeal.main_arg0) = m ((c.tc : Thread Cert.DhxRefIdeal.nD Cert.DhxRefIdeal.τ).loc Cert.DhxRefIdeal.main_arg0)
      ∧ r.2.mem ((c.tc : Thread Cert.DhxRefIdeal.nD Cert.DhxRefIdeal.τ).loc Cert.DhxRefIdeal.main_arg1) = m ((c.tc : Thread Cert.DhxRefIdeal.nD Cert.DhxRefIdeal.τ).loc Cert.DhxRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_DwQ [hDwQ : Cert.DwQ.Facts] : Prop :=
  ∀ (m : (ℓ : Loc Cert.DwQ.nD Cert.DwQ.τ Cert.DwQ.sig) → Buf (Elt Bits) ℓ) (g : Dev Cert.DwQ.nD → PrngReg), Pre_DwQ m →
    θ_run (Cert.DwQ.defs (F := Bits)) (onTc (τ := Cert.DwQ.τ) (Cert.DwQ.main (F := Bits))) ⟨m, fun _ => 0, g⟩ (fun r => (∀ c : Dev Cert.DwQ.nD,
      r.2.mem ((c.tc : Thread Cert.DwQ.nD Cert.DwQ.τ).loc Cert.DwQ.main_arg0) = m ((c.tc : Thread Cert.DwQ.nD Cert.DwQ.τ).loc Cert.DwQ.main_arg0)
      ∧ r.2.mem ((c.tc : Thread Cert.DwQ.nD Cert.DwQ.τ).loc Cert.DwQ.main_arg1) = m ((c.tc : Thread Cert.DwQ.nD Cert.DwQ.τ).loc Cert.DwQ.main_arg1))
      ∧ r.2.sem = fun _ => 0)

def quiescent_DwQIdeal [hDwQIdeal : Cert.DwQIdeal.Facts] : Prop :=
  ∀ (m : (ℓ : Loc Cert.DwQIdeal.nD Cert.DwQIdeal.τ Cert.DwQIdeal.sig) → Buf (Elt Ideal) ℓ) (g : Dev Cert.DwQIdeal.nD → PrngReg), Pre_DwQIdeal m →
    θ_run (Cert.DwQIdeal.defs (F := Ideal)) (onTc (τ := Cert.DwQIdeal.τ) (Cert.DwQIdeal.main (F := Ideal))) ⟨m, fun _ => 0, g⟩ (fun r => (∀ c : Dev Cert.DwQIdeal.nD,
      r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
      ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ r.2.sem = fun _ => 0)

def quiescent_DwQRefIdeal [hDwQRefIdeal : Cert.DwQRefIdeal.Facts] : Prop :=
  ∀ (m : (ℓ : Loc Cert.DwQRefIdeal.nD Cert.DwQRefIdeal.τ Cert.DwQRefIdeal.sig) → Buf (Elt Ideal) ℓ) (g : Dev Cert.DwQRefIdeal.nD → PrngReg), Pre_DwQRefIdeal m →
    θ_run (Cert.DwQRefIdeal.defs (F := Ideal)) (onTc (τ := Cert.DwQRefIdeal.τ) (Cert.DwQRefIdeal.main (F := Ideal))) ⟨m, fun _ => 0, g⟩ (fun r => (∀ c : Dev Cert.DwQRefIdeal.nD,
      r.2.mem ((c.tc : Thread Cert.DwQRefIdeal.nD Cert.DwQRefIdeal.τ).loc Cert.DwQRefIdeal.main_arg0) = m ((c.tc : Thread Cert.DwQRefIdeal.nD Cert.DwQRefIdeal.τ).loc Cert.DwQRefIdeal.main_arg0)
      ∧ r.2.mem ((c.tc : Thread Cert.DwQRefIdeal.nD Cert.DwQRefIdeal.τ).loc Cert.DwQRefIdeal.main_arg1) = m ((c.tc : Thread Cert.DwQRefIdeal.nD Cert.DwQRefIdeal.τ).loc Cert.DwQRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluIdeal_pre_finite_gate [hSwigluIdeal : Cert.SwigluIdeal.Facts] [hPre_finite_gate : Cert.Pre_finite_gate.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_gate m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_SwigluRefIdeal_pre_finite_gate [hSwigluRefIdeal : Cert.SwigluRefIdeal.Facts] [hPre_finite_gate : Cert.Pre_finite_gate.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_gate m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ r.2.sem = fun _ => 0)

def quiescent_DwGuRefIdeal [hDwGuRefIdeal : Cert.DwGuRefIdeal.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1))
      ∧ r.2.sem = fun _ => 0)

def quiescent_Dhf [hDhf : Cert.Dhf.Facts] : Prop :=
  ∀ (m : (ℓ : Loc Cert.Dhf.nD Cert.Dhf.τ Cert.Dhf.sig) → Buf (Elt Bits) ℓ) (g : Dev Cert.Dhf.nD → PrngReg), Pre_Dhf m →
    θ_run (Cert.Dhf.defs (F := Bits)) (onTc (τ := Cert.Dhf.τ) (Cert.Dhf.main (F := Bits))) ⟨m, fun _ => 0, g⟩ (fun r => (∀ c : Dev Cert.Dhf.nD,
      r.2.mem ((c.tc : Thread Cert.Dhf.nD Cert.Dhf.τ).loc Cert.Dhf.main_arg0) = m ((c.tc : Thread Cert.Dhf.nD Cert.Dhf.τ).loc Cert.Dhf.main_arg0)
      ∧ r.2.mem ((c.tc : Thread Cert.Dhf.nD Cert.Dhf.τ).loc Cert.Dhf.main_arg1) = m ((c.tc : Thread Cert.Dhf.nD Cert.Dhf.τ).loc Cert.Dhf.main_arg1))
      ∧ r.2.sem = fun _ => 0)

def quiescent_DhfIdeal [hDhfIdeal : Cert.DhfIdeal.Facts] : Prop :=
  ∀ (m : (ℓ : Loc Cert.DhfIdeal.nD Cert.DhfIdeal.τ Cert.DhfIdeal.sig) → Buf (Elt Ideal) ℓ) (g : Dev Cert.DhfIdeal.nD → PrngReg), Pre_DhfIdeal m →
    θ_run (Cert.DhfIdeal.defs (F := Ideal)) (onTc (τ := Cert.DhfIdeal.τ) (Cert.DhfIdeal.main (F := Ideal))) ⟨m, fun _ => 0, g⟩ (fun r => (∀ c : Dev Cert.DhfIdeal.nD,
      r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
      ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1))
      ∧ r.2.sem = fun _ => 0)

def quiescent_DhfRefIdeal [hDhfRefIdeal : Cert.DhfRefIdeal.Facts] : Prop :=
  ∀ (m : (ℓ : Loc Cert.DhfRefIdeal.nD Cert.DhfRefIdeal.τ Cert.DhfRefIdeal.sig) → Buf (Elt Ideal) ℓ) (g : Dev Cert.DhfRefIdeal.nD → PrngReg), Pre_DhfRefIdeal m →
    θ_run (Cert.DhfRefIdeal.defs (F := Ideal)) (onTc (τ := Cert.DhfRefIdeal.τ) (Cert.DhfRefIdeal.main (F := Ideal))) ⟨m, fun _ => 0, g⟩ (fun r => (∀ c : Dev Cert.DhfRefIdeal.nD,
      r.2.mem ((c.tc : Thread Cert.DhfRefIdeal.nD Cert.DhfRefIdeal.τ).loc Cert.DhfRefIdeal.main_arg0) = m ((c.tc : Thread Cert.DhfRefIdeal.nD Cert.DhfRefIdeal.τ).loc Cert.DhfRefIdeal.main_arg0)
      ∧ r.2.mem ((c.tc : Thread Cert.DhfRefIdeal.nD Cert.DhfRefIdeal.τ).loc Cert.DhfRefIdeal.main_arg1) = m ((c.tc : Thread Cert.DhfRefIdeal.nD Cert.DhfRefIdeal.τ).loc Cert.DhfRefIdeal.main_arg1))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_DwMain [hDwMain : Cert.DwMain.Facts] : Prop :=
  ∀ (m : (ℓ : Loc Cert.DwMain.nD Cert.DwMain.τ Cert.DwMain.sig) → Buf (Elt Bits) ℓ) (g : Dev Cert.DwMain.nD → PrngReg), Pre_DwMain m →
    θ_run (Cert.DwMain.defs (F := Bits)) (onTc (τ := Cert.DwMain.τ) (Cert.DwMain.main (F := Bits))) ⟨m, fun _ => 0, g⟩ (fun r => (∀ c : Dev Cert.DwMain.nD,
      r.2.mem ((c.tc : Thread Cert.DwMain.nD Cert.DwMain.τ).loc Cert.DwMain.main_arg0) = m ((c.tc : Thread Cert.DwMain.nD Cert.DwMain.τ).loc Cert.DwMain.main_arg0)
      ∧ r.2.mem ((c.tc : Thread Cert.DwMain.nD Cert.DwMain.τ).loc Cert.DwMain.main_arg1) = m ((c.tc : Thread Cert.DwMain.nD Cert.DwMain.τ).loc Cert.DwMain.main_arg1))
      ∧ r.2.sem = fun _ => 0)

def quiescent_DwMainIdeal [hDwMainIdeal : Cert.DwMainIdeal.Facts] : Prop :=
  ∀ (m : (ℓ : Loc Cert.DwMainIdeal.nD Cert.DwMainIdeal.τ Cert.DwMainIdeal.sig) → Buf (Elt Ideal) ℓ) (g : Dev Cert.DwMainIdeal.nD → PrngReg), Pre_DwMainIdeal m →
    θ_run (Cert.DwMainIdeal.defs (F := Ideal)) (onTc (τ := Cert.DwMainIdeal.τ) (Cert.DwMainIdeal.main (F := Ideal))) ⟨m, fun _ => 0, g⟩ (fun r => (∀ c : Dev Cert.DwMainIdeal.nD,
      r.2.mem ((c.tc : Thread Cert.DwMainIdeal.nD Cert.DwMainIdeal.τ).loc Cert.DwMainIdeal.main_arg0) = m ((c.tc : Thread Cert.DwMainIdeal.nD Cert.DwMainIdeal.τ).loc Cert.DwMainIdeal.main_arg0)
      ∧ r.2.mem ((c.tc : Thread Cert.DwMainIdeal.nD Cert.DwMainIdeal.τ).loc Cert.DwMainIdeal.main_arg1) = m ((c.tc : Thread Cert.DwMainIdeal.nD Cert.DwMainIdeal.τ).loc Cert.DwMainIdeal.main_arg1))
      ∧ r.2.sem = fun _ => 0)

def quiescent_DwMainRefIdeal [hDwMainRefIdeal : Cert.DwMainRefIdeal.Facts] : Prop :=
  ∀ (m : (ℓ : Loc Cert.DwMainRefIdeal.nD Cert.DwMainRefIdeal.τ Cert.DwMainRefIdeal.sig) → Buf (Elt Ideal) ℓ) (g : Dev Cert.DwMainRefIdeal.nD → PrngReg), Pre_DwMainRefIdeal m →
    θ_run (Cert.DwMainRefIdeal.defs (F := Ideal)) (onTc (τ := Cert.DwMainRefIdeal.τ) (Cert.DwMainRefIdeal.main (F := Ideal))) ⟨m, fun _ => 0, g⟩ (fun r => (∀ c : Dev Cert.DwMainRefIdeal.nD,
      r.2.mem ((c.tc : Thread Cert.DwMainRefIdeal.nD Cert.DwMainRefIdeal.τ).loc Cert.DwMainRefIdeal.main_arg0) = m ((c.tc : Thread Cert.DwMainRefIdeal.nD Cert.DwMainRefIdeal.τ).loc Cert.DwMainRefIdeal.main_arg0)
      ∧ r.2.mem ((c.tc : Thread Cert.DwMainRefIdeal.nD Cert.DwMainRefIdeal.τ).loc Cert.DwMainRefIdeal.main_arg1) = m ((c.tc : Thread Cert.DwMainRefIdeal.nD Cert.DwMainRefIdeal.τ).loc Cert.DwMainRefIdeal.main_arg1))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2))
      ∧ r.2.sem = fun _ => 0)

def quiescent_ORefIdeal [hORefIdeal : Cert.ORefIdeal.Facts] : Prop :=
  ∀ (m : (ℓ : Loc Cert.ORefIdeal.nD Cert.ORefIdeal.τ Cert.ORefIdeal.sig) → Buf (Elt Ideal) ℓ) (g : Dev Cert.ORefIdeal.nD → PrngReg), Pre_ORefIdeal m →
    θ_run (Cert.ORefIdeal.defs (F := Ideal)) (onTc (τ := Cert.ORefIdeal.τ) (Cert.ORefIdeal.main (F := Ideal))) ⟨m, fun _ => 0, g⟩ (fun r => (∀ c : Dev Cert.ORefIdeal.nD,
      r.2.mem ((c.tc : Thread Cert.ORefIdeal.nD Cert.ORefIdeal.τ).loc Cert.ORefIdeal.main_arg0) = m ((c.tc : Thread Cert.ORefIdeal.nD Cert.ORefIdeal.τ).loc Cert.ORefIdeal.main_arg0)
      ∧ r.2.mem ((c.tc : Thread Cert.ORefIdeal.nD Cert.ORefIdeal.τ).loc Cert.ORefIdeal.main_arg1) = m ((c.tc : Thread Cert.ORefIdeal.nD Cert.ORefIdeal.τ).loc Cert.ORefIdeal.main_arg1)
      ∧ r.2.mem ((c.tc : Thread Cert.ORefIdeal.nD Cert.ORefIdeal.τ).loc Cert.ORefIdeal.main_arg2) = m ((c.tc : Thread Cert.ORefIdeal.nD Cert.ORefIdeal.τ).loc Cert.ORefIdeal.main_arg2))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_GNorm [hGNorm : Cert.GNorm.Facts] : Prop :=
  ∀ (m : (ℓ : Loc Cert.GNorm.nD Cert.GNorm.τ Cert.GNorm.sig) → Buf (Elt Bits) ℓ) (g : Dev Cert.GNorm.nD → PrngReg), Pre_GNorm m →
    θ_run (Cert.GNorm.defs (F := Bits)) (onTc (τ := Cert.GNorm.τ) (Cert.GNorm.main (F := Bits))) ⟨m, fun _ => 0, g⟩ (fun r => (∀ c : Dev Cert.GNorm.nD,
      r.2.mem ((c.tc : Thread Cert.GNorm.nD Cert.GNorm.τ).loc Cert.GNorm.main_arg0) = m ((c.tc : Thread Cert.GNorm.nD Cert.GNorm.τ).loc Cert.GNorm.main_arg0)
      ∧ r.2.mem ((c.tc : Thread Cert.GNorm.nD Cert.GNorm.τ).loc Cert.GNorm.main_arg1) = m ((c.tc : Thread Cert.GNorm.nD Cert.GNorm.τ).loc Cert.GNorm.main_arg1)
      ∧ r.2.mem ((c.tc : Thread Cert.GNorm.nD Cert.GNorm.τ).loc Cert.GNorm.main_arg2) = m ((c.tc : Thread Cert.GNorm.nD Cert.GNorm.τ).loc Cert.GNorm.main_arg2)
      ∧ r.2.mem ((c.tc : Thread Cert.GNorm.nD Cert.GNorm.τ).loc Cert.GNorm.main_arg3) = m ((c.tc : Thread Cert.GNorm.nD Cert.GNorm.τ).loc Cert.GNorm.main_arg3))
      ∧ r.2.sem = fun _ => 0)

def quiescent_GNormIdeal [hGNormIdeal : Cert.GNormIdeal.Facts] : Prop :=
  ∀ (m : (ℓ : Loc Cert.GNormIdeal.nD Cert.GNormIdeal.τ Cert.GNormIdeal.sig) → Buf (Elt Ideal) ℓ) (g : Dev Cert.GNormIdeal.nD → PrngReg), Pre_GNormIdeal m →
    θ_run (Cert.GNormIdeal.defs (F := Ideal)) (onTc (τ := Cert.GNormIdeal.τ) (Cert.GNormIdeal.main (F := Ideal))) ⟨m, fun _ => 0, g⟩ (fun r => (∀ c : Dev Cert.GNormIdeal.nD,
      r.2.mem ((c.tc : Thread Cert.GNormIdeal.nD Cert.GNormIdeal.τ).loc Cert.GNormIdeal.main_arg0) = m ((c.tc : Thread Cert.GNormIdeal.nD Cert.GNormIdeal.τ).loc Cert.GNormIdeal.main_arg0)
      ∧ r.2.mem ((c.tc : Thread Cert.GNormIdeal.nD Cert.GNormIdeal.τ).loc Cert.GNormIdeal.main_arg1) = m ((c.tc : Thread Cert.GNormIdeal.nD Cert.GNormIdeal.τ).loc Cert.GNormIdeal.main_arg1)
      ∧ r.2.mem ((c.tc : Thread Cert.GNormIdeal.nD Cert.GNormIdeal.τ).loc Cert.GNormIdeal.main_arg2) = m ((c.tc : Thread Cert.GNormIdeal.nD Cert.GNormIdeal.τ).loc Cert.GNormIdeal.main_arg2)
      ∧ r.2.mem ((c.tc : Thread Cert.GNormIdeal.nD Cert.GNormIdeal.τ).loc Cert.GNormIdeal.main_arg3) = m ((c.tc : Thread Cert.GNormIdeal.nD Cert.GNormIdeal.τ).loc Cert.GNormIdeal.main_arg3))
      ∧ r.2.sem = fun _ => 0)

def quiescent_GNormIdeal_pre_finite_gnorm [hGNormIdeal : Cert.GNormIdeal.Facts] [hPre_finite_gnorm : Cert.Pre_finite_gnorm.Facts] : Prop :=
  ∀ (m : (ℓ : Loc Cert.GNormIdeal.nD Cert.GNormIdeal.τ Cert.GNormIdeal.sig) → Buf (Elt Ideal) ℓ) (g : Dev Cert.GNormIdeal.nD → PrngReg), Pre_GNormIdeal_finite_gnorm m →
    θ_run (Cert.GNormIdeal.defs (F := Ideal)) (onTc (τ := Cert.GNormIdeal.τ) (Cert.GNormIdeal.main (F := Ideal))) ⟨m, fun _ => 0, g⟩ (fun r => (∀ c : Dev Cert.GNormIdeal.nD,
      r.2.mem ((c.tc : Thread Cert.GNormIdeal.nD Cert.GNormIdeal.τ).loc Cert.GNormIdeal.main_arg0) = m ((c.tc : Thread Cert.GNormIdeal.nD Cert.GNormIdeal.τ).loc Cert.GNormIdeal.main_arg0)
      ∧ r.2.mem ((c.tc : Thread Cert.GNormIdeal.nD Cert.GNormIdeal.τ).loc Cert.GNormIdeal.main_arg1) = m ((c.tc : Thread Cert.GNormIdeal.nD Cert.GNormIdeal.τ).loc Cert.GNormIdeal.main_arg1)
      ∧ r.2.mem ((c.tc : Thread Cert.GNormIdeal.nD Cert.GNormIdeal.τ).loc Cert.GNormIdeal.main_arg2) = m ((c.tc : Thread Cert.GNormIdeal.nD Cert.GNormIdeal.τ).loc Cert.GNormIdeal.main_arg2)
      ∧ r.2.mem ((c.tc : Thread Cert.GNormIdeal.nD Cert.GNormIdeal.τ).loc Cert.GNormIdeal.main_arg3) = m ((c.tc : Thread Cert.GNormIdeal.nD Cert.GNormIdeal.τ).loc Cert.GNormIdeal.main_arg3))
      ∧ r.2.sem = fun _ => 0)

def quiescent_GNormRefIdeal [hGNormRefIdeal : Cert.GNormRefIdeal.Facts] : Prop :=
  ∀ (m : (ℓ : Loc Cert.GNormRefIdeal.nD Cert.GNormRefIdeal.τ Cert.GNormRefIdeal.sig) → Buf (Elt Ideal) ℓ) (g : Dev Cert.GNormRefIdeal.nD → PrngReg), Pre_GNormRefIdeal m →
    θ_run (Cert.GNormRefIdeal.defs (F := Ideal)) (onTc (τ := Cert.GNormRefIdeal.τ) (Cert.GNormRefIdeal.main (F := Ideal))) ⟨m, fun _ => 0, g⟩ (fun r => (∀ c : Dev Cert.GNormRefIdeal.nD,
      r.2.mem ((c.tc : Thread Cert.GNormRefIdeal.nD Cert.GNormRefIdeal.τ).loc Cert.GNormRefIdeal.main_arg0) = m ((c.tc : Thread Cert.GNormRefIdeal.nD Cert.GNormRefIdeal.τ).loc Cert.GNormRefIdeal.main_arg0)
      ∧ r.2.mem ((c.tc : Thread Cert.GNormRefIdeal.nD Cert.GNormRefIdeal.τ).loc Cert.GNormRefIdeal.main_arg1) = m ((c.tc : Thread Cert.GNormRefIdeal.nD Cert.GNormRefIdeal.τ).loc Cert.GNormRefIdeal.main_arg1)
      ∧ r.2.mem ((c.tc : Thread Cert.GNormRefIdeal.nD Cert.GNormRefIdeal.τ).loc Cert.GNormRefIdeal.main_arg2) = m ((c.tc : Thread Cert.GNormRefIdeal.nD Cert.GNormRefIdeal.τ).loc Cert.GNormRefIdeal.main_arg2)
      ∧ r.2.mem ((c.tc : Thread Cert.GNormRefIdeal.nD Cert.GNormRefIdeal.τ).loc Cert.GNormRefIdeal.main_arg3) = m ((c.tc : Thread Cert.GNormRefIdeal.nD Cert.GNormRefIdeal.τ).loc Cert.GNormRefIdeal.main_arg3))
      ∧ r.2.sem = fun _ => 0)

def quiescent_GNormRefIdeal_pre_finite_gnorm [hGNormRefIdeal : Cert.GNormRefIdeal.Facts] [hPre_finite_gnorm : Cert.Pre_finite_gnorm.Facts] : Prop :=
  ∀ (m : (ℓ : Loc Cert.GNormRefIdeal.nD Cert.GNormRefIdeal.τ Cert.GNormRefIdeal.sig) → Buf (Elt Ideal) ℓ) (g : Dev Cert.GNormRefIdeal.nD → PrngReg), Pre_GNormRefIdeal_finite_gnorm m →
    θ_run (Cert.GNormRefIdeal.defs (F := Ideal)) (onTc (τ := Cert.GNormRefIdeal.τ) (Cert.GNormRefIdeal.main (F := Ideal))) ⟨m, fun _ => 0, g⟩ (fun r => (∀ c : Dev Cert.GNormRefIdeal.nD,
      r.2.mem ((c.tc : Thread Cert.GNormRefIdeal.nD Cert.GNormRefIdeal.τ).loc Cert.GNormRefIdeal.main_arg0) = m ((c.tc : Thread Cert.GNormRefIdeal.nD Cert.GNormRefIdeal.τ).loc Cert.GNormRefIdeal.main_arg0)
      ∧ r.2.mem ((c.tc : Thread Cert.GNormRefIdeal.nD Cert.GNormRefIdeal.τ).loc Cert.GNormRefIdeal.main_arg1) = m ((c.tc : Thread Cert.GNormRefIdeal.nD Cert.GNormRefIdeal.τ).loc Cert.GNormRefIdeal.main_arg1)
      ∧ r.2.mem ((c.tc : Thread Cert.GNormRefIdeal.nD Cert.GNormRefIdeal.τ).loc Cert.GNormRefIdeal.main_arg2) = m ((c.tc : Thread Cert.GNormRefIdeal.nD Cert.GNormRefIdeal.τ).loc Cert.GNormRefIdeal.main_arg2)
      ∧ r.2.mem ((c.tc : Thread Cert.GNormRefIdeal.nD Cert.GNormRefIdeal.τ).loc Cert.GNormRefIdeal.main_arg3) = m ((c.tc : Thread Cert.GNormRefIdeal.nD Cert.GNormRefIdeal.τ).loc Cert.GNormRefIdeal.main_arg3))
      ∧ r.2.sem = fun _ => 0)

def quiescent_Sc [hSc : Cert.Sc.Facts] : Prop :=
  ∀ (m : (ℓ : Loc Cert.Sc.nD Cert.Sc.τ Cert.Sc.sig) → Buf (Elt Bits) ℓ) (g : Dev Cert.Sc.nD → PrngReg), Pre_Sc m →
    θ_run (Cert.Sc.defs (F := Bits)) (onTc (τ := Cert.Sc.τ) (Cert.Sc.main (F := Bits))) ⟨m, fun _ => 0, g⟩ (fun r => (∀ c : Dev Cert.Sc.nD,
      r.2.mem ((c.tc : Thread Cert.Sc.nD Cert.Sc.τ).loc Cert.Sc.main_arg0) = m ((c.tc : Thread Cert.Sc.nD Cert.Sc.τ).loc Cert.Sc.main_arg0)
      ∧ r.2.mem ((c.tc : Thread Cert.Sc.nD Cert.Sc.τ).loc Cert.Sc.main_arg1) = m ((c.tc : Thread Cert.Sc.nD Cert.Sc.τ).loc Cert.Sc.main_arg1)
      ∧ r.2.mem ((c.tc : Thread Cert.Sc.nD Cert.Sc.τ).loc Cert.Sc.main_arg2) = m ((c.tc : Thread Cert.Sc.nD Cert.Sc.τ).loc Cert.Sc.main_arg2)
      ∧ r.2.mem ((c.tc : Thread Cert.Sc.nD Cert.Sc.τ).loc Cert.Sc.main_arg3) = m ((c.tc : Thread Cert.Sc.nD Cert.Sc.τ).loc Cert.Sc.main_arg3))
      ∧ r.2.sem = fun _ => 0)

def quiescent_ScIdeal [hScIdeal : Cert.ScIdeal.Facts] : Prop :=
  ∀ (m : (ℓ : Loc Cert.ScIdeal.nD Cert.ScIdeal.τ Cert.ScIdeal.sig) → Buf (Elt Ideal) ℓ) (g : Dev Cert.ScIdeal.nD → PrngReg), Pre_ScIdeal m →
    θ_run (Cert.ScIdeal.defs (F := Ideal)) (onTc (τ := Cert.ScIdeal.τ) (Cert.ScIdeal.main (F := Ideal))) ⟨m, fun _ => 0, g⟩ (fun r => (∀ c : Dev Cert.ScIdeal.nD,
      r.2.mem ((c.tc : Thread Cert.ScIdeal.nD Cert.ScIdeal.τ).loc Cert.ScIdeal.main_arg0) = m ((c.tc : Thread Cert.ScIdeal.nD Cert.ScIdeal.τ).loc Cert.ScIdeal.main_arg0)
      ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
      ∧ r.2.mem ((c.tc : Thread Cert.ScIdeal.nD Cert.ScIdeal.τ).loc Cert.ScIdeal.main_arg2) = m ((c.tc : Thread Cert.ScIdeal.nD Cert.ScIdeal.τ).loc Cert.ScIdeal.main_arg2)
      ∧ r.2.mem ((c.tc : Thread Cert.ScIdeal.nD Cert.ScIdeal.τ).loc Cert.ScIdeal.main_arg3) = m ((c.tc : Thread Cert.ScIdeal.nD Cert.ScIdeal.τ).loc Cert.ScIdeal.main_arg3))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2)
      ∧ r.2.mem ((c.tc : Thread Cert.ScRefIdeal.nD Cert.ScRefIdeal.τ).loc Cert.ScRefIdeal.main_arg3) = m ((c.tc : Thread Cert.ScRefIdeal.nD Cert.ScRefIdeal.τ).loc Cert.ScRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v5) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Do_DoIdeal : Prop :=
  True

def algebraic_DoIdeal_DoRefIdeal [hDoIdeal : Cert.DoIdeal.Facts] [hDoRefIdeal : Cert.DoRefIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v5) = v0 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1))

def preserves_Dhx_DhxIdeal : Prop :=
  True

def algebraic_DhxIdeal_DhxRefIdeal [hDhxIdeal : Cert.DhxIdeal.Facts] [hDhxRefIdeal : Cert.DhxRefIdeal.Facts] : Prop :=
  ∀ (m : (ℓ : Loc Cert.DhxIdeal.nD Cert.DhxIdeal.τ Cert.DhxIdeal.sig) → Buf (Elt Ideal) ℓ) (g : Dev Cert.DhxIdeal.nD → PrngReg)
    (m' : (ℓ : Loc Cert.DhxRefIdeal.nD Cert.DhxRefIdeal.τ Cert.DhxRefIdeal.sig) → Buf (Elt Ideal) ℓ) (g' : Dev Cert.DhxRefIdeal.nD → PrngReg), Pre_DhxIdeal m →
    (∀ c : Dev Cert.DhxIdeal.nD,
      m' ((c.tc : Thread Cert.DhxRefIdeal.nD Cert.DhxRefIdeal.τ).loc Cert.DhxRefIdeal.main_arg0) = m ((c.tc : Thread Cert.DhxIdeal.nD Cert.DhxIdeal.τ).loc Cert.DhxIdeal.main_arg0)
      ∧ m' ((c.tc : Thread Cert.DhxRefIdeal.nD Cert.DhxRefIdeal.τ).loc Cert.DhxRefIdeal.main_arg1) = m ((c.tc : Thread Cert.DhxIdeal.nD Cert.DhxIdeal.τ).loc Cert.DhxIdeal.main_arg1)) →
    ∃ (v0 : (c : Dev Cert.DhxIdeal.nD) → Buf (Elt Ideal) ((c.tc : Thread Cert.DhxIdeal.nD Cert.DhxIdeal.τ).loc Cert.DhxIdeal.main_v0)),
      θ_run (Cert.DhxIdeal.defs (F := Ideal)) (onTc (τ := Cert.DhxIdeal.τ) (Cert.DhxIdeal.main (F := Ideal))) ⟨m, fun _ => 0, g⟩ (fun r => ∀ c : Dev Cert.DhxIdeal.nD,
          r.2.mem ((c.tc : Thread Cert.DhxIdeal.nD Cert.DhxIdeal.τ).loc Cert.DhxIdeal.main_v0) = v0 c
          ∧ r.2.mem ((c.tc : Thread Cert.DhxIdeal.nD Cert.DhxIdeal.τ).loc Cert.DhxIdeal.main_arg0) = m ((c.tc : Thread Cert.DhxIdeal.nD Cert.DhxIdeal.τ).loc Cert.DhxIdeal.main_arg0)
          ∧ r.2.mem ((c.tc : Thread Cert.DhxIdeal.nD Cert.DhxIdeal.τ).loc Cert.DhxIdeal.main_arg1) = m ((c.tc : Thread Cert.DhxIdeal.nD Cert.DhxIdeal.τ).loc Cert.DhxIdeal.main_arg1))
      ∧ θ_run (Cert.DhxRefIdeal.defs (F := Ideal)) (onTc (τ := Cert.DhxRefIdeal.τ) (Cert.DhxRefIdeal.main (F := Ideal))) ⟨m', fun _ => 0, g'⟩ (fun r => ∀ c : Dev Cert.DhxRefIdeal.nD,
          r.2.mem ((c.tc : Thread Cert.DhxRefIdeal.nD Cert.DhxRefIdeal.τ).loc Cert.DhxRefIdeal.main_v5) = v0 c
          ∧ r.2.mem ((c.tc : Thread Cert.DhxRefIdeal.nD Cert.DhxRefIdeal.τ).loc Cert.DhxRefIdeal.main_arg0) = m' ((c.tc : Thread Cert.DhxRefIdeal.nD Cert.DhxRefIdeal.τ).loc Cert.DhxRefIdeal.main_arg0)
          ∧ r.2.mem ((c.tc : Thread Cert.DhxRefIdeal.nD Cert.DhxRefIdeal.τ).loc Cert.DhxRefIdeal.main_arg1) = m' ((c.tc : Thread Cert.DhxRefIdeal.nD Cert.DhxRefIdeal.τ).loc Cert.DhxRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v6) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_DwQ_DwQIdeal : Prop :=
  True

def algebraic_DwQIdeal_DwQRefIdeal [hDwQIdeal : Cert.DwQIdeal.Facts] [hDwQRefIdeal : Cert.DwQRefIdeal.Facts] : Prop :=
  ∀ (m : (ℓ : Loc Cert.DwQIdeal.nD Cert.DwQIdeal.τ Cert.DwQIdeal.sig) → Buf (Elt Ideal) ℓ) (g : Dev Cert.DwQIdeal.nD → PrngReg)
    (m' : (ℓ : Loc Cert.DwQRefIdeal.nD Cert.DwQRefIdeal.τ Cert.DwQRefIdeal.sig) → Buf (Elt Ideal) ℓ) (g' : Dev Cert.DwQRefIdeal.nD → PrngReg), Pre_DwQIdeal m →
    (∀ c : Dev Cert.DwQIdeal.nD,
      m' ((c.tc : Thread Cert.DwQRefIdeal.nD Cert.DwQRefIdeal.τ).loc Cert.DwQRefIdeal.main_arg0) = m ((c.tc : Thread Cert.DwQIdeal.nD Cert.DwQIdeal.τ).loc Cert.DwQIdeal.main_arg0)
      ∧ m' ((c.tc : Thread Cert.DwQRefIdeal.nD Cert.DwQRefIdeal.τ).loc Cert.DwQRefIdeal.main_arg1) = m ((c.tc : Thread Cert.DwQIdeal.nD Cert.DwQIdeal.τ).loc Cert.DwQIdeal.main_arg1)) →
    ∃ (v0 : (c : Dev Cert.DwQIdeal.nD) → Buf (Elt Ideal) ((c.tc : Thread Cert.DwQIdeal.nD Cert.DwQIdeal.τ).loc Cert.DwQIdeal.main_v0)),
      θ_run (Cert.DwQIdeal.defs (F := Ideal)) (onTc (τ := Cert.DwQIdeal.τ) (Cert.DwQIdeal.main (F := Ideal))) ⟨m, fun _ => 0, g⟩ (fun r => ∀ c : Dev Cert.DwQIdeal.nD,
          r.2.mem ((c.tc : Thread Cert.DwQIdeal.nD Cert.DwQIdeal.τ).loc Cert.DwQIdeal.main_v0) = v0 c
          ∧ r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
          ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ θ_run (Cert.DwQRefIdeal.defs (F := Ideal)) (onTc (τ := Cert.DwQRefIdeal.τ) (Cert.DwQRefIdeal.main (F := Ideal))) ⟨m', fun _ => 0, g'⟩ (fun r => ∀ c : Dev Cert.DwQRefIdeal.nD,
          r.2.mem ((c.tc : Thread Cert.DwQRefIdeal.nD Cert.DwQRefIdeal.τ).loc Cert.DwQRefIdeal.main_v6) = v0 c
          ∧ r.2.mem ((c.tc : Thread Cert.DwQRefIdeal.nD Cert.DwQRefIdeal.τ).loc Cert.DwQRefIdeal.main_arg0) = m' ((c.tc : Thread Cert.DwQRefIdeal.nD Cert.DwQRefIdeal.τ).loc Cert.DwQRefIdeal.main_arg0)
          ∧ r.2.mem ((c.tc : Thread Cert.DwQRefIdeal.nD Cert.DwQRefIdeal.τ).loc Cert.DwQRefIdeal.main_arg1) = m' ((c.tc : Thread Cert.DwQRefIdeal.nD Cert.DwQRefIdeal.τ).loc Cert.DwQRefIdeal.main_arg1))

def preserves_Swiglu_SwigluIdeal : Prop :=
  True

def algebraic_SwigluIdeal_SwigluRefIdeal_pre_finite_gate [hSwigluIdeal : Cert.SwigluIdeal.Facts] [hSwigluRefIdeal : Cert.SwigluRefIdeal.Facts] [hPre_finite_gate : Cert.Pre_finite_gate.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_gate m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v10) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwGu_DwGuIdeal : Prop :=
  True

def algebraic_DwGuIdeal_DwGuRefIdeal [hDwGuIdeal : Cert.DwGuIdeal.Facts] [hDwGuRefIdeal : Cert.DwGuRefIdeal.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.DwGuRefIdeal.nD Cert.DwGuRefIdeal.τ Cert.DwGuRefIdeal.sig) → Buf (Elt Ideal) ℓ) (g' : Dev Cert.DwGuRefIdeal.nD → PrngReg), Pre_DwGuIdeal m →
    (∀ c : Dev Cert.DwGuIdeal.nD,
      m' ((c.tc : Thread Cert.DwGuRefIdeal.nD Cert.DwGuRefIdeal.τ).loc Cert.DwGuRefIdeal.main_arg0) = m ((c.tc : Thread Cert.DwGuIdeal.nD Cert.DwGuIdeal.τ).loc Cert.DwGuIdeal.main_arg0)
      ∧ m' ((c.tc : Thread Cert.DwGuRefIdeal.nD Cert.DwGuRefIdeal.τ).loc Cert.DwGuRefIdeal.main_arg1) = m ((c.tc : Thread Cert.DwGuIdeal.nD Cert.DwGuIdeal.τ).loc Cert.DwGuIdeal.main_arg1)) →
    ∃ (v0 : (c : Dev Cert.DwGuIdeal.nD) → Buf (Elt Ideal) ((c.tc : Thread Cert.DwGuIdeal.nD Cert.DwGuIdeal.τ).loc Cert.DwGuIdeal.main_v0)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v0) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ θ_run (Cert.DwGuRefIdeal.defs (F := Ideal)) (onTc (τ := Cert.DwGuRefIdeal.τ) (Cert.DwGuRefIdeal.main (F := Ideal))) ⟨m', fun _ => 0, g'⟩ (fun r => ∀ c : Dev Cert.DwGuRefIdeal.nD,
          r.2.mem ((c.tc : Thread Cert.DwGuRefIdeal.nD Cert.DwGuRefIdeal.τ).loc Cert.DwGuRefIdeal.main_v6) = v0 c
          ∧ r.2.mem ((c.tc : Thread Cert.DwGuRefIdeal.nD Cert.DwGuRefIdeal.τ).loc Cert.DwGuRefIdeal.main_arg0) = m' ((c.tc : Thread Cert.DwGuRefIdeal.nD Cert.DwGuRefIdeal.τ).loc Cert.DwGuRefIdeal.main_arg0)
          ∧ r.2.mem ((c.tc : Thread Cert.DwGuRefIdeal.nD Cert.DwGuRefIdeal.τ).loc Cert.DwGuRefIdeal.main_arg1) = m' ((c.tc : Thread Cert.DwGuRefIdeal.nD Cert.DwGuRefIdeal.τ).loc Cert.DwGuRefIdeal.main_arg1))

def preserves_Dhf_DhfIdeal : Prop :=
  True

def algebraic_DhfIdeal_DhfRefIdeal [hDhfIdeal : Cert.DhfIdeal.Facts] [hDhfRefIdeal : Cert.DhfRefIdeal.Facts] : Prop :=
  ∀ (m : (ℓ : Loc Cert.DhfIdeal.nD Cert.DhfIdeal.τ Cert.DhfIdeal.sig) → Buf (Elt Ideal) ℓ) (g : Dev Cert.DhfIdeal.nD → PrngReg)
    (m' : (ℓ : Loc Cert.DhfRefIdeal.nD Cert.DhfRefIdeal.τ Cert.DhfRefIdeal.sig) → Buf (Elt Ideal) ℓ) (g' : Dev Cert.DhfRefIdeal.nD → PrngReg), Pre_DhfIdeal m →
    (∀ c : Dev Cert.DhfIdeal.nD,
      m' ((c.tc : Thread Cert.DhfRefIdeal.nD Cert.DhfRefIdeal.τ).loc Cert.DhfRefIdeal.main_arg0) = m ((c.tc : Thread Cert.DhfIdeal.nD Cert.DhfIdeal.τ).loc Cert.DhfIdeal.main_arg0)
      ∧ m' ((c.tc : Thread Cert.DhfRefIdeal.nD Cert.DhfRefIdeal.τ).loc Cert.DhfRefIdeal.main_arg1) = m ((c.tc : Thread Cert.DhfIdeal.nD Cert.DhfIdeal.τ).loc Cert.DhfIdeal.main_arg1)) →
    ∃ (v0 : (c : Dev Cert.DhfIdeal.nD) → Buf (Elt Ideal) ((c.tc : Thread Cert.DhfIdeal.nD Cert.DhfIdeal.τ).loc Cert.DhfIdeal.main_v0)),
      θ_run (Cert.DhfIdeal.defs (F := Ideal)) (onTc (τ := Cert.DhfIdeal.τ) (Cert.DhfIdeal.main (F := Ideal))) ⟨m, fun _ => 0, g⟩ (fun r => ∀ c : Dev Cert.DhfIdeal.nD,
          r.2.mem ((c.tc : Thread Cert.DhfIdeal.nD Cert.DhfIdeal.τ).loc Cert.DhfIdeal.main_v0) = v0 c
          ∧ r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
          ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1))
      ∧ θ_run (Cert.DhfRefIdeal.defs (F := Ideal)) (onTc (τ := Cert.DhfRefIdeal.τ) (Cert.DhfRefIdeal.main (F := Ideal))) ⟨m', fun _ => 0, g'⟩ (fun r => ∀ c : Dev Cert.DhfRefIdeal.nD,
          r.2.mem ((c.tc : Thread Cert.DhfRefIdeal.nD Cert.DhfRefIdeal.τ).loc Cert.DhfRefIdeal.main_v5) = v0 c
          ∧ r.2.mem ((c.tc : Thread Cert.DhfRefIdeal.nD Cert.DhfRefIdeal.τ).loc Cert.DhfRefIdeal.main_arg0) = m' ((c.tc : Thread Cert.DhfRefIdeal.nD Cert.DhfRefIdeal.τ).loc Cert.DhfRefIdeal.main_arg0)
          ∧ r.2.mem ((c.tc : Thread Cert.DhfRefIdeal.nD Cert.DhfRefIdeal.τ).loc Cert.DhfRefIdeal.main_arg1) = m' ((c.tc : Thread Cert.DhfRefIdeal.nD Cert.DhfRefIdeal.τ).loc Cert.DhfRefIdeal.main_arg1))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v0)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v0) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v5) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_DwMain_DwMainIdeal : Prop :=
  True

def algebraic_DwMainIdeal_DwMainRefIdeal [hDwMainIdeal : Cert.DwMainIdeal.Facts] [hDwMainRefIdeal : Cert.DwMainRefIdeal.Facts] : Prop :=
  ∀ (m : (ℓ : Loc Cert.DwMainIdeal.nD Cert.DwMainIdeal.τ Cert.DwMainIdeal.sig) → Buf (Elt Ideal) ℓ) (g : Dev Cert.DwMainIdeal.nD → PrngReg)
    (m' : (ℓ : Loc Cert.DwMainRefIdeal.nD Cert.DwMainRefIdeal.τ Cert.DwMainRefIdeal.sig) → Buf (Elt Ideal) ℓ) (g' : Dev Cert.DwMainRefIdeal.nD → PrngReg), Pre_DwMainIdeal m →
    (∀ c : Dev Cert.DwMainIdeal.nD,
      m' ((c.tc : Thread Cert.DwMainRefIdeal.nD Cert.DwMainRefIdeal.τ).loc Cert.DwMainRefIdeal.main_arg0) = m ((c.tc : Thread Cert.DwMainIdeal.nD Cert.DwMainIdeal.τ).loc Cert.DwMainIdeal.main_arg0)
      ∧ m' ((c.tc : Thread Cert.DwMainRefIdeal.nD Cert.DwMainRefIdeal.τ).loc Cert.DwMainRefIdeal.main_arg1) = m ((c.tc : Thread Cert.DwMainIdeal.nD Cert.DwMainIdeal.τ).loc Cert.DwMainIdeal.main_arg1)) →
    ∃ (v0 : (c : Dev Cert.DwMainIdeal.nD) → Buf (Elt Ideal) ((c.tc : Thread Cert.DwMainIdeal.nD Cert.DwMainIdeal.τ).loc Cert.DwMainIdeal.main_v0)),
      θ_run (Cert.DwMainIdeal.defs (F := Ideal)) (onTc (τ := Cert.DwMainIdeal.τ) (Cert.DwMainIdeal.main (F := Ideal))) ⟨m, fun _ => 0, g⟩ (fun r => ∀ c : Dev Cert.DwMainIdeal.nD,
          r.2.mem ((c.tc : Thread Cert.DwMainIdeal.nD Cert.DwMainIdeal.τ).loc Cert.DwMainIdeal.main_v0) = v0 c
          ∧ r.2.mem ((c.tc : Thread Cert.DwMainIdeal.nD Cert.DwMainIdeal.τ).loc Cert.DwMainIdeal.main_arg0) = m ((c.tc : Thread Cert.DwMainIdeal.nD Cert.DwMainIdeal.τ).loc Cert.DwMainIdeal.main_arg0)
          ∧ r.2.mem ((c.tc : Thread Cert.DwMainIdeal.nD Cert.DwMainIdeal.τ).loc Cert.DwMainIdeal.main_arg1) = m ((c.tc : Thread Cert.DwMainIdeal.nD Cert.DwMainIdeal.τ).loc Cert.DwMainIdeal.main_arg1))
      ∧ θ_run (Cert.DwMainRefIdeal.defs (F := Ideal)) (onTc (τ := Cert.DwMainRefIdeal.τ) (Cert.DwMainRefIdeal.main (F := Ideal))) ⟨m', fun _ => 0, g'⟩ (fun r => ∀ c : Dev Cert.DwMainRefIdeal.nD,
          r.2.mem ((c.tc : Thread Cert.DwMainRefIdeal.nD Cert.DwMainRefIdeal.τ).loc Cert.DwMainRefIdeal.main_v6) = v0 c
          ∧ r.2.mem ((c.tc : Thread Cert.DwMainRefIdeal.nD Cert.DwMainRefIdeal.τ).loc Cert.DwMainRefIdeal.main_arg0) = m' ((c.tc : Thread Cert.DwMainRefIdeal.nD Cert.DwMainRefIdeal.τ).loc Cert.DwMainRefIdeal.main_arg0)
          ∧ r.2.mem ((c.tc : Thread Cert.DwMainRefIdeal.nD Cert.DwMainRefIdeal.τ).loc Cert.DwMainRefIdeal.main_arg1) = m' ((c.tc : Thread Cert.DwMainRefIdeal.nD Cert.DwMainRefIdeal.τ).loc Cert.DwMainRefIdeal.main_arg1))

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)) →
    ∃ (v0 : (c : Dev Cert.DhnIdeal.nD) → Buf (Elt Ideal) ((c.tc : Thread Cert.DhnIdeal.nD Cert.DhnIdeal.τ).loc Cert.DhnIdeal.main_v0)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v0) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v4) = v0 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v0)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v0) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v3) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1))

def preserves_O_OIdeal : Prop :=
  True

def algebraic_OIdeal_ORefIdeal [hOIdeal : Cert.OIdeal.Facts] [hORefIdeal : Cert.ORefIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.ORefIdeal.nD Cert.ORefIdeal.τ Cert.ORefIdeal.sig) → Buf (Elt Ideal) ℓ) (g' : Dev Cert.ORefIdeal.nD → PrngReg), Pre_OIdeal m →
    (∀ c : Dev Cert.OIdeal.nD,
      m' ((c.tc : Thread Cert.ORefIdeal.nD Cert.ORefIdeal.τ).loc Cert.ORefIdeal.main_arg0) = m ((c.tc : Thread Cert.OIdeal.nD Cert.OIdeal.τ).loc Cert.OIdeal.main_arg0)
      ∧ m' ((c.tc : Thread Cert.ORefIdeal.nD Cert.ORefIdeal.τ).loc Cert.ORefIdeal.main_arg1) = m ((c.tc : Thread Cert.OIdeal.nD Cert.OIdeal.τ).loc Cert.OIdeal.main_arg1)
      ∧ m' ((c.tc : Thread Cert.ORefIdeal.nD Cert.ORefIdeal.τ).loc Cert.ORefIdeal.main_arg2) = m ((c.tc : Thread Cert.OIdeal.nD Cert.OIdeal.τ).loc Cert.OIdeal.main_arg2)) →
    ∃ (v0 : (c : Dev Cert.OIdeal.nD) → Buf (Elt Ideal) ((c.tc : Thread Cert.OIdeal.nD Cert.OIdeal.τ).loc Cert.OIdeal.main_v0)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v0) = v0 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2))
      ∧ θ_run (Cert.ORefIdeal.defs (F := Ideal)) (onTc (τ := Cert.ORefIdeal.τ) (Cert.ORefIdeal.main (F := Ideal))) ⟨m', fun _ => 0, g'⟩ (fun r => ∀ c : Dev Cert.ORefIdeal.nD,
          r.2.mem ((c.tc : Thread Cert.ORefIdeal.nD Cert.ORefIdeal.τ).loc Cert.ORefIdeal.main_v3) = v0 c
          ∧ r.2.mem ((c.tc : Thread Cert.ORefIdeal.nD Cert.ORefIdeal.τ).loc Cert.ORefIdeal.main_arg0) = m' ((c.tc : Thread Cert.ORefIdeal.nD Cert.ORefIdeal.τ).loc Cert.ORefIdeal.main_arg0)
          ∧ r.2.mem ((c.tc : Thread Cert.ORefIdeal.nD Cert.ORefIdeal.τ).loc Cert.ORefIdeal.main_arg1) = m' ((c.tc : Thread Cert.ORefIdeal.nD Cert.ORefIdeal.τ).loc Cert.ORefIdeal.main_arg1)
          ∧ r.2.mem ((c.tc : Thread Cert.ORefIdeal.nD Cert.ORefIdeal.τ).loc Cert.ORefIdeal.main_arg2) = m' ((c.tc : Thread Cert.ORefIdeal.nD Cert.ORefIdeal.τ).loc Cert.ORefIdeal.main_arg2))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)) →
    ∃ (v0 : (c : Dev Cert.GuIdeal.nD) → Buf (Elt Ideal) ((c.tc : Thread Cert.GuIdeal.nD Cert.GuIdeal.τ).loc Cert.GuIdeal.main_v0)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v3) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_v18) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_GNorm_GNormIdeal : Prop :=
  True

def algebraic_GNormIdeal_GNormRefIdeal_pre_finite_gnorm [hGNormIdeal : Cert.GNormIdeal.Facts] [hGNormRefIdeal : Cert.GNormRefIdeal.Facts] [hPre_finite_gnorm : Cert.Pre_finite_gnorm.Facts] : Prop :=
  ∀ (m : (ℓ : Loc Cert.GNormIdeal.nD Cert.GNormIdeal.τ Cert.GNormIdeal.sig) → Buf (Elt Ideal) ℓ) (g : Dev Cert.GNormIdeal.nD → PrngReg)
    (m' : (ℓ : Loc Cert.GNormRefIdeal.nD Cert.GNormRefIdeal.τ Cert.GNormRefIdeal.sig) → Buf (Elt Ideal) ℓ) (g' : Dev Cert.GNormRefIdeal.nD → PrngReg), Pre_GNormIdeal_finite_gnorm m →
    (∀ c : Dev Cert.GNormIdeal.nD,
      m' ((c.tc : Thread Cert.GNormRefIdeal.nD Cert.GNormRefIdeal.τ).loc Cert.GNormRefIdeal.main_arg0) = m ((c.tc : Thread Cert.GNormIdeal.nD Cert.GNormIdeal.τ).loc Cert.GNormIdeal.main_arg0)
      ∧ m' ((c.tc : Thread Cert.GNormRefIdeal.nD Cert.GNormRefIdeal.τ).loc Cert.GNormRefIdeal.main_arg1) = m ((c.tc : Thread Cert.GNormIdeal.nD Cert.GNormIdeal.τ).loc Cert.GNormIdeal.main_arg1)
      ∧ m' ((c.tc : Thread Cert.GNormRefIdeal.nD Cert.GNormRefIdeal.τ).loc Cert.GNormRefIdeal.main_arg2) = m ((c.tc : Thread Cert.GNormIdeal.nD Cert.GNormIdeal.τ).loc Cert.GNormIdeal.main_arg2)
      ∧ m' ((c.tc : Thread Cert.GNormRefIdeal.nD Cert.GNormRefIdeal.τ).loc Cert.GNormRefIdeal.main_arg3) = m ((c.tc : Thread Cert.GNormIdeal.nD Cert.GNormIdeal.τ).loc Cert.GNormIdeal.main_arg3)) →
    ∃ (v0 : (c : Dev Cert.GNormIdeal.nD) → Buf (Elt Ideal) ((c.tc : Thread Cert.GNormIdeal.nD Cert.GNormIdeal.τ).loc Cert.GNormIdeal.main_v0_0)) (v1 : (c : Dev Cert.GNormIdeal.nD) → Buf (Elt Ideal) ((c.tc : Thread Cert.GNormIdeal.nD Cert.GNormIdeal.τ).loc Cert.GNormIdeal.main_v0_1)) (v2 : (c : Dev Cert.GNormIdeal.nD) → Buf (Elt Ideal) ((c.tc : Thread Cert.GNormIdeal.nD Cert.GNormIdeal.τ).loc Cert.GNormIdeal.main_v0_2)),
      θ_run (Cert.GNormIdeal.defs (F := Ideal)) (onTc (τ := Cert.GNormIdeal.τ) (Cert.GNormIdeal.main (F := Ideal))) ⟨m, fun _ => 0, g⟩ (fun r => ∀ c : Dev Cert.GNormIdeal.nD,
          r.2.mem ((c.tc : Thread Cert.GNormIdeal.nD Cert.GNormIdeal.τ).loc Cert.GNormIdeal.main_v0_0) = v0 c
          ∧ r.2.mem ((c.tc : Thread Cert.GNormIdeal.nD Cert.GNormIdeal.τ).loc Cert.GNormIdeal.main_v0_1) = v1 c
          ∧ r.2.mem ((c.tc : Thread Cert.GNormIdeal.nD Cert.GNormIdeal.τ).loc Cert.GNormIdeal.main_v0_2) = v2 c
          ∧ r.2.mem ((c.tc : Thread Cert.GNormIdeal.nD Cert.GNormIdeal.τ).loc Cert.GNormIdeal.main_arg0) = m ((c.tc : Thread Cert.GNormIdeal.nD Cert.GNormIdeal.τ).loc Cert.GNormIdeal.main_arg0)
          ∧ r.2.mem ((c.tc : Thread Cert.GNormIdeal.nD Cert.GNormIdeal.τ).loc Cert.GNormIdeal.main_arg1) = m ((c.tc : Thread Cert.GNormIdeal.nD Cert.GNormIdeal.τ).loc Cert.GNormIdeal.main_arg1)
          ∧ r.2.mem ((c.tc : Thread Cert.GNormIdeal.nD Cert.GNormIdeal.τ).loc Cert.GNormIdeal.main_arg2) = m ((c.tc : Thread Cert.GNormIdeal.nD Cert.GNormIdeal.τ).loc Cert.GNormIdeal.main_arg2)
          ∧ r.2.mem ((c.tc : Thread Cert.GNormIdeal.nD Cert.GNormIdeal.τ).loc Cert.GNormIdeal.main_arg3) = m ((c.tc : Thread Cert.GNormIdeal.nD Cert.GNormIdeal.τ).loc Cert.GNormIdeal.main_arg3))
      ∧ θ_run (Cert.GNormRefIdeal.defs (F := Ideal)) (onTc (τ := Cert.GNormRefIdeal.τ) (Cert.GNormRefIdeal.main (F := Ideal))) ⟨m', fun _ => 0, g'⟩ (fun r => ∀ c : Dev Cert.GNormRefIdeal.nD,
          r.2.mem ((c.tc : Thread Cert.GNormRefIdeal.nD Cert.GNormRefIdeal.τ).loc Cert.GNormRefIdeal.main_v47) = v0 c
          ∧ r.2.mem ((c.tc : Thread Cert.GNormRefIdeal.nD Cert.GNormRefIdeal.τ).loc Cert.GNormRefIdeal.main_v49) = v1 c
          ∧ r.2.mem ((c.tc : Thread Cert.GNormRefIdeal.nD Cert.GNormRefIdeal.τ).loc Cert.GNormRefIdeal.main_v50) = v2 c
          ∧ r.2.mem ((c.tc : Thread Cert.GNormRefIdeal.nD Cert.GNormRefIdeal.τ).loc Cert.GNormRefIdeal.main_arg0) = m' ((c.tc : Thread Cert.GNormRefIdeal.nD Cert.GNormRefIdeal.τ).loc Cert.GNormRefIdeal.main_arg0)
          ∧ r.2.mem ((c.tc : Thread Cert.GNormRefIdeal.nD Cert.GNormRefIdeal.τ).loc Cert.GNormRefIdeal.main_arg1) = m' ((c.tc : Thread Cert.GNormRefIdeal.nD Cert.GNormRefIdeal.τ).loc Cert.GNormRefIdeal.main_arg1)
          ∧ r.2.mem ((c.tc : Thread Cert.GNormRefIdeal.nD Cert.GNormRefIdeal.τ).loc Cert.GNormRefIdeal.main_arg2) = m' ((c.tc : Thread Cert.GNormRefIdeal.nD Cert.GNormRefIdeal.τ).loc Cert.GNormRefIdeal.main_arg2)
          ∧ r.2.mem ((c.tc : Thread Cert.GNormRefIdeal.nD Cert.GNormRefIdeal.τ).loc Cert.GNormRefIdeal.main_arg3) = m' ((c.tc : Thread Cert.GNormRefIdeal.nD Cert.GNormRefIdeal.τ).loc Cert.GNormRefIdeal.main_arg3))

def preserves_Sc_ScIdeal : Prop :=
  True

def algebraic_ScIdeal_ScRefIdeal [hScIdeal : Cert.ScIdeal.Facts] [hScRefIdeal : Cert.ScRefIdeal.Facts] : Prop :=
  ∀ (m : (ℓ : Loc Cert.ScIdeal.nD Cert.ScIdeal.τ Cert.ScIdeal.sig) → Buf (Elt Ideal) ℓ) (g : Dev Cert.ScIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScIdeal m →
    (∀ c : Dev Cert.ScIdeal.nD,
      m' ((c.tc : Thread Cert.ScRefIdeal.nD Cert.ScRefIdeal.τ).loc Cert.ScRefIdeal.main_arg0) = m ((c.tc : Thread Cert.ScIdeal.nD Cert.ScIdeal.τ).loc Cert.ScIdeal.main_arg0)
      ∧ m' ((c.tc : Thread Cert.ScRefIdeal.nD Cert.ScRefIdeal.τ).loc Cert.ScRefIdeal.main_arg1) = m ((c.tc : Thread Cert.ScIdeal.nD Cert.ScIdeal.τ).loc Cert.ScIdeal.main_arg1)
      ∧ m' ((c.tc : Thread Cert.ScRefIdeal.nD Cert.ScRefIdeal.τ).loc Cert.ScRefIdeal.main_arg2) = m ((c.tc : Thread Cert.ScIdeal.nD Cert.ScIdeal.τ).loc Cert.ScIdeal.main_arg2)
      ∧ m' ((c.tc : Thread Cert.ScRefIdeal.nD Cert.ScRefIdeal.τ).loc Cert.ScRefIdeal.main_arg3) = m ((c.tc : Thread Cert.ScIdeal.nD Cert.ScIdeal.τ).loc Cert.ScIdeal.main_arg3)) →
    ∃ (v0 : (c : Dev Cert.ScIdeal.nD) → Buf (Elt Ideal) ((c.tc : Thread Cert.ScIdeal.nD Cert.ScIdeal.τ).loc Cert.ScIdeal.main_v0_0)) (v1 : (c : Dev Cert.ScIdeal.nD) → Buf (Elt Ideal) ((c.tc : Thread Cert.ScIdeal.nD Cert.ScIdeal.τ).loc Cert.ScIdeal.main_v0_1)) (v2 : (c : Dev Cert.ScIdeal.nD) → Buf (Elt Ideal) ((c.tc : Thread Cert.ScIdeal.nD Cert.ScIdeal.τ).loc Cert.ScIdeal.main_v0_2)) (v3 : (c : Dev Cert.ScIdeal.nD) → Buf (Elt Ideal) ((c.tc : Thread Cert.ScIdeal.nD Cert.ScIdeal.τ).loc Cert.ScIdeal.main_v0_3)) (v4 : (c : Dev Cert.ScIdeal.nD) → Buf (Elt Ideal) ((c.tc : Thread Cert.ScIdeal.nD Cert.ScIdeal.τ).loc Cert.ScIdeal.main_v0_4)),
      θ_run (Cert.ScIdeal.defs (F := Ideal)) (onTc (τ := Cert.ScIdeal.τ) (Cert.ScIdeal.main (F := Ideal))) ⟨m, fun _ => 0, g⟩ (fun r => ∀ c : Dev Cert.ScIdeal.nD,
          r.2.mem ((c.tc : Thread Cert.ScIdeal.nD Cert.ScIdeal.τ).loc Cert.ScIdeal.main_v0_0) = v0 c
          ∧ r.2.mem ((c.tc : Thread Cert.ScIdeal.nD Cert.ScIdeal.τ).loc Cert.ScIdeal.main_v0_1) = v1 c
          ∧ r.2.mem ((c.tc : Thread Cert.ScIdeal.nD Cert.ScIdeal.τ).loc Cert.ScIdeal.main_v0_2) = v2 c
          ∧ r.2.mem ((c.tc : Thread Cert.ScIdeal.nD Cert.ScIdeal.τ).loc Cert.ScIdeal.main_v0_3) = v3 c
          ∧ r.2.mem ((c.tc : Thread Cert.ScIdeal.nD Cert.ScIdeal.τ).loc Cert.ScIdeal.main_v0_4) = v4 c
          ∧ r.2.mem ((c.tc : Thread Cert.ScIdeal.nD Cert.ScIdeal.τ).loc Cert.ScIdeal.main_arg0) = m ((c.tc : Thread Cert.ScIdeal.nD Cert.ScIdeal.τ).loc Cert.ScIdeal.main_arg0)
          ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
          ∧ r.2.mem ((c.tc : Thread Cert.ScIdeal.nD Cert.ScIdeal.τ).loc Cert.ScIdeal.main_arg2) = m ((c.tc : Thread Cert.ScIdeal.nD Cert.ScIdeal.τ).loc Cert.ScIdeal.main_arg2)
          ∧ r.2.mem ((c.tc : Thread Cert.ScIdeal.nD Cert.ScIdeal.τ).loc Cert.ScIdeal.main_arg3) = m ((c.tc : Thread Cert.ScIdeal.nD Cert.ScIdeal.τ).loc Cert.ScIdeal.main_arg3))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v113) = v0 c
          ∧ r.2.mem ((c.tc : Thread Cert.ScRefIdeal.nD Cert.ScRefIdeal.τ).loc Cert.ScRefIdeal.main_v114) = v1 c
          ∧ r.2.mem ((c.tc : Thread Cert.ScRefIdeal.nD Cert.ScRefIdeal.τ).loc Cert.ScRefIdeal.main_v115) = v2 c
          ∧ r.2.mem ((c.tc : Thread Cert.ScRefIdeal.nD Cert.ScRefIdeal.τ).loc Cert.ScRefIdeal.main_v116) = v3 c
          ∧ r.2.mem ((c.tc : Thread Cert.ScRefIdeal.nD Cert.ScRefIdeal.τ).loc Cert.ScRefIdeal.main_v117) = v4 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1)
          ∧ r.2.mem ((c.tc : Thread Cert.ScRefIdeal.nD Cert.ScRefIdeal.τ).loc Cert.ScRefIdeal.main_arg2) = m' ((c.tc : Thread Cert.ScRefIdeal.nD Cert.ScRefIdeal.τ).loc Cert.ScRefIdeal.main_arg2)
          ∧ r.2.mem ((c.tc : Thread Cert.ScRefIdeal.nD Cert.ScRefIdeal.τ).loc Cert.ScRefIdeal.main_arg3) = m' ((c.tc : Thread Cert.ScRefIdeal.nD Cert.ScRefIdeal.τ).loc Cert.ScRefIdeal.main_arg3))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hDo : Cert.Do.Facts) (hDoIdeal : Cert.DoIdeal.Facts) (hDoRefIdeal : Cert.DoRefIdeal.Facts) (hDhx : Cert.Dhx.Facts) (hDhxIdeal : Cert.DhxIdeal.Facts) (hDhxRefIdeal : Cert.DhxRefIdeal.Facts) (hDwOut : Cert.DwOut.Facts) (hDwOutIdeal : Cert.DwOutIdeal.Facts) (hDwOutRefIdeal : Cert.DwOutRefIdeal.Facts) (hDwO : Cert.DwO.Facts) (hDwOIdeal : Cert.DwOIdeal.Facts) (hDwORefIdeal : Cert.DwORefIdeal.Facts) (hDwQ : Cert.DwQ.Facts) (hDwQIdeal : Cert.DwQIdeal.Facts) (hDwQRefIdeal : Cert.DwQRefIdeal.Facts) (hSwiglu : Cert.Swiglu.Facts) (hSwigluIdeal : Cert.SwigluIdeal.Facts) (hSwigluRefIdeal : Cert.SwigluRefIdeal.Facts) (hDwDown : Cert.DwDown.Facts) (hDwDownIdeal : Cert.DwDownIdeal.Facts) (hDwDownRefIdeal : Cert.DwDownRefIdeal.Facts) (hDwGu : Cert.DwGu.Facts) (hDwGuIdeal : Cert.DwGuIdeal.Facts) (hDwGuRefIdeal : Cert.DwGuRefIdeal.Facts) (hDhf : Cert.Dhf.Facts) (hDhfIdeal : Cert.DhfIdeal.Facts) (hDhfRefIdeal : Cert.DhfRefIdeal.Facts) (hDcat : Cert.Dcat.Facts) (hDcatIdeal : Cert.DcatIdeal.Facts) (hDcatRefIdeal : Cert.DcatRefIdeal.Facts) (hDwMain : Cert.DwMain.Facts) (hDwMainIdeal : Cert.DwMainIdeal.Facts) (hDwMainRefIdeal : Cert.DwMainRefIdeal.Facts) (hDhn : Cert.Dhn.Facts) (hDhnIdeal : Cert.DhnIdeal.Facts) (hDhnRefIdeal : Cert.DhnRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hQ : Cert.Q.Facts) (hQIdeal : Cert.QIdeal.Facts) (hQRefIdeal : Cert.QRefIdeal.Facts) (hO : Cert.O.Facts) (hOIdeal : Cert.OIdeal.Facts) (hORefIdeal : Cert.ORefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hGNorm : Cert.GNorm.Facts) (hGNormIdeal : Cert.GNormIdeal.Facts) (hGNormRefIdeal : Cert.GNormRefIdeal.Facts) (hSc : Cert.Sc.Facts) (hScIdeal : Cert.ScIdeal.Facts) (hScRefIdeal : Cert.ScRefIdeal.Facts) (hPre_finite : Cert.Pre_finite.Facts) (hPre_finite_gate : Cert.Pre_finite_gate.Facts) (hPre_finite_gnorm : Cert.Pre_finite_gnorm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactRefIdeal (hDactRefIdeal := hDactRefIdeal)
    ∧ quiescent_Do (hDo := hDo)
    ∧ quiescent_DoIdeal (hDoIdeal := hDoIdeal)
    ∧ quiescent_DoRefIdeal (hDoRefIdeal := hDoRefIdeal)
    ∧ quiescent_Dhx (hDhx := hDhx)
    ∧ quiescent_DhxIdeal (hDhxIdeal := hDhxIdeal)
    ∧ quiescent_DhxRefIdeal (hDhxRefIdeal := hDhxRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwO (hDwO := hDwO)
    ∧ quiescent_DwOIdeal (hDwOIdeal := hDwOIdeal)
    ∧ quiescent_DwORefIdeal (hDwORefIdeal := hDwORefIdeal)
    ∧ quiescent_DwQ (hDwQ := hDwQ)
    ∧ quiescent_DwQIdeal (hDwQIdeal := hDwQIdeal)
    ∧ quiescent_DwQRefIdeal (hDwQRefIdeal := hDwQRefIdeal)
    ∧ quiescent_Swiglu (hSwiglu := hSwiglu)
    ∧ quiescent_SwigluIdeal (hSwigluIdeal := hSwigluIdeal)
    ∧ quiescent_SwigluIdeal_pre_finite_gate (hSwigluIdeal := hSwigluIdeal) (hPre_finite_gate := hPre_finite_gate)
    ∧ quiescent_SwigluRefIdeal (hSwigluRefIdeal := hSwigluRefIdeal)
    ∧ quiescent_SwigluRefIdeal_pre_finite_gate (hSwigluRefIdeal := hSwigluRefIdeal) (hPre_finite_gate := hPre_finite_gate)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwGu (hDwGu := hDwGu)
    ∧ quiescent_DwGuIdeal (hDwGuIdeal := hDwGuIdeal)
    ∧ quiescent_DwGuRefIdeal (hDwGuRefIdeal := hDwGuRefIdeal)
    ∧ quiescent_Dhf (hDhf := hDhf)
    ∧ quiescent_DhfIdeal (hDhfIdeal := hDhfIdeal)
    ∧ quiescent_DhfRefIdeal (hDhfRefIdeal := hDhfRefIdeal)
    ∧ quiescent_Dcat (hDcat := hDcat)
    ∧ quiescent_DcatIdeal (hDcatIdeal := hDcatIdeal)
    ∧ quiescent_DcatRefIdeal (hDcatRefIdeal := hDcatRefIdeal)
    ∧ quiescent_DwMain (hDwMain := hDwMain)
    ∧ quiescent_DwMainIdeal (hDwMainIdeal := hDwMainIdeal)
    ∧ quiescent_DwMainRefIdeal (hDwMainRefIdeal := hDwMainRefIdeal)
    ∧ quiescent_Dhn (hDhn := hDhn)
    ∧ quiescent_DhnIdeal (hDhnIdeal := hDhnIdeal)
    ∧ quiescent_DhnRefIdeal (hDhnRefIdeal := hDhnRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Q (hQ := hQ)
    ∧ quiescent_QIdeal (hQIdeal := hQIdeal)
    ∧ quiescent_QRefIdeal (hQRefIdeal := hQRefIdeal)
    ∧ quiescent_O (hO := hO)
    ∧ quiescent_OIdeal (hOIdeal := hOIdeal)
    ∧ quiescent_ORefIdeal (hORefIdeal := hORefIdeal)
    ∧ quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_GNorm (hGNorm := hGNorm)
    ∧ quiescent_GNormIdeal (hGNormIdeal := hGNormIdeal)
    ∧ quiescent_GNormIdeal_pre_finite_gnorm (hGNormIdeal := hGNormIdeal) (hPre_finite_gnorm := hPre_finite_gnorm)
    ∧ quiescent_GNormRefIdeal (hGNormRefIdeal := hGNormRefIdeal)
    ∧ quiescent_GNormRefIdeal_pre_finite_gnorm (hGNormRefIdeal := hGNormRefIdeal) (hPre_finite_gnorm := hPre_finite_gnorm)
    ∧ quiescent_Sc (hSc := hSc)
    ∧ quiescent_ScIdeal (hScIdeal := hScIdeal)
    ∧ quiescent_ScRefIdeal (hScRefIdeal := hScRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactRefIdeal (hDactIdeal := hDactIdeal) (hDactRefIdeal := hDactRefIdeal)
    ∧ preserves_Do_DoIdeal
    ∧ algebraic_DoIdeal_DoRefIdeal (hDoIdeal := hDoIdeal) (hDoRefIdeal := hDoRefIdeal)
    ∧ preserves_Dhx_DhxIdeal
    ∧ algebraic_DhxIdeal_DhxRefIdeal (hDhxIdeal := hDhxIdeal) (hDhxRefIdeal := hDhxRefIdeal)
    ∧ preserves_DwOut_DwOutIdeal
    ∧ algebraic_DwOutIdeal_DwOutRefIdeal (hDwOutIdeal := hDwOutIdeal) (hDwOutRefIdeal := hDwOutRefIdeal)
    ∧ preserves_DwO_DwOIdeal
    ∧ algebraic_DwOIdeal_DwORefIdeal (hDwOIdeal := hDwOIdeal) (hDwORefIdeal := hDwORefIdeal)
    ∧ preserves_DwQ_DwQIdeal
    ∧ algebraic_DwQIdeal_DwQRefIdeal (hDwQIdeal := hDwQIdeal) (hDwQRefIdeal := hDwQRefIdeal)
    ∧ preserves_Swiglu_SwigluIdeal
    ∧ algebraic_SwigluIdeal_SwigluRefIdeal_pre_finite_gate (hSwigluIdeal := hSwigluIdeal) (hSwigluRefIdeal := hSwigluRefIdeal) (hPre_finite_gate := hPre_finite_gate)
    ∧ preserves_DwDown_DwDownIdeal
    ∧ algebraic_DwDownIdeal_DwDownRefIdeal (hDwDownIdeal := hDwDownIdeal) (hDwDownRefIdeal := hDwDownRefIdeal)
    ∧ preserves_DwGu_DwGuIdeal
    ∧ algebraic_DwGuIdeal_DwGuRefIdeal (hDwGuIdeal := hDwGuIdeal) (hDwGuRefIdeal := hDwGuRefIdeal)
    ∧ preserves_Dhf_DhfIdeal
    ∧ algebraic_DhfIdeal_DhfRefIdeal (hDhfIdeal := hDhfIdeal) (hDhfRefIdeal := hDhfRefIdeal)
    ∧ preserves_Dcat_DcatIdeal
    ∧ algebraic_DcatIdeal_DcatRefIdeal (hDcatIdeal := hDcatIdeal) (hDcatRefIdeal := hDcatRefIdeal)
    ∧ preserves_DwMain_DwMainIdeal
    ∧ algebraic_DwMainIdeal_DwMainRefIdeal (hDwMainIdeal := hDwMainIdeal) (hDwMainRefIdeal := hDwMainRefIdeal)
    ∧ preserves_Dhn_DhnIdeal
    ∧ algebraic_DhnIdeal_DhnRefIdeal (hDhnIdeal := hDhnIdeal) (hDhnRefIdeal := hDhnRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Q_QIdeal
    ∧ algebraic_QIdeal_QRefIdeal (hQIdeal := hQIdeal) (hQRefIdeal := hQRefIdeal)
    ∧ preserves_O_OIdeal
    ∧ algebraic_OIdeal_ORefIdeal (hOIdeal := hOIdeal) (hORefIdeal := hORefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_GNorm_GNormIdeal
    ∧ algebraic_GNormIdeal_GNormRefIdeal_pre_finite_gnorm (hGNormIdeal := hGNormIdeal) (hGNormRefIdeal := hGNormRefIdeal) (hPre_finite_gnorm := hPre_finite_gnorm)
    ∧ preserves_Sc_ScIdeal
    ∧ algebraic_ScIdeal_ScRefIdeal (hScIdeal := hScIdeal) (hScRefIdeal := hScRefIdeal)
-- ==== Pre_finite.lean ====
abbrev S8192x512 : Shape := ⟨2, ![8192, 512]⟩
abbrev S256x512 : Shape := ⟨2, ![256, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x512 .bf16) (main_arg1 : FVec F S256x512 .bf16) (main_arg2 : FVec F S256x512 .bf16) (main_arg3 : FVec F S8192x512 .bf16) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== Pre_finite_gate.lean ====
abbrev S8192x11264 : Shape := ⟨2, ![8192, 11264]⟩
abbrev S8192x5632 : Shape := ⟨2, ![8192, 5632]⟩
abbrev S_ : Shape := ⟨0, ![]⟩

class Facts : Prop where
  slices_S8192x11264_S8192x5632_0_5632 : S8192x11264.Slices ![0, 5632] S8192x5632
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel

variable [Facts]

def fn {F : FTy → Type} [FloatOps F] (main_arg0 : FVec F S8192x11264 .bf16) (main_arg1 : FVec F S8192x5632 .bf16) : IVec S_ 1 :=
  let main_v0 : FVec F S8192x5632 .bf16 := (extractStridedSlice S8192x5632 ![0, 5632] · slices_S8192x11264_S8192x5632_0_5632) main_arg0
  let main_v1 : FVec F S8192x5632 .f32 := (extf .f32 · bitsLt_bf16_f32) main_v0
  let main_v2 : FVec F S8192x5632 .f32 := Host.absf main_v1
  let main_cst : FVec F S_ .f32 := constant S_ .f32 0x7F800000#32
  let main_v3 : FVec F S8192x5632 .f32 := broadcastInDim S8192x5632 ![] bcast_S_S8192x5632 main_cst
  let main_v4 : IVec S8192x5632 1 := cmpf .olt main_v2 main_v3
  let main_c : IVec S_ 1 := constantI S_ 1 1#1
  let main_v5 : IVec S_ 1 := (fun x v => Host.reduce IntOp.andi x v reducesTo_S8192x5632_S_d0_1 h_S_) main_v4 main_c
  let main_v6 : FVec F S8192x5632 .f32 := (extf .f32 · bitsLt_bf16_f32) main_arg1
  let main_v7 : FVec F S8192x5632 .f32 := Host.absf main_v6
  let main_cst_0 : FVec F S_ .f32 := constant S_ .f32 0x7F800000#32
  let main_v8 : FVec F S8192x5632 .f32 := broadcastInDim S8192x5632 ![] bcast_S_S8192x5632 main_cst_0
  let main_v9 : IVec S8192x5632 1 := cmpf .olt main_v7 main_v8
  let main_c_1 : IVec S_ 1 := constantI S_ 1 1#1
  let main_v10 : IVec S_ 1 := (fun x v => Host.reduce IntOp.andi x v reducesTo_S8192x5632_S_d0_1 h_S_) main_v9 main_c_1
  let main_v11 : IVec S_ 1 := andi main_v5 main_v10
  main_v11
-- ==== Pre_finite_gnorm.lean ====
abbrev S8192x2048 : Shape := ⟨2, ![8192, 2048]⟩
abbrev S8192x11264 : Shape := ⟨2, ![8192, 11264]⟩
abbrev S8192x4096 : Shape := ⟨2, ![8192, 4096]⟩
abbrev S1x2048 : Shape := ⟨2, ![1, 2048]⟩
abbrev S_ : Shape := ⟨0, ![]⟩

class Facts : Prop where
  slices_S8192x4096_S8192x2048_0_0 : S8192x4096.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S8192x2048 .f32) (main_arg1 : FVec F S8192x11264 .f32) (main_arg2 : FVec F S8192x4096 .bf16) (main_arg3 : FVec F S1x2048 .f32) : IVec S_ 1 :=
  let main_v0 : FVec F S8192x2048 .bf16 := (extractStridedSlice S8192x2048 ![0, 0] · slices_S8192x4096_S8192x2048_0_0) main_arg2
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S1x2048 .f32 := Host.absf main_arg3
  let main_cst_0 : FVec F S_ .f32 := constant S_ .f32 0x7F800000#32
  let main_v7 : FVec F S1x2048 .f32 := broadcastInDim S1x2048 ![] bcast_S_S1x2048 main_cst_0
  let main_v8 : IVec S1x2048 1 := cmpf .olt main_v6 main_v7
  let main_c_1 : IVec S_ 1 := constantI S_ 1 1#1
  let main_v9 : IVec S_ 1 := (fun x v => Host.reduce IntOp.andi x v reducesTo_S1x2048_S_d0_1 h_S_) main_v8 main_c_1
  let main_v10 : IVec S_ 1 := andi main_v5 main_v9
  main_v10
-- ==== Kernel.lean ====
abbrev S8192x512 : Shape := ⟨2, ![8192, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S256x512, .bf16⟩
  | .hbm, ⟨2, _⟩ => ⟨S256x512, .bf16⟩
  | .hbm, ⟨3, _⟩ => ⟨S8192x512, .bf16⟩
  | .hbm, ⟨4, _⟩ => ⟨S8192x512, .bf16⟩
  | .hbm, ⟨5, _⟩ => ⟨S256x512, .f32⟩
  | .hbm, ⟨6, _⟩ => ⟨S256x512, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S256x512, .f32⟩
  | .local _ .vmem, ⟨9, _⟩ => ⟨S256x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v125 : BitVec 1 := Scalar.cmpi .eq arg0 c0_i32
  let v126 : BitVec 32 := Scalar.extui v125
  let c0_i32_69 : BitVec 32 := 0#32
  let v127 : BitVec 1 := Scalar.cmpi .ne v126 c0_i32_69
  v127

def k0_cond2 (i : grid0.Coords) : BitVec 1 :=
  let arg0 : BitVec 32 := BitVec.ofNat 32 (i 0).val
  let c0_i32_70 : BitVec 32 := 0#32
  let v128 : BitVec 1 := Scalar.cmpi .sgt arg0 c0_i32_70
  let v129 : BitVec 32 := Scalar.extui v128
  let c0_i32_71 : BitVec 32 := 0#32
  let v130 : BitVec 1 := Scalar.cmpi .ne v129 c0_i32_71
  v130

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 90
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S256x512, .bf16⟩
  | .hbm, ⟨2, _⟩ => ⟨S256x512, .bf16⟩
  | .hbm, ⟨3, _⟩ => ⟨S8192x512, .bf16⟩
  | .hbm, ⟨4, _⟩ => ⟨S8192x512, .f32⟩
  | .hbm, ⟨5, _⟩ => ⟨S8192x4x128, .f32⟩
  | .hbm, ⟨6, _⟩ => ⟨S256x512, .f32⟩
  | .hbm, ⟨7, _⟩ => ⟨S256x4x128, .f32⟩
  | .hbm, ⟨8, _⟩ => ⟨S256x512, .f32⟩
  | .hbm, ⟨9, _⟩ => ⟨S256x4x128, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x128x8192, .f32⟩
  | .hbm, ⟨53, _⟩ => ⟨S8192x4x128, .f32⟩
  | .hbm, ⟨54, _⟩ => ⟨S8192x512, .f32⟩
  | .hbm, ⟨55, _⟩ => ⟨S8192x512, .f32⟩
  | .hbm, ⟨56, _⟩ => ⟨S8192x4x128, .f32⟩
  | .hbm, ⟨57, _⟩ => ⟨S4x128x8192, .f32⟩
  | .hbm, ⟨58, _⟩ => ⟨S4x8192x256, .f32⟩
  | .hbm, ⟨59, _⟩ => ⟨S4x128x256, .f32⟩
  | .hbm, ⟨60, _⟩ => ⟨S256x4x128, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x128, .f32⟩
  | .hbm, ⟨79, _⟩ => ⟨S256x4x128, .f32⟩
  | .hbm, ⟨80, _⟩ => ⟨S4x8192x128, .f32⟩
  | .hbm, ⟨81, _⟩ => ⟨S8192x4x128, .f32⟩
  | .hbm, ⟨82, _⟩ => ⟨S256x512, .f32⟩
  | .hbm, ⟨83, _⟩ => ⟨S256x512, .bf16⟩
  | .hbm, ⟨84, _⟩ => ⟨S256x512, .f32⟩
  | .hbm, ⟨85, _⟩ => ⟨S256x512, .bf16⟩
  | .hbm, ⟨86, _⟩ => ⟨S8192x512, .f32⟩
  | .hbm, ⟨87, _⟩ => ⟨S8192x512, .bf16⟩
  | .hbm, ⟨88, _⟩ => ⟨S256x512, .f32⟩
  | .hbm, ⟨89, _⟩ => ⟨S256x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Dact.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .f32⟩
  | .hbm, ⟨3, _⟩ => ⟨S8192x2048, .f32⟩
  | .hbm, ⟨4, _⟩ => ⟨S_, .f32⟩
  | .hbm, ⟨5, _⟩ => ⟨S8192x5632, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Do.lean ====
abbrev S8192x2048 : Shape := ⟨2, ![8192, 2048]⟩
abbrev S512x2048 : Shape := ⟨2, ![512, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoRefIdeal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S512x2048, .f32⟩
  | .hbm, ⟨3, _⟩ => ⟨S8192x2048, .f32⟩
  | .hbm, ⟨4, _⟩ => ⟨S_, .f32⟩
  | .hbm, ⟨5, _⟩ => ⟨S8192x512, .f32⟩
  | .hbm, ⟨6, _⟩ => ⟨S8192x2048, .f32⟩
  | .hbm, ⟨7, _⟩ => ⟨S8192x512, .f32⟩
  | .hbm, ⟨8, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dhx.lean ====
abbrev S8192x512 : Shape := ⟨2, ![8192, 512]⟩
abbrev S2048x512 : Shape := ⟨2, ![2048, 512]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S2048x512, .bf16⟩
  | .hbm, ⟨2, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhxRefIdeal.lean ====
abbrev S8192x512 : Shape := ⟨2, ![8192, 512]⟩
abbrev S2048x512 : Shape := ⟨2, ![2048, 512]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2048x512, .bf16⟩
  | .hbm, ⟨2, _⟩ => ⟨S2048x512, .f32⟩
  | .hbm, ⟨3, _⟩ => ⟨S8192x512, .f32⟩
  | .hbm, ⟨4, _⟩ => ⟨S_, .f32⟩
  | .hbm, ⟨5, _⟩ => ⟨S8192x2048, .f32⟩
  | .hbm, ⟨6, _⟩ => ⟨S8192x512, .f32⟩
  | .hbm, ⟨7, _⟩ => ⟨S8192x2048, .f32⟩
  | .hbm, ⟨8, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S8192x4096 : Shape := ⟨2, ![8192, 4096]⟩
abbrev S8192x2048 : Shape := ⟨2, ![8192, 2048]⟩
abbrev S4096x2048 : Shape := ⟨2, ![4096, 2048]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x4096, .f32⟩
  | .hbm, ⟨3, _⟩ => ⟨S8192x2048, .f32⟩
  | .hbm, ⟨4, _⟩ => ⟨S_, .f32⟩
  | .hbm, ⟨5, _⟩ => ⟨S4096x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwO.lean ====
abbrev S8192x512 : Shape := ⟨2, ![8192, 512]⟩
abbrev S8192x2048 : Shape := ⟨2, ![8192, 2048]⟩
abbrev S512x2048 : Shape := ⟨2, ![512, 2048]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S512x512, .bf16⟩
  | .local _ .vmem, ⟨4, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwORefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .f32⟩
  | .hbm, ⟨3, _⟩ => ⟨S8192x2048, .f32⟩
  | .hbm, ⟨4, _⟩ => ⟨S_, .f32⟩
  | .hbm, ⟨5, _⟩ => ⟨S512x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwQ.lean ====
abbrev S8192x2048 : Shape := ⟨2, ![8192, 2048]⟩
abbrev S8192x512 : Shape := ⟨2, ![8192, 512]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S2048x512, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S512x512, .bf16⟩
  | .local _ .vmem, ⟨4, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQRefIdeal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x2048, .f32⟩
  | .hbm, ⟨3, _⟩ => ⟨S8192x512, .f32⟩
  | .hbm, ⟨4, _⟩ => ⟨S_, .f32⟩
  | .hbm, ⟨5, _⟩ => ⟨S2048x512, .f32⟩
  | .hbm, ⟨6, _⟩ => ⟨S8192x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Swiglu.lean ====
abbrev S8192x11264 : Shape := ⟨2, ![8192, 11264]⟩
abbrev S8192x5632 : Shape := ⟨2, ![8192, 5632]⟩
abbrev S256x5632 : Shape := ⟨2, ![256, 5632]⟩
abbrev S256x11264 : Shape := ⟨2, ![256, 11264]⟩

abbrev nBuf : Space → Nat
  | .hbm => 3
  | .vmem => 8
  | .smem => 0
  | _ => 0

abbrev bufTy : (tb : Table) → Fin (tcTables nBuf tb) → BufTy
  | .hbm, ⟨0, _⟩ => ⟨S8192x11264, .bf16⟩
  | .hbm, ⟨1, _⟩ => ⟨S8192x5632, .bf16⟩
  | .hbm, ⟨2, _⟩ => ⟨S8192x11264, .bf16⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x11264, .bf16⟩
  | .local _ .vmem, ⟨7, _⟩ => ⟨S256x11264, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluRefIdeal.lean ====
abbrev S8192x11264 : Shape := ⟨2, ![8192, 11264]⟩
abbrev S8192x5632 : Shape := ⟨2, ![8192, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8192x5632, .bf16⟩
  | .hbm, ⟨2, _⟩ => ⟨S8192x11264, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x11264, .f32⟩
  | .hbm, ⟨27, _⟩ => ⟨S8192x11264, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== DwDown.lean ====
abbrev S8192x5632 : Shape := ⟨2, ![8192, 5632]⟩
abbrev S8192x2048 : Shape := ⟨2, ![8192, 2048]⟩
abbrev S5632x2048 : Shape := ⟨2, ![5632, 2048]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwGu.lean ====
abbrev S8192x2048 : Shape := ⟨2, ![8192, 2048]⟩
abbrev S8192x11264 : Shape := ⟨2, ![8192, 11264]⟩
abbrev S2048x11264 : Shape := ⟨2, ![2048, 11264]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGuRefIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8192x2048, .f32⟩
  | .hbm, ⟨3, _⟩ => ⟨S8192x11264, .f32⟩
  | .hbm, ⟨4, _⟩ => ⟨S_, .f32⟩
  | .hbm, ⟨5, _⟩ => ⟨S2048x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhf.lean ====
abbrev S8192x11264 : Shape := ⟨2, ![8192, 11264]⟩
abbrev S2048x11264 : Shape := ⟨2, ![2048, 11264]⟩
abbrev S8192x2048 : Shape := ⟨2, ![8192, 2048]⟩
abbrev S512x11264 : Shape := ⟨2, ![512, 11264]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .bf16⟩
  | .local _ .vmem, ⟨0, _⟩ => ⟨S512x11264, .bf16⟩
  | .local _ .vmem, ⟨1, _⟩ => ⟨S512x11264, .bf16⟩
  | .local _ .vmem, ⟨2, _⟩ => ⟨S512x11264, .bf16⟩
  | .local _ .vmem, ⟨3, _⟩ => ⟨S512x11264, .bf16⟩
  | .local _ .vmem, ⟨4, _⟩ => ⟨S512x512, .bf16⟩
  | .local _ .vmem, ⟨5, _⟩ => ⟨S512x512, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhfRefIdeal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S2048x11264, .f32⟩
  | .hbm, ⟨3, _⟩ => ⟨S8192x11264, .f32⟩
  | .hbm, ⟨4, _⟩ => ⟨S_, .f32⟩
  | .hbm, ⟨5, _⟩ => ⟨S8192x2048, .f32⟩
  | .hbm, ⟨6, _⟩ => ⟨S8192x11264, .f32⟩
  | .hbm, ⟨7, _⟩ => ⟨S8192x2048, .f32⟩
  | .hbm, ⟨8, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dcat.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatRefIdeal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S4096x2048, .f32⟩
  | .hbm, ⟨3, _⟩ => ⟨S8192x2048, .f32⟩
  | .hbm, ⟨4, _⟩ => ⟨S_, .f32⟩
  | .hbm, ⟨5, _⟩ => ⟨S8192x4096, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwMain.lean ====
abbrev S8192x2048 : Shape := ⟨2, ![8192, 2048]⟩
abbrev S8192x11264 : Shape := ⟨2, ![8192, 11264]⟩
abbrev S2048x11264 : Shape := ⟨2, ![2048, 11264]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMainRefIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8192x2048, .f32⟩
  | .hbm, ⟨3, _⟩ => ⟨S8192x11264, .f32⟩
  | .hbm, ⟨4, _⟩ => ⟨S_, .f32⟩
  | .hbm, ⟨5, _⟩ => ⟨S2048x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhn.lean ====
abbrev S8192x11264 : Shape := ⟨2, ![8192, 11264]⟩
abbrev S2048x11264 : Shape := ⟨2, ![2048, 11264]⟩
abbrev S8192x2048 : Shape := ⟨2, ![8192, 2048]⟩
abbrev S512x11264 : Shape := ⟨2, ![512, 11264]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .f32⟩
  | .local _ .vmem, ⟨0, _⟩ => ⟨S512x11264, .bf16⟩
  | .local _ .vmem, ⟨1, _⟩ => ⟨S512x11264, .bf16⟩
  | .local _ .vmem, ⟨2, _⟩ => ⟨S512x11264, .bf16⟩
  | .local _ .vmem, ⟨3, _⟩ => ⟨S512x11264, .bf16⟩
  | .local _ .vmem, ⟨4, _⟩ => ⟨S512x512, .f32⟩
  | .local _ .vmem, ⟨5, _⟩ => ⟨S512x512, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhnRefIdeal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S2048x11264, .f32⟩
  | .hbm, ⟨3, _⟩ => ⟨S8192x11264, .f32⟩
  | .hbm, ⟨4, _⟩ => ⟨S_, .f32⟩
  | .hbm, ⟨5, _⟩ => ⟨S8192x2048, .f32⟩
  | .hbm, ⟨6, _⟩ => ⟨S8192x11264, .f32⟩
  | .hbm, ⟨7, _⟩ => ⟨S8192x2048, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x4096 : Shape := ⟨2, ![8192, 4096]⟩
abbrev S4096x2048 : Shape := ⟨2, ![4096, 2048]⟩
abbrev S8192x2048 : Shape := ⟨2, ![8192, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Q.lean ====
abbrev S8192x2048 : Shape := ⟨2, ![8192, 2048]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QRefIdeal.lean ====
abbrev S8192x2048 : Shape := ⟨2, ![8192, 2048]⟩
abbrev S2048x512 : Shape := ⟨2, ![2048, 512]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x2048, .f32⟩
  | .hbm, ⟨3, _⟩ => ⟨S2048x512, .f32⟩
  | .hbm, ⟨4, _⟩ => ⟨S8192x512, .f32⟩
  | .hbm, ⟨5, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== O.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ORefIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gu.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== GNorm.lean ====
abbrev S8192x2048 : Shape := ⟨2, ![8192, 2048]⟩
abbrev S8192x11264 : Shape := ⟨2, ![8192, 11264]⟩
abbrev S8192x4096 : Shape := ⟨2, ![8192, 4096]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S8192x4096, .bf16⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v109 : BitVec 1 := Scalar.cmpi .eq arg0 c0_i32
  let v110 : BitVec 32 := Scalar.extui v109
  let c0_i32_35 : BitVec 32 := 0#32
  let v111 : BitVec 1 := Scalar.cmpi .ne v110 c0_i32_35
  v111

def k0_cond2 (i : grid0.Coords) : BitVec 1 :=
  let arg0 : BitVec 32 := BitVec.ofNat 32 (i 0).val
  let c0_i32_36 : BitVec 32 := 0#32
  let v112 : BitVec 1 := Scalar.cmpi .sgt arg0 c0_i32_36
  let v113 : BitVec 32 := Scalar.extui v112
  let c0_i32_37 : BitVec 32 := 0#32
  let v114 : BitVec 1 := Scalar.cmpi .ne v113 c0_i32_37
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GNormRefIdeal.lean ====
abbrev S8192x2048 : Shape := ⟨2, ![8192, 2048]⟩
abbrev S8192x11264 : Shape := ⟨2, ![8192, 11264]⟩
abbrev S8192x4096 : Shape := ⟨2, ![8192, 4096]⟩
abbrev S1x2048 : Shape := ⟨2, ![1, 2048]⟩
abbrev S2048 : Shape := ⟨1, ![2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S8192x4096, .bf16⟩
  | .hbm, ⟨3, _⟩ => ⟨S1x2048, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x4x512, .f32⟩
  | .hbm, ⟨21, _⟩ => ⟨S8192x4x512, .f32⟩
  | .hbm, ⟨22, _⟩ => ⟨S_, .f32⟩
  | .hbm, ⟨23, _⟩ => ⟨S8192x4, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S_, .f32⟩
  | .hbm, ⟨34, _⟩ => ⟨S8192x4x1, .f32⟩
  | .hbm, ⟨35, _⟩ => ⟨S8192x4x1, .f32⟩
  | .hbm, ⟨36, _⟩ => ⟨S8192x4x512, .f32⟩
  | .hbm, ⟨37, _⟩ => ⟨S8192x4x512, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S8192x4x512, .f32⟩
  | .hbm, ⟨53, _⟩ => ⟨S8192x4x512, .f32⟩
  | .hbm, ⟨54, _⟩ => ⟨S_, .f32⟩
  | .hbm, ⟨55, _⟩ => ⟨S8192x4, .f32⟩
  | .hbm, ⟨56, _⟩ => ⟨S8192x4x1, .f32⟩
  | .hbm, ⟨57, _⟩ => ⟨S8192x4x512, .f32⟩
  | .hbm, ⟨58, _⟩ => ⟨S8192x4x512, .f32⟩
  | .hbm, ⟨59, _⟩ => ⟨S8192x4x1, .f32⟩
  | .hbm, ⟨60, _⟩ => ⟨S_, .f32⟩
  | .hbm, ⟨61, _⟩ => ⟨S8192x4x1, .f32⟩
  | .hbm, ⟨62, _⟩ => ⟨S8192x4x1, .f32⟩
  | .hbm, ⟨63, _⟩ => ⟨S_, .f32⟩
  | .hbm, ⟨64, _⟩ => ⟨S8192x4, .f32⟩
  | .hbm, ⟨65, _⟩ => ⟨S8192x4x512, .f32⟩
  | .hbm, ⟨66, _⟩ => ⟨S8192x4x512, .f32⟩
  | .hbm, ⟨67, _⟩ => ⟨S8192x4x512, .f32⟩
  | .hbm, ⟨68, _⟩ => ⟨S8192x4x512, .f32⟩
  | .hbm, ⟨69, _⟩ => ⟨S8192x4x512, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .bf16⟩
  | .hbm, ⟨78, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Sc.lean ====
abbrev S8192x11264 : Shape := ⟨2, ![8192, 11264]⟩
abbrev S8192x4096 : Shape := ⟨2, ![8192, 4096]⟩
abbrev S3x2048 : Shape := ⟨2, ![3, 2048]⟩
abbrev S1x2048 : Shape := ⟨2, ![1, 2048]⟩
abbrev S8192x2048 : Shape := ⟨2, ![8192, 2048]⟩
abbrev S3x1x2048 : Shape := ⟨3, ![3, 1, 2048]⟩
abbrev S256x1024 : Shape := ⟨2, ![256, 1024]⟩
abbrev S8x1024 : Shape := ⟨2, ![8, 1024]⟩
abbrev S3x1024 : Shape := ⟨2, ![3, 1024]⟩
abbrev S1x1024 : Shape := ⟨2, ![1, 1024]⟩
abbrev S3x1x1024 : Shape := ⟨3, ![3, 1, 1024]⟩
abbrev S272x1024 : Shape := ⟨2, ![272, 1024]⟩
abbrev S264x1024 : Shape := ⟨2, ![264, 1024]⟩
abbrev S264x128 : Shape := ⟨2, ![264, 128]⟩
abbrev S264 : Shape := ⟨1, ![264]⟩
abbrev S264x1 : Shape := ⟨2, ![264, 1]⟩
abbrev S1024 : Shape := ⟨1, ![1024]⟩
abbrev S1x1x1024 : Shape := ⟨3, ![1, 1, 1024]⟩

abbrev nBuf : Space → Nat
  | .hbm => 9
  | .vmem => 34
  | .smem => 0
  | _ => 0

abbrev bufTy : (tb : Table) → Fin (tcTables nBuf tb) → BufTy
  | .hbm, ⟨0, _⟩ => ⟨S8192x11264, .f32⟩
  | .hbm, ⟨1, _⟩ => ⟨S8192x4096, .bf16⟩
  | .hbm, ⟨2, _⟩ => ⟨S3x2048, .f32⟩
  | .hbm, ⟨3, _⟩ => ⟨S1x2048, .f32⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S3x1x2048, .f32⟩
  | .hbm, ⟨8, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .bf16⟩
  | .local _ .vmem, ⟨19, _⟩ => ⟨S8x1024, .bf16⟩
  | .local _ .vmem, ⟨20, _⟩ => ⟨S3x1024, .f32⟩
  | .local _ .vmem, ⟨21, _⟩ => ⟨S3x1024, .f32⟩
  | .local _ .vmem, ⟨22, _⟩ => ⟨S1x1024, .f32⟩
  | .local _ .vmem, ⟨23, _⟩ => ⟨S1x1024, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S3x1x1024, .f32⟩
  | .local _ .vmem, ⟨31, _⟩ => ⟨S3x1x1024, .f32⟩
  | .local _ .vmem, ⟨32, _⟩ => ⟨S1x1024, .f32⟩
  | .local _ .vmem, ⟨33, _⟩ => ⟨S1x1024, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32_82 : BitVec 32 := 0#32
  let v239 : BitVec 1 := Scalar.cmpi .eq arg1 c0_i32_82
  let v240 : BitVec 32 := Scalar.extui v239
  let c0_i32_83 : BitVec 32 := 0#32
  let v241 : BitVec 1 := Scalar.cmpi .ne v240 c0_i32_83
  v241

def k0_cond2 (i : grid0.Coords) : BitVec 1 :=
  let arg1 : BitVec 32 := BitVec.ofNat 32 (i 1).val
  let c0_i32_84 : BitVec 32 := 0#32
  let v242 : BitVec 1 := Scalar.cmpi .sgt arg1 c0_i32_84
  let v243 : BitVec 32 := Scalar.extui v242
  let c0_i32_85 : BitVec 32 := 0#32
  let v244 : BitVec 1 := Scalar.cmpi .ne v243 c0_i32_85
  v244

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let v3 : BitVec 32 := Scalar.addi c9_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c5_i32 : BitVec 32 := 5#32
  let v3 : BitVec 32 := Scalar.addi c5_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c7_i32 : BitVec 32 := 7#32
  let v3 : BitVec 32 := Scalar.addi c7_i32 arg0
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c9_i32 : BitVec 32 := 9#32
  let v3 : BitVec 32 := Scalar.addi c9_i32 arg0
  let c0_i32 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let v3 : BitVec 32 := Scalar.addi c2_i32 arg0
  let c0_i32 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S3x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ScRefIdeal.lean ====
abbrev S8192x11264 : Shape := ⟨2, ![8192, 11264]⟩
abbrev S8192x4096 : Shape := ⟨2, ![8192, 4096]⟩
abbrev S3x2048 : Shape := ⟨2, ![3, 2048]⟩
abbrev S1x2048 : Shape := ⟨2, ![1, 2048]⟩
abbrev S8192x2048 : Shape := ⟨2, ![8192, 2048]⟩
abbrev S2048 : Shape := ⟨1, ![2048]⟩
abbrev S_ : Shape := ⟨0, ![]⟩
abbrev S2x2048 : Shape := ⟨2, ![2, 2048]⟩
abbrev S8190x2048 : Shape := ⟨2, ![8190, 2048]⟩
abbrev S8191x2048 : Shape := ⟨2, ![8191, 2048]⟩
abbrev S8192x16x128 : Shape := ⟨3, ![8192, 16, 128]⟩
abbrev S8192x16 : Shape := ⟨2, ![8192, 16]⟩
abbrev S8192x16x1 : Shape := ⟨3, ![8192, 16, 1]⟩
abbrev S3x1x2048 : Shape := ⟨3, ![3, 1, 2048]⟩

abbrev nBuf : Space → Nat
  | .hbm => 147
  | .vmem => 0
  | .smem => 0
  | _ => 0

abbrev hbmTy0_0 (i : Nat) : BufTy := match i % 128 with
  | 0 => ⟨S8192x11264, .f32⟩
  | 1 => ⟨S8192x4096, .bf16⟩
  | 2 => ⟨S3x2048, .f32⟩
  | 3 => ⟨S1x2048, .f32⟩
  | 4 => ⟨S8192x2048, .f32⟩
  | 5 => ⟨S8192x2048, .f32⟩
  | 6 => ⟨S8192x2048, .f32⟩
  | 7 => ⟨S2048, .f32⟩
  | 8 => ⟨S8192x2048, .f32⟩
  | 9 => ⟨S1x2048, .f32⟩
  | 10 => ⟨S2048, .f32⟩
  | 11 => ⟨S_, .f32⟩
  | 12 => ⟨S2x2048, .f32⟩
  | 13 => ⟨S8190x2048, .f32⟩
  | 14 => ⟨S8192x2048, .f32⟩
  | 15 => ⟨S_, .f32⟩
  | 16 => ⟨S2x2048, .f32⟩
  | 17 => ⟨S1x2048, .f32⟩
  | 18 => ⟨S8192x2048, .f32⟩
  | 19 => ⟨S8192x2048, .f32⟩
  | 20 => ⟨S_, .f32⟩
  | 21 => ⟨S8192x2048, .f32⟩
  | 22 => ⟨S8192x2048, .f32⟩
  | 23 => ⟨S1x2048, .f32⟩
  | 24 => ⟨S2048, .f32⟩
  | 25 => ⟨S_, .f32⟩
  | 26 => ⟨S1x2048, .f32⟩
  | 27 => ⟨S8191x2048, .f32⟩
  | 28 => ⟨S8192x2048, .f32⟩
  | 29 => ⟨S_, .f32⟩
  | 30 => ⟨S1x2048, .f32⟩
  | 31 => ⟨S1x2048, .f32⟩
  | 32 => ⟨S8192x2048, .f32⟩
  | 33 => ⟨S8192x2048, .f32⟩
  | 34 => ⟨S8192x2048, .f32⟩
  | 35 => ⟨S1x2048, .f32⟩
  | 36 => ⟨S2048, .f32⟩
  | 37 => ⟨S1x2048, .f32⟩
  | 38 => ⟨S8192x2048, .f32⟩
  | 39 => ⟨S8192x2048, .f32⟩
  | 40 => ⟨S8192x2048, .f32⟩
  | 41 => ⟨S8192x2048, .f32⟩
  | 42 => ⟨S8192x16x128, .f32⟩
  | 43 => ⟨S8192x16x128, .f32⟩
  | 44 => ⟨S_, .f32⟩
  | 45 => ⟨S8192x16, .f32⟩
  | 46 => ⟨S8192x16x1, .f32⟩
  | 47 => ⟨S_, .f32⟩
  | 48 => ⟨S8192x16x1, .f32⟩
  | 49 => ⟨S8192x16x1, .f32⟩
  | 50 => ⟨S_, .f32⟩
  | 51 => ⟨S8192x16x1, .f32⟩
  | 52 => ⟨S8192x16x1, .f32⟩
  | 53 => ⟨S8192x16x1, .f32⟩
  | 54 => ⟨S8192x16x1, .f32⟩
  | 55 => ⟨S_, .f32⟩
  | 56 => ⟨S8192x16x1, .f32⟩
  | 57 => ⟨S8192x16x1, .f32⟩
  | 58 => ⟨S8192x16x128, .f32⟩
  | 59 => ⟨S8192x16x128, .f32⟩
  | 60 => ⟨S8192x2048, .f32⟩
  | 61 => ⟨S1x2048, .f32⟩
  | 62 => ⟨S8192x2048, .f32⟩
  | 63 => ⟨S8192x2048, .f32⟩
  | 64 => ⟨S8192x2048, .bf16⟩
  | 65 => ⟨S8192x2048, .f32⟩
  | 66 => ⟨S8192x2048, .f32⟩
  | 67 => ⟨S_, .f32⟩
  | 68 => ⟨S2048, .f32⟩
  | 69 => ⟨S1x2048, .f32⟩
  | 70 => ⟨S8192x2048, .f32⟩
  | 71 => ⟨S8192x2048, .f32⟩
  | 72 => ⟨S_, .f32⟩
  | 73 => ⟨S2048, .f32⟩
  | 74 => ⟨S8192x16x128, .f32⟩
  | 75 => ⟨S8192x16x128, .f32⟩
  | 76 => ⟨S_, .f32⟩
  | 77 => ⟨S8192x16, .f32⟩
  | 78 => ⟨S8192x16x1, .f32⟩
  | 79 => ⟨S8192x16x128, .f32⟩
  | 80 => ⟨S8192x16x128, .f32⟩
  | 81 => ⟨S8192x16x1, .f32⟩
  | 82 => ⟨S_, .f32⟩
  | 83 => ⟨S8192x16x1, .f32⟩
  | 84 => ⟨S8192x16x1, .f32⟩
  | 85 => ⟨S_, .f32⟩
  | 86 => ⟨S8192x16, .f32⟩
  | 87 => ⟨S8192x16x128, .f32⟩
  | 88 => ⟨S8192x16x128, .f32⟩
  | 89 => ⟨S8192x16x128, .f32⟩
  | 90 => ⟨S8192x16x128, .f32⟩
  | 91 => ⟨S8192x16x128, .f32⟩
  | 92 => ⟨S8192x2048, .f32⟩
  | 93 => ⟨S8192x2048, .f32⟩
  | 94 => ⟨S8192x2048, .f32⟩
  | 95 => ⟨S8192x2048, .f32⟩
  | 96 => ⟨S8192x2048, .f32⟩
  | 97 => ⟨S8192x2048, .f32⟩
  | 98 => ⟨S_, .f32⟩
  | 99 => ⟨S2048, .f32⟩
  | 100 => ⟨S1x2048, .f32⟩
  | 101 => ⟨S_, .f32⟩
  | 102 => ⟨S2048, .f32⟩
  | 103 => ⟨S1x2048, .f32⟩
  | 104 => ⟨S_, .f32⟩
  | 105 => ⟨S3x2048, .f32⟩
  | 106 => ⟨S8192x2048, .f32⟩
  | 107 => ⟨S8192x2048, .f32⟩
  | 108 => ⟨S8192x2048, .f32⟩
  | 109 => ⟨S_, .f32⟩
  | 110 => ⟨S2048, .f32⟩
  | 111 => ⟨S1x2048, .f32⟩
  | 112 => ⟨S_, .f32⟩
  | 113 => ⟨S2048, .f32⟩
  | 114 => ⟨S1x2048, .f32⟩
  | 115 => ⟨S8191x2048, .f32⟩
  | 116 => ⟨S_, .f32⟩
  | 117 => ⟨S8192x2048, .f32⟩
  | 118 => ⟨S8192x2048, .f32⟩
  | 119 => ⟨S1x2048, .f32⟩
  | 120 => ⟨S_, .f32⟩
  | 121 => ⟨S3x2048, .f32⟩
  | 122 => ⟨S3x2048, .f32⟩
  | 123 => ⟨S8192x2048, .f32⟩
  | 124 => ⟨S8192x2048, .f32⟩
  | 125 => ⟨S8192x2048, .f32⟩
  | 126 => ⟨S_, .f32⟩
  | 127 => ⟨S2048, .f32⟩
  | _ => ⟨S8192x11264, .f32⟩

abbrev hbmTy0_1 (i : Nat) : BufTy := match i % 128 with
  | 0 => ⟨S1x2048, .f32⟩
  | 1 => ⟨S_, .f32⟩
  | 2 => ⟨S2048, .f32⟩
  | 3 => ⟨S2x2048, .f32⟩
  | 4 => ⟨S8190x2048, .f32⟩
  | 5 => ⟨S_, .f32⟩
  | 6 => ⟨S8192x2048, .f32⟩
  | 7 => ⟨S8192x2048, .f32⟩
  | 8 => ⟨S1x2048, .f32⟩
  | 9 => ⟨S_, .f32⟩
  | 10 => ⟨S3x2048, .f32⟩
  | 11 => ⟨S3x2048, .f32⟩
  | 12 => ⟨S8192x2048, .f32⟩
  | 13 => ⟨S8192x2048, .f32⟩
  | 14 => ⟨S8192x2048, .bf16⟩
  | 15 => ⟨S8192x2048, .bf16⟩
  | 16 => ⟨S8192x2048, .bf16⟩
  | 17 => ⟨S3x1x2048, .f32⟩
  | 18 => ⟨S1x2048, .f32⟩
  | _ => ⟨S8192x11264, .f32⟩

abbrev hbmTy (i : Nat) : BufTy := match i / 128 with
  | 0 => hbmTy0_0 i
  | 1 => hbmTy0_1 i
  | _ => ⟨S8192x11264, .f32⟩

abbrev bufTy : (tb : Table) → Fin (tcTables nBuf tb) → BufTy
  | .hbm, ⟨i, _⟩ => hbmTy i
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_13 : Ref sig .tc := ⟨.hbm, 98, rfl⟩
abbrev main_v80 : Ref sig .tc := ⟨.hbm, 99, rfl⟩
abbrev main_v81 : Ref sig .tc := ⟨.hbm, 100, rfl⟩
abbrev main_cst_14 : Ref sig .tc := ⟨.hbm, 101, rfl⟩
abbrev main_v82 : Ref sig .tc := ⟨.hbm, 102, rfl⟩
abbrev main_v83 : Ref sig .tc := ⟨.hbm, 103, rfl⟩
abbrev main_cst_15 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_16 : Ref sig .tc := ⟨.hbm, 109, rfl⟩
abbrev main_v88 : Ref sig .tc := ⟨.hbm, 110, rfl⟩
abbrev main_v89 : Ref sig .tc := ⟨.hbm, 111, rfl⟩
abbrev main_cst_17 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_18 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_19 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_20 : Ref sig .tc := ⟨.hbm, 126, rfl⟩
abbrev main_v101 : Ref sig .tc := ⟨.hbm, 127, rfl⟩
abbrev main_v102 : Ref sig .tc := ⟨.hbm, 128, rfl⟩
abbrev main_cst_21 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_22 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_23 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩

abbrev nD : Nat := 1
abbrev τ : Topo := Topo.v7x

variable {F : FTy → Type} [FloatOps F]
-- ==== Proof.Softmax.lean ====
/- The gradient of a softmax row over the extended reals: the kernel's form of it and the form that the
   quotient's own derivative takes are the same where the row's scores are real. -/
module

public import Idealize.ShloMosaic.PureOps
public import Idealize.ShloMosaic.Lib.Pointwise

@[expose] public section

noncomputable section

namespace Cert.Attn

open Idealize.ShloMosaic

/-- The score scale, as both programs spell it: the float nearest to `128 ^ (-1/2)`. -/
def scale : EReal := Ideal.ofBits .f32 1035273459#32

/-- The bound a row's maximum starts from. -/
def floor : EReal := Ideal.ofBits .f32 4286578688#32

theorem floor_eq : floor = ⊥ := by simp [floor, Ideal.ofBits, Ideal.ieee]

theorem scale_real : ∃ s : ℝ, scale = s := by
  unfold scale Ideal.ofBits Ideal.ieee
  dsimp only
  rw [if_neg (by decide), if_neg (by decide)]
  exact ⟨_, rfl⟩

/-- The scores of one query row against the memory rows of one head. -/
def logits (q : Fin 128 → EReal) (k : Fin 256 → Fin 128 → EReal) (j : Fin 256) : EReal := (∑ x, q x * k j x) * scale

/-- The greatest score of a row. -/
def rowMax (l : Fin 256 → EReal) : EReal := Finset.fold max floor l Finset.univ

/-- A row's unnormalised weights. -/
def wt (l : Fin 256 → EReal) (j : Fin 256) : EReal := Ideal.exp (l j - rowMax l)

/-- Their sum. -/
def den (l : Fin 256 → EReal) : EReal := ∑ x, wt l x

/-- The softmax of a row. -/
def prob (l : Fin 256 → EReal) (j : Fin 256) : EReal := Ideal.div (wt l j) (den l)

/-- The gradient of the scores before scaling, as the kernel forms it: `p (dp - Σ dp p)`, scaled. -/
def dlogit (l dp : Fin 256 → EReal) (j : Fin 256) : EReal :=
  prob l j * (dp j - ∑ x, dp x * prob l x) * scale

/-- The same gradient as the derivative of the quotient `wt / den` gives it. -/
def dlogitQ (l dp : Fin 256 → EReal) (j : Fin 256) : EReal :=
  (Ideal.div (dp j) (den l) + -∑ x, dp x * Ideal.div 1 (den l * den l) * wt l x) * wt l j * scale

/-- A real factor that is not negative goes into a sum of extended reals. -/
theorem mul_sum_nonneg {ι : Type} (s : Finset ι) {c : ℝ} (hc : 0 ≤ c) (f : ι → EReal) :
    (c : EReal) * ∑ x ∈ s, f x = ∑ x ∈ s, (c : EReal) * f x := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of reals is real. -/
theorem coe_sum {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

/-- A row of real scores has a real maximum. -/
theorem rowMax_real (l : Fin 256 → ℝ) : ∃ M : ℝ, rowMax (fun j => (l j : EReal)) = M := by
  have h : ∀ s : Finset (Fin 256), s.Nonempty → ∃ M : ℝ, Finset.fold max (⊥ : EReal) (fun j => (l j : EReal)) s = M := by
    intro s hs
    induction hs using Finset.Nonempty.cons_induction with
    | singleton a => exact ⟨l a, by simp⟩
    | cons a s ha hs ih =>
      obtain ⟨M, hM⟩ := ih
      refine ⟨max (l a) M, ?_⟩
      rw [Finset.fold_cons, hM]
      exact (EReal.coe_strictMono.monotone.map_max).symm
  unfold rowMax
  rw [floor_eq]
  exact h _ Finset.univ_nonempty

/-- The two forms of the gradient over real weights `w` of real sum `s`, in one line. -/
theorem quotient_form {ι : Type} (u : Finset ι) (w : ι → ℝ) {s : ℝ} (hs : 0 < s) (dp : ι → EReal) (j : ι) :
    (Ideal.div (dp j) (s : EReal) + -∑ x ∈ u, dp x * Ideal.div 1 ((s : EReal) * (s : EReal)) * (w x : EReal)) * (w j : EReal)
      = Ideal.div (w j : EReal) (s : EReal) * (dp j - ∑ x ∈ u, dp x * Ideal.div (w x : EReal) (s : EReal)) := by
  have hp : ∀ x, Ideal.div (w x : EReal) (s : EReal) = ((1 / s : ℝ) : EReal) * (w x : EReal) := fun x => by
    rw [Ideal.div_coe hs.ne', mul_comm]
  have h1 : Ideal.div 1 ((s : EReal) * (s : EReal)) = ((1 / s : ℝ) : EReal) * ((1 / s : ℝ) : EReal) := by
    rw [← EReal.coe_mul, Ideal.div_coe (mul_pos hs hs).ne', one_mul, ← EReal.coe_mul]
    congr 1
    field_simp
  have hc : 0 ≤ 1 / s := by positivity
  have e1 : ∑ x ∈ u, dp x * Ideal.div 1 ((s : EReal) * (s : EReal)) * (w x : EReal)
      = ((1 / s : ℝ) : EReal) * ∑ x ∈ u, dp x * Ideal.div (w x : EReal) (s : EReal) := by
    rw [mul_sum_nonneg _ hc]
    refine Finset.sum_congr rfl fun x _ => ?_
    rw [hp, h1]
    ac_rfl
  rw [e1, hp, Ideal.div_coe hs.ne']
  generalize (∑ x ∈ u, dp x * Ideal.div (w x : EReal) (s : EReal)) = T
  rw [mul_comm (dp j), ← mul_neg, ← EReal.left_distrib_of_nonneg_of_ne_top (by exact_mod_cast hc) (EReal.coe_ne_top _),
    sub_eq_add_neg]
  ac_rfl

/-- The weights of a row of real scores are real, and so is their sum, which is positive. -/
theorem wt_real (l : Fin 256 → ℝ) :
    ∃ w : Fin 256 → ℝ, ∃ s : ℝ, 0 < s ∧ (∀ j, wt (fun j => (l j : EReal)) j = w j) ∧ den (fun j => (l j : EReal)) = s := by
  obtain ⟨M, hM⟩ := rowMax_real l
  have hw : ∀ j, wt (fun j => (l j : EReal)) j = (Real.exp (l j - M) : ℝ) := fun j => by
    unfold wt; rw [hM, ← EReal.coe_sub, Ideal.exp_coe]
  refine ⟨fun j => Real.exp (l j - M), ∑ x, Real.exp (l x - M),
    Finset.sum_pos (fun x _ => Real.exp_pos _) Finset.univ_nonempty, hw, ?_⟩
  unfold den
  rw [← coe_sum]
  exact Finset.sum_congr rfl fun x _ => hw x

/-- On real scores the two forms of the gradient agree, whatever the weights' gradient `dp` is. -/
theorem dlogitQ_eq (l : Fin 256 → ℝ) (dp : Fin 256 → EReal) (j : Fin 256) :
    dlogitQ (fun j => (l j : EReal)) dp j = dlogit (fun j => (l j : EReal)) dp j := by
  obtain ⟨w, s, hs, hw, hd⟩ := wt_real l
  unfold dlogitQ dlogit prob
  simp only [hw, hd]
  rw [quotient_form Finset.univ w hs dp j]

/-- Real rows have real scores. -/
theorem logits_real (q : Fin 128 → ℝ) (k : Fin 256 → Fin 128 → ℝ) :
    ∃ l : Fin 256 → ℝ, logits (fun x => (q x : EReal)) (fun j x => (k j x : EReal)) = fun j => (l j : EReal) := by
  obtain ⟨s, hs⟩ := scale_real
  refine ⟨fun j => (∑ x, q x * k j x) * s, funext fun j => ?_⟩
  unfold logits
  rw [hs, EReal.coe_mul, ← coe_sum]
  simp only [EReal.coe_mul]

end Cert.Attn
-- ==== Proof.Heads.lean ====
/- Attention over four heads of 128 columns: what one query row contributes to each gradient, as sums over the
   extended reals. Both programs are read as these sums. -/
module

public import proofs.«01_k».proof.Proof.Softmax

@[expose] public section

noncomputable section

namespace Cert.Attn

open Idealize.ShloMosaic

/-- Column `e` of head `h` among the 512 columns of the four heads. -/
def col (h : Fin 4) (e : Fin 128) : Fin 512 := ⟨128 * h.val + e.val, by omega⟩

/-- The head of a column, and its place within the head. -/
def hd (c : Fin 512) : Fin 4 := ⟨c.val / 128, by omega⟩
def ln (c : Fin 512) : Fin 128 := ⟨c.val % 128, by omega⟩

theorem col_hd_ln (c : Fin 512) : col (hd c) (ln c) = c := Fin.ext (by simp only [col, hd, ln]; omega)

/-- A query row's scores in head `h`. -/
def scores (q : Fin 512 → EReal) (K : Fin 256 → Fin 512 → EReal) (h : Fin 4) : Fin 256 → EReal :=
  logits (fun x => q (col h x)) (fun j x => K j (col h x))

/-- The gradient of a row's weights in head `h`: the row's output gradient against the values. -/
def dprob (d : Fin 512 → EReal) (V : Fin 256 → Fin 512 → EReal) (h : Fin 4) (j : Fin 256) : EReal :=
  ∑ x, d (col h x) * V j (col h x)

/-- The gradient of a row's scores (scaled) in head `h`. -/
def dscore (q d : Fin 512 → EReal) (K V : Fin 256 → Fin 512 → EReal) (h : Fin 4) : Fin 256 → EReal :=
  dlogit (scores q K h) (dprob d V h)

/-- The gradient of the query row. -/
def rowDq (q d : Fin 512 → EReal) (K V : Fin 256 → Fin 512 → EReal) (h : Fin 4) (e : Fin 128) : EReal :=
  ∑ j, dscore q d K V h j * K j (col h e)

/-- What a query row adds to the gradient of key `j`. -/
def rowDk (q d : Fin 512 → EReal) (K V : Fin 256 → Fin 512 → EReal) (j : Fin 256) (h : Fin 4) (e : Fin 128) : EReal :=
  dscore q d K V h j * q (col h e)

/-- What a query row adds to the gradient of value `j`. -/
def rowDv (q d : Fin 512 → EReal) (K : Fin 256 → Fin 512 → EReal) (j : Fin 256) (h : Fin 4) (e : Fin 128) : EReal :=
  prob (scores q K h) j * d (col h e)

/-! ## The three gradients as arrays over `[rows, columns]` -/

/-- A row of an array, and the array as a matrix. -/
abbrev row {n : Nat} {e : EltTy} (X : Vec Ideal ⟨2, ![n, 512]⟩ e) (r : Fin n) (c : Fin 512) : Elt Ideal e := X (ix2 r c)

variable (q d : Vec Ideal ⟨2, ![8192, 512]⟩ .bf16) (k v : Vec Ideal ⟨2, ![256, 512]⟩ .bf16)

/-- The gradient of the queries. -/
def gradQ (i : (⟨2, ![8192, 512]⟩ : Shape).Idx) : EReal := rowDq (row q (i 0)) (row d (i 0)) (row k) (row v) (hd (i 1)) (ln (i 1))

/-- The gradient of the keys. -/
def gradK (i : (⟨2, ![256, 512]⟩ : Shape).Idx) : EReal :=
  ∑ r : Fin 8192, rowDk (row q r) (row d r) (row k) (row v) (i 0) (hd (i 1)) (ln (i 1))

/-- The gradient of the values. -/
def gradV (i : (⟨2, ![256, 512]⟩ : Shape).Idx) : EReal :=
  ∑ r : Fin 8192, rowDv (row q r) (row d r) (row k) (i 0) (hd (i 1)) (ln (i 1))

/-- Real rows and keys have real scores. -/
theorem scores_real (q : Fin 512 → EReal) (K : Fin 256 → Fin 512 → EReal) (hq : ∀ c, ∃ x : ℝ, q c = x)
    (hK : ∀ j c, ∃ x : ℝ, K j c = x) (h : Fin 4) : ∃ l : Fin 256 → ℝ, scores q K h = fun j => (l j : EReal) := by
  choose q' hq' using hq
  choose K' hK' using hK
  obtain ⟨l, hl⟩ := logits_real (fun x => q' (col h x)) (fun j x => K' j (col h x))
  exact ⟨l, by rw [← hl]; unfold scores; simp only [hq', hK']⟩

/-- So on real rows and keys the gradient of the scores is the quotient's derivative. -/
theorem dscore_eq (q d : Fin 512 → EReal) (K V : Fin 256 → Fin 512 → EReal) (hq : ∀ c, ∃ x : ℝ, q c = x)
    (hK : ∀ j c, ∃ x : ℝ, K j c = x) (h : Fin 4) (j : Fin 256) :
    dlogitQ (scores q K h) (dprob d V h) j = dscore q d K V h j := by
  obtain ⟨l, hl⟩ := scores_real q K hq hK h
  unfold dscore
  rw [hl, dlogitQ_eq]

end Cert.Attn
-- ==== Proof.Tile.lean ====
/- What the kernel's body computes from one block of 512 query rows, read at an entry. -/
module

public import proofs.«01_k».proof.Proof.Gen.KernelIdeal.Value
public import proofs.«01_k».proof.Proof.Heads
public import Idealize.ShloMosaic.Lib.Pipeline.ValueKit

@[expose] public section

set_option maxRecDepth 16384

noncomputable section

namespace Cert.KernelIdeal.Hand

open Cert.KernelIdeal Cert.KernelIdeal.Gen Cert.Attn Idealize.ShloMosaic Idealize.ShloMosaic.Tactic

/-! ## One head: the payloads over its 128-column slices -/

/-- A head's query and key slices' scores at a row. -/
abbrev sc (q : Vec Ideal S512x128 .bf16) (k : Vec Ideal S256x128 .bf16) (r : Fin 512) : Fin 256 → EReal :=
  logits (fun x => q (ix2 r x)) (fun j x => k (ix2 j x))

/-- The softmax of a head. -/
theorem pay7_at (q : Vec Ideal S512x128 .bf16) (k : Vec Ideal S256x128 .bf16) (r : Fin 512) (j : Fin 256) :
    k0_pay7 (F := Ideal) q k (ix2 r j) = prob (sc q k r) j := by
  pointwise [k0_pay7]
  rfl

/-- The gradient of a head's scores. -/
theorem pay9_at (q : Vec Ideal S512x128 .bf16) (k v : Vec Ideal S256x128 .bf16) (d : Vec Ideal S512x128 .bf16)
    (r : Fin 512) (j : Fin 256) :
    k0_pay9 (F := Ideal) q k v d (ix2 r j) = dlogit (sc q k r) (fun x => ∑ y, d (ix2 r y) * v (ix2 x y)) j := by
  pointwise [k0_pay9]
  simp only [pay7_at]
  rfl

/-- A head's value gradient. -/
theorem pay8_at (q : Vec Ideal S512x128 .bf16) (k : Vec Ideal S256x128 .bf16) (d : Vec Ideal S512x128 .bf16)
    (j : Fin 256) (e : Fin 128) :
    k0_pay8 (F := Ideal) q k d (ix2 j e) = ∑ r, prob (sc q k r) j * d (ix2 r e) := by
  pointwise [k0_pay8]
  simp only [pay7_at]

/-- A head's query gradient. -/
theorem pay10_at (q : Vec Ideal S512x128 .bf16) (k v : Vec Ideal S256x128 .bf16) (d : Vec Ideal S512x128 .bf16)
    (r : Fin 512) (e : Fin 128) :
    k0_pay10 (F := Ideal) q k v d (ix2 r e)
      = ∑ j, dlogit (sc q k r) (fun x => ∑ y, d (ix2 r y) * v (ix2 x y)) j * k (ix2 j e) := by
  pointwise [k0_pay10]
  simp only [pay9_at]

/-- A head's key gradient. -/
theorem pay11_at (q : Vec Ideal S512x128 .bf16) (k v : Vec Ideal S256x128 .bf16) (d : Vec Ideal S512x128 .bf16)
    (j : Fin 256) (e : Fin 128) :
    k0_pay11 (F := Ideal) q k v d (ix2 j e)
      = ∑ r, dlogit (sc q k r) (fun x => ∑ y, d (ix2 r y) * v (ix2 x y)) j * q (ix2 r e) := by
  pointwise [k0_pay11]
  simp only [pay9_at]

/-! ## The four heads side by side -/

variable {F : FTy → Type} [FloatOps F]

/-- Four heads' query blocks side by side. -/
abbrev cat512 (P : Fin 4 → FVec F S512x128 .f32) : FVec F S512x512 .f32 :=
  concatenate S512x512 1 [⟨S512x128, P 0⟩, ⟨S512x128, P 1⟩, ⟨S512x128, P 2⟩, ⟨S512x128, P 3⟩]
    concatenates_S512x128_S512x128_S512x128_S512x128_S512x512_d1

/-- Four heads' key blocks side by side. -/
abbrev cat256 (P : Fin 4 → FVec F S256x128 .f32) : FVec F S256x512 .f32 :=
  concatenate S256x512 1 [⟨S256x128, P 0⟩, ⟨S256x128, P 1⟩, ⟨S256x128, P 2⟩, ⟨S256x128, P 3⟩]
    concatenates_S256x128_S256x128_S256x128_S256x128_S256x512_d1

theorem cat512_at (P : Fin 4 → FVec Ideal S512x128 .f32) (r : Fin 512) (h : Fin 4) (e : Fin 128) :
    cat512 P (ix2 r (col h e)) = P h (ix2 r e) := by
  have he := e.isLt
  generalize hc : col h e = c
  have hv : c.val = 128 * h.val + e.val := by rw [← hc]; rfl
  unfold cat512
  generalize h0 : P 0 = a0
  generalize h1 : P 1 = a1
  generalize h2 : P 2 = a2
  generalize h3 : P 3 = a3
  pointwise
  subst h0 h1 h2 h3
  match h, hv with
  | 0, hv => rw [dif_pos (by omega)]; exact congrArg (fun y => P 0 (ix2 r y)) (Fin.ext (by dsimp only; omega))
  | 1, hv =>
    rw [dif_neg (by omega), dif_pos (by omega)]; exact congrArg (fun y => P 1 (ix2 r y)) (Fin.ext (by dsimp only; omega))
  | 2, hv =>
    rw [dif_neg (by omega), dif_neg (by omega), dif_pos (by omega)]
    exact congrArg (fun y => P 2 (ix2 r y)) (Fin.ext (by dsimp only; omega))
  | 3, hv =>
    rw [dif_neg (by omega), dif_neg (by omega), dif_neg (by omega)]
    exact congrArg (fun y => P 3 (ix2 r y)) (Fin.ext (by dsimp only; omega))

theorem cat256_at (P : Fin 4 → FVec Ideal S256x128 .f32) (r : Fin 256) (h : Fin 4) (e : Fin 128) :
    cat256 P (ix2 r (col h e)) = P h (ix2 r e) := by
  have he := e.isLt
  generalize hc : col h e = c
  have hv : c.val = 128 * h.val + e.val := by rw [← hc]; rfl
  unfold cat256
  generalize h0 : P 0 = a0
  generalize h1 : P 1 = a1
  generalize h2 : P 2 = a2
  generalize h3 : P 3 = a3
  pointwise
  subst h0 h1 h2 h3
  match h, hv with
  | 0, hv => rw [dif_pos (by omega)]; exact congrArg (fun y => P 0 (ix2 r y)) (Fin.ext (by dsimp only; omega))
  | 1, hv =>
    rw [dif_neg (by omega), dif_pos (by omega)]; exact congrArg (fun y => P 1 (ix2 r y)) (Fin.ext (by dsimp only; omega))
  | 2, hv =>
    rw [dif_neg (by omega), dif_neg (by omega), dif_pos (by omega)]
    exact congrArg (fun y => P 2 (ix2 r y)) (Fin.ext (by dsimp only; omega))
  | 3, hv =>
    rw [dif_neg (by omega), dif_neg (by omega), dif_neg (by omega)]
    exact congrArg (fun y => P 3 (ix2 r y)) (Fin.ext (by dsimp only; omega))

/-- The columns of head `h` in a block of query rows. -/
def qh (X : Vec F S512x512 .bf16) (h : Fin 4) : Vec F S512x128 .bf16 :=
  View.ld X (Rect.unit (s := S512x512) ![0, 128 * h.val] S512x128.size (by intro a; fin_cases a <;> simp <;> omega))

/-- The columns of head `h` in the keys or the values. -/
def kh (X : Vec F S256x512 .bf16) (h : Fin 4) : Vec F S256x128 .bf16 :=
  View.ld X (Rect.unit (s := S256x512) ![0, 128 * h.val] S256x128.size (by intro a; fin_cases a <;> simp <;> omega))

theorem qh_at (X : Vec Ideal S512x512 .bf16) (h : Fin 4) (r : Fin 512) (e : Fin 128) :
    qh X h (ix2 r e) = X (ix2 r (col h e)) := by
  refine congrArg X ?_
  funext a
  apply Fin.ext
  match a with
  | ⟨0, _⟩ => show 0 + 1 * r.val = r.val; omega
  | ⟨1, _⟩ => show 128 * h.val + 1 * e.val = 128 * h.val + e.val; omega

theorem kh_at (X : Vec Ideal S256x512 .bf16) (h : Fin 4) (r : Fin 256) (e : Fin 128) :
    kh X h (ix2 r e) = X (ix2 r (col h e)) := by
  refine congrArg X ?_
  funext a
  apply Fin.ext
  match a with
  | ⟨0, _⟩ => show 0 + 1 * r.val = r.val; omega
  | ⟨1, _⟩ => show 128 * h.val + 1 * e.val = 128 * h.val + e.val; omega

/-! ## The three tiles -/

/-- The block of query gradients the body stores. -/
def dqTile (Q : Vec F S512x512 .bf16) (K V : Vec F S256x512 .bf16) (D : Vec F S512x512 .bf16) : FVec F S512x512 .bf16 :=
  truncf .bf16 (cat512 fun h => k0_pay10 (qh Q h) (kh K h) (kh V h) (qh D h)) bitsLt_bf16_f32

/-- What the block of query rows adds to the key gradients. -/
def dkTile (Q : Vec F S512x512 .bf16) (K V : Vec F S256x512 .bf16) (D : Vec F S512x512 .bf16) : FVec F S256x512 .f32 :=
  cat256 fun h => k0_pay11 (qh Q h) (kh K h) (kh V h) (qh D h)

/-- What the block of query rows adds to the value gradients. -/
def dvTile (Q : Vec F S512x512 .bf16) (K : Vec F S256x512 .bf16) (D : Vec F S512x512 .bf16) : FVec F S256x512 .f32 :=
  cat256 fun h => k0_pay8 (qh Q h) (kh K h) (qh D h)

theorem dqTile_at (Q : Vec Ideal S512x512 .bf16) (K V : Vec Ideal S256x512 .bf16) (D : Vec Ideal S512x512 .bf16)
    (r : Fin 512) (h : Fin 4) (e : Fin 128) :
    dqTile (F := Ideal) Q K V D (ix2 r (col h e))
      = rowDq (fun c => Q (ix2 r c)) (fun c => D (ix2 r c)) (fun j c => K (ix2 j c)) (fun j c => V (ix2 j c)) h e := by
  refine (show _ = cat512 (F := Ideal) (fun h => k0_pay10 (qh Q h) (kh K h) (kh V h) (qh D h)) (ix2 r (col h e)) from rfl).trans ?_
  rw [cat512_at, pay10_at]
  simp only [sc, qh_at, kh_at]
  rfl

theorem dkTile_at (Q : Vec Ideal S512x512 .bf16) (K V : Vec Ideal S256x512 .bf16) (D : Vec Ideal S512x512 .bf16)
    (j : Fin 256) (h : Fin 4) (e : Fin 128) :
    dkTile (F := Ideal) Q K V D (ix2 j (col h e))
      = ∑ r : Fin 512, rowDk (fun c => Q (ix2 r c)) (fun c => D (ix2 r c)) (fun j c => K (ix2 j c))
          (fun j c => V (ix2 j c)) j h e := by
  unfold dkTile
  rw [cat256_at, pay11_at]
  simp only [sc, qh_at, kh_at]
  rfl

theorem dvTile_at (Q : Vec Ideal S512x512 .bf16) (K : Vec Ideal S256x512 .bf16) (D : Vec Ideal S512x512 .bf16)
    (j : Fin 256) (h : Fin 4) (e : Fin 128) :
    dvTile (F := Ideal) Q K D (ix2 j (col h e))
      = ∑ r : Fin 512, rowDv (fun c => Q (ix2 r c)) (fun c => D (ix2 r c)) (fun j c => K (ix2 j c)) j h e := by
  unfold dvTile
  rw [cat256_at, pay8_at]
  simp only [sc, qh_at, kh_at]
  rfl

/-! ## The stores' payloads are these tiles: every head's text is the first head's -/

theorem pay3_eq (a b c : FVec F S256x128 .f32) (q : Vec F S512x128 .bf16) (k v : Vec F S256x128 .bf16) (d : Vec F S512x128 .bf16) :
    k0_pay3 a b c q (k0_pay23 q k) (k0_pay25 v d) (k0_pay26 q k v d)
      = cat256 ![a, b, c, k0_pay11 q k v d] := by sl_kernel_rfl

theorem pay2_eq (a b c : FVec F S512x128 .f32) (q : Vec F S512x128 .bf16) (k v : Vec F S256x128 .bf16) (d : Vec F S512x128 .bf16) :
    k0_pay2 a b c k (k0_pay23 q k) (k0_pay25 v d) (k0_pay26 q k v d)
      = truncf .bf16 (cat512 ![a, b, c, k0_pay10 q k v d]) bitsLt_bf16_f32 := by sl_kernel_rfl

/-! ## What each grid point leaves in the three staging buffers -/

variable (m : (ℓ : Loc nD τ sig) → Buf (Elt F) ℓ)

open Idealize.ShloMosaic.TcCoe

theorem out4_A (c : Dev nD) (t : Fin cfg0.N) (h0 : t.val % 16 = 0) (h1 : ¬1 ≤ t.val) :
    (outsAt0 m c t.val t.isLt).1 = dqTile (iblk m c 0 t) (iblk m c 1 t) (iblk m c 2 t) (iblk m c 3 t) := by
  rw [outsAt0_A m c t h0 h1]
  frame_out
  sl_kernel_rfl

theorem out4_B (c : Dev nD) (t : Fin cfg0.N) (h0 : ¬t.val % 16 = 0) (h1 : 1 ≤ t.val) :
    (outsAt0 m c t.val t.isLt).1 = dqTile (iblk m c 0 t) (iblk m c 1 t) (iblk m c 2 t) (iblk m c 3 t) := by
  rw [outsAt0_B m c t h0 h1]
  frame_out
  sl_kernel_rfl

theorem out5_A (c : Dev nD) (t : Fin cfg0.N) (h0 : t.val % 16 = 0) (h1 : ¬1 ≤ t.val) :
    (outsAt0 m c t.val t.isLt).2.1 = dkTile (iblk m c 0 t) (iblk m c 1 t) (iblk m c 2 t) (iblk m c 3 t) := by
  rw [outsAt0_A m c t h0 h1]
  frame_out
  sl_kernel_rfl

theorem out5_B (c : Dev nD) (t : Fin cfg0.N) (h0 : ¬t.val % 16 = 0) (h1 : 1 ≤ t.val) :
    (outsAt0 m c t.val t.isLt).2.1 = addf (outsAt0 m c (t.val - 1) (Nat.lt_of_le_of_lt (Nat.sub_le _ _) t.isLt)).2.1
        (dkTile (iblk m c 0 t) (iblk m c 1 t) (iblk m c 2 t) (iblk m c 3 t)) := by
  rw [outsAt0_B m c t h0 h1]
  frame_out
  generalize (outsAt0 m c (t.val - 1) (Nat.lt_of_le_of_lt (Nat.sub_le _ _) t.isLt)).2.1 = X
  unfold k0_pay5
  dsimp only
  rw [shapeCast_self]
  sl_kernel_rfl

theorem out6_A (c : Dev nD) (t : Fin cfg0.N) (h0 : t.val % 16 = 0) (h1 : ¬1 ≤ t.val) :
    (outsAt0 m c t.val t.isLt).2.2 = dvTile (iblk m c 0 t) (iblk m c 1 t) (iblk m c 3 t) := by
  rw [outsAt0_A m c t h0 h1]
  frame_out
  sl_kernel_rfl

theorem out6_B (c : Dev nD) (t : Fin cfg0.N) (h0 : ¬t.val % 16 = 0) (h1 : 1 ≤ t.val) :
    (outsAt0 m c t.val t.isLt).2.2 = addf (outsAt0 m c (t.val - 1) (Nat.lt_of_le_of_lt (Nat.sub_le _ _) t.isLt)).2.2
        (dvTile (iblk m c 0 t) (iblk m c 1 t) (iblk m c 3 t)) := by
  rw [outsAt0_B m c t h0 h1]
  frame_out
  generalize (outsAt0 m c (t.val - 1) (Nat.lt_of_le_of_lt (Nat.sub_le _ _) t.isLt)).2.2 = X
  unfold k0_pay6
  dsimp only
  rw [shapeCast_self]
  sl_kernel_rfl

end Cert.KernelIdeal.Hand

end
-- ==== Proof.KernelValue.lean ====
/- The kernel's three result arrays, in closed form: the query gradients block by block, the key and value gradients
   summed over the sixteen blocks of query rows. -/
module

public import proofs.«01_k».proof.Proof.Tile

@[expose] public section

set_option maxRecDepth 16384

noncomputable section

namespace Cert.KernelIdeal.Hand

open Cert.KernelIdeal Cert.KernelIdeal.Gen Cert.Attn Idealize.ShloMosaic Idealize.ShloMosaic.Tactic
open Idealize.ShloMosaic.TcCoe

variable (m : (ℓ : Loc nD τ sig) → Buf (Elt Ideal) ℓ)

/-- The arguments' arrays. -/
abbrev argQ (c : Dev nD) : Vec Ideal S8192x512 .bf16 := m ((c : Thread nD τ).loc main_arg0)
abbrev argK (c : Dev nD) : Vec Ideal S256x512 .bf16 := m ((c : Thread nD τ).loc main_arg1)
abbrev argV (c : Dev nD) : Vec Ideal S256x512 .bf16 := m ((c : Thread nD τ).loc main_arg2)
abbrev argD (c : Dev nD) : Vec Ideal S8192x512 .bf16 := m ((c : Thread nD τ).loc main_arg3)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem lt16 (t : Fin cfg0.N) : t.val < 16 := lt_of_lt_of_eq t.isLt N_0

/-- Row `r` of block `t`, in the whole array. -/
def rowOf (t : Fin cfg0.N) (r : Fin 512) : Fin 8192 := ⟨t.val * 512 + r.val, by have := lt16 t; omega⟩

theorem blkQ (c : Dev nD) (t : Fin cfg0.N) (r x : Fin 512) :
    (iblk m c 0 t : Vec Ideal S512x512 .bf16) (ix2 r x) = argQ m c (ix2 (rowOf t r) x) := by
  blk_ext [iblk, V, idx0 t, rowOf]

theorem blkD (c : Dev nD) (t : Fin cfg0.N) (r x : Fin 512) :
    (iblk m c 3 t : Vec Ideal S512x512 .bf16) (ix2 r x) = argD m c (ix2 (rowOf t r) x) := by
  blk_ext [iblk, V, idx3 t, rowOf]

theorem blkK (c : Dev nD) (t : Fin cfg0.N) (r : Fin 256) (x : Fin 512) :
    (iblk m c 1 t : Vec Ideal S256x512 .bf16) (ix2 r x) = argK m c (ix2 r x) := by
  blk_ext [iblk, V, idx1 t]

theorem blkV (c : Dev nD) (t : Fin cfg0.N) (r : Fin 256) (x : Fin 512) :
    (iblk m c 2 t : Vec Ideal S256x512 .bf16) (ix2 r x) = argV m c (ix2 r x) := by
  blk_ext [iblk, V, idx2 t]

/-- Each point's first output is its block of query gradients. -/
theorem out4 (c : Dev nD) (t : Fin cfg0.N) :
    (outsAt0 m c t.val t.isLt).1 = dqTile (iblk m c 0 t) (iblk m c 1 t) (iblk m c 2 t) (iblk m c 3 t) := by
  have := lt16 t
  by_cases h : t.val % 16 = 0
  · exact out4_A m c t h (by omega)
  · exact out4_B m c t h (by omega)

/-- … which is the block's rows of the whole array of query gradients. -/
theorem dqTile_eq (c : Dev nD) (t : Fin cfg0.N) (r x : Fin 512) :
    dqTile (F := Ideal) (iblk m c 0 t) (iblk m c 1 t) (iblk m c 2 t) (iblk m c 3 t) (ix2 r x)
      = gradQ (argQ m c) (argD m c) (argK m c) (argV m c) (ix2 (rowOf t r) x) := by
  rw [← col_hd_ln x, dqTile_at]
  simp only [blkQ, blkD, blkK, blkV]
  unfold gradQ
  simp only [ix2_0, ix2_1, col_hd_ln]

theorem dkTile_eq (c : Dev nD) (t : Fin cfg0.N) (j : Fin 256) (x : Fin 512) :
    dkTile (F := Ideal) (iblk m c 0 t) (iblk m c 1 t) (iblk m c 2 t) (iblk m c 3 t) (ix2 j x)
      = ∑ r : Fin 512, rowDk (row (argQ m c) (rowOf t r)) (row (argD m c) (rowOf t r)) (row (argK m c)) (row (argV m c))
          j (hd x) (ln x) := by
  rw [← col_hd_ln x, dkTile_at]
  simp only [blkQ, blkD, blkK, blkV, col_hd_ln]

theorem dvTile_eq (c : Dev nD) (t : Fin cfg0.N) (j : Fin 256) (x : Fin 512) :
    dvTile (F := Ideal) (iblk m c 0 t) (iblk m c 1 t) (iblk m c 3 t) (ix2 j x)
      = ∑ r : Fin 512, rowDv (row (argQ m c) (rowOf t r)) (row (argD m c) (rowOf t r)) (row (argK m c)) j (hd x) (ln x) := by
  rw [← col_hd_ln x, dvTile_at]
  simp only [blkQ, blkD, blkK, col_hd_ln]

/-- The query gradients. -/
theorem final_q (c : Dev nD) : (dats m 0 c).arrAt 4 cfg0.N = gradQ (argQ m c) (argD m c) (argK m c) (argV m c) := by
  refine (dats m 0 c).arrAt_eq_of_covers 4 _ (by decide +kernel) fun t hf y => ?_
  blk_simp
  rw [after0_4, out4]
  have e1 : ∀ y : S512x512.Idx, dqTile (F := Ideal) (iblk m c 0 t) (iblk m c 1 t) (iblk m c 2 t) (iblk m c 3 t) y
      = gradQ (argQ m c) (argD m c) (argK m c) (argV m c) (ix2 (rowOf t (y 0)) (y 1)) := fun y =>
    (congrArg _ (eq_ix2 (n0 := 512) (n1 := 512) y)).trans (dqTile_eq m c t (y 0) (y 1))
  refine (e1 y).trans (congrArg _ ?_)
  blk_ext [idx4 t, rowOf]

/-- The last grid point. -/
abbrev tLast : Fin cfg0.N := ⟨15, by rw [show cfg0.N = 16 from N_0]; decide⟩

/-- A sum over the rows is the sum over the blocks of the sums over a block's rows. -/
theorem sum_rows (f : Fin 8192 → EReal) : ∑ t : Fin cfg0.N, ∑ r : Fin 512, f (rowOf t r) = ∑ r, f r := by
  rw [Fin.sum_univ_tiles 16 512 (by norm_num) f]
  exact Fintype.sum_equiv (finCongr N_0) _ _ fun t => rfl

/-- What a key or value gradient's buffer holds after the last point: the sum of every block's addition. -/
theorem acc_last (f : (n : ℕ) → n < cfg0.N → S256x512.Idx → EReal) (term : Fin cfg0.N → S256x512.Idx → EReal)
    (hA : ∀ t : Fin cfg0.N, t.val % 16 = 0 → ∀ i, f t.val t.isLt i = term t i)
    (hB : ∀ t : Fin cfg0.N, ¬t.val % 16 = 0 →
      ∀ i, f t.val t.isLt i = f (t.val - 1) (Nat.lt_of_le_of_lt (Nat.sub_le _ _) t.isLt) i + term t i)
    (i : S256x512.Idx) : f 15 tLast.isLt i = ∑ t, term t i := by
  have h := Pipeline.eq_sum_fin_of_reset_step_apply_last f 16 (fun _ => (0 : EReal)) term
    (fun t h i => by rw [hA t h, zero_add]) hB (le_of_eq N_0) tLast (N_0.symm : 15 + 1 = cfg0.N) i
  rw [zero_add] at h
  exact h

/-- The key gradients. -/
theorem final_k (c : Dev nD) : (dats m 0 c).arrAt 5 cfg0.N = gradK (argQ m c) (argD m c) (argK m c) (argV m c) := by
  refine (dats m 0 c).arrAt_eq_of_after_last 5 tLast (by decide +kernel) _ fun y => ?_
  blk_simp
  rw [after0_5]
  have e1 : ∀ y : S256x512.Idx, (outsAt0 m c 15 tLast.isLt).2.1 y
      = gradK (argQ m c) (argD m c) (argK m c) (argV m c) y := fun y => by
    rw [acc_last (fun n h => (outsAt0 m c n h).2.1)
      (fun t => dkTile (F := Ideal) (iblk m c 0 t) (iblk m c 1 t) (iblk m c 2 t) (iblk m c 3 t))
      (fun t h i => congrFun (out5_A m c t h (by have := lt16 t; omega)) i)
      (fun t h i => congrFun (out5_B m c t h (by have := lt16 t; omega)) i) y]
    refine .trans (Finset.sum_congr rfl fun t _ =>
      (congrArg _ (eq_ix2 (n0 := 256) (n1 := 512) y)).trans (dkTile_eq m c t (y 0) (y 1))) ?_
    exact sum_rows fun r => rowDk (row (argQ m c) r) (row (argD m c) r) (row (argK m c)) (row (argV m c)) (y 0) (hd (y 1)) (ln (y 1))
  exact e1 y

/-- The value gradients. -/
theorem final_v (c : Dev nD) : (dats m 0 c).arrAt 6 cfg0.N = gradV (argQ m c) (argD m c) (argK m c) := by
  refine (dats m 0 c).arrAt_eq_of_after_last 6 tLast (by decide +kernel) _ fun y => ?_
  blk_simp
  rw [after0_6]
  have e1 : ∀ y : S256x512.Idx, (outsAt0 m c 15 tLast.isLt).2.2 y
      = gradV (argQ m c) (argD m c) (argK m c) y := fun y => by
    rw [acc_last (fun n h => (outsAt0 m c n h).2.2)
      (fun t => dvTile (F := Ideal) (iblk m c 0 t) (iblk m c 1 t) (iblk m c 3 t))
      (fun t h i => congrFun (out6_A m c t h (by have := lt16 t; omega)) i)
      (fun t h i => congrFun (out6_B m c t h (by have := lt16 t; omega)) i) y]
    refine .trans (Finset.sum_congr rfl fun t _ =>
      (congrArg _ (eq_ix2 (n0 := 256) (n1 := 512) y)).trans (dvTile_eq m c t (y 0) (y 1))) ?_
    exact sum_rows fun r => rowDv (row (argQ m c) r) (row (argD m c) r) (row (argK m c)) (y 0) (hd (y 1)) (ln (y 1))
  exact e1 y

end Cert.KernelIdeal.Hand

end
-- ==== Proof.RefValue.lean ====
/- The reference's three results, read at an entry: its operations named stage by stage, each stage read as the sums of
   `Heads.lean`. -/
module

public import proofs.«01_k».proof.Proof.Gen.ReferenceIdeal.Run
public import proofs.«01_k».proof.Proof.Heads
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value Cert.Attn Idealize.ShloMosaic Idealize.ShloMosaic.Tactic
open Idealize.ShloMosaic.TcCoe

variable {F : FTy → Type} [FloatOps F]

/-! ## The stages -/

/-- Query rows split into heads, and keys or values split into heads. -/
def split8192 (x : FVec F S8192x512 .bf16) : FVec F S8192x4x128 .f32 :=
  shapeCast S8192x4x128 (extf .f32 x bitsLt_bf16_f32) shapeCasts_S8192x512_S8192x4x128
def split256 (x : FVec F S256x512 .bf16) : FVec F S256x4x128 .f32 :=
  shapeCast S256x4x128 (extf .f32 x bitsLt_bf16_f32) shapeCasts_S256x512_S256x4x128

/-- One value per row, along the row. -/
def along (x : FVec F S4x8192 .f32) : FVec F S4x8192x256 .f32 :=
  broadcastInDim S4x8192x256 ![0, 1, 2] bcast_S4x8192x1_S4x8192x256_0_1_2
    (broadcastInDim S4x8192x1 ![0, 1] bcast_S4x8192_S4x8192x1_0_1 x)

/-- The scores. -/
def rL (q : FVec F S8192x512 .bf16) (k : FVec F S256x512 .bf16) : FVec F S4x8192x256 .f32 :=
  mulf (Host.dotGeneral dot_S8192x4x128_S256x4x128_S4x8192x256_2_2_0_0_1_1 none (split8192 q) (split256 k))
    (broadcastInDim S4x8192x256 ![] bcast_S_S4x8192x256 (constant S_ .f32 0x3DB504F3#32))

/-- A row's maximum. -/
def rM (l : FVec F S4x8192x256 .f32) : FVec F S4x8192 .f32 :=
  maximumf (broadcastInDim S4x8192 ![] bcast_S_S4x8192 (constant S_ .f32 0xFF800000#32))
    (Host.reduce FloatOps.maximumf l (constant S_ .f32 0xFF800000#32) reducesTo_S4x8192x256_S4x8192_d2 h_S_)

/-- The unnormalised weights, and their sums. -/
def rE (l : FVec F S4x8192x256 .f32) : FVec F S4x8192x256 .f32 := Host.exp (subf l (along (rM l)))
def rS (e : FVec F S4x8192x256 .f32) : FVec F S4x8192 .f32 :=
  Host.reduceAdd e (constant S_ .f32 0x00000000#32) reducesTo_S4x8192x256_S4x8192_d2 h_S_

/-- The output gradients with the rows last, and the gradients of the weights. -/
def rDt (d : FVec F S8192x512 .bf16) : FVec F S4x128x8192 .f32 :=
  transpose S4x128x8192 [1, 2, 0] (split8192 d) transposes_S8192x4x128_S4x128x8192_1_2_0
def rDp (d : FVec F S8192x512 .bf16) (v : FVec F S256x512 .bf16) : FVec F S4x8192x256 .f32 :=
  Host.dotGeneral dot_S4x128x8192_S256x4x128_S4x8192x256_1_2_2_0_0_1 none (rDt d) (split256 v)

/-- What the sum below the quotient contributes: one value per row. -/
def rC (e dp : FVec F S4x8192x256 .f32) : FVec F S4x8192 .f32 :=
  Host.reduceAdd (Host.negf (shapeCast S4x8192x1 (Host.reduceAdd (mulf (mulf dp
      (broadcastInDim S4x8192x256 ![0, 1, 2] bcast_S4x8192x1_S4x8192x256_0_1_2
        (Host.divf (broadcastInDim S4x8192x1 ![] bcast_S_S4x8192x1 (constant S_ .f32 0x3F800000#32))
          (mulf (broadcastInDim S4x8192x1 ![0, 1] bcast_S4x8192_S4x8192x1_0_1 (rS e))
            (broadcastInDim S4x8192x1 ![0, 1] bcast_S4x8192_S4x8192x1_0_1 (rS e)))))) e)
      (constant S_ .f32 0x00000000#32) reducesTo_S4x8192x256_S4x8192_d2 h_S_) shapeCasts_S4x8192_S4x8192x1))
    (constant S_ .f32 0x00000000#32) reducesTo_S4x8192x1_S4x8192_d2 h_S_

/-- The gradients of the scores. -/
def rDs (e dp : FVec F S4x8192x256 .f32) : FVec F S4x8192x256 .f32 :=
  mulf (mulf (addf (Host.divf dp (along (rS e)))
      (broadcastInDim S4x8192x256 ![0, 1] bcast_S4x8192_S4x8192x256_0_1 (rC e dp))) e)
    (broadcastInDim S4x8192x256 ![] bcast_S_S4x8192x256 (constant S_ .f32 0x3DB504F3#32))

/-- The three results. -/
def rDq (q d : FVec F S8192x512 .bf16) (k v : FVec F S256x512 .bf16) : FVec F S8192x512 .bf16 :=
  truncf .bf16 (shapeCast S8192x512 (transpose S8192x4x128 [1, 0, 2]
    (Host.dotGeneral dot_S4x8192x256_S256x4x128_S4x8192x128_2_0_1_2_0_1 none (rDs (rE (rL q k)) (rDp d v)) (split256 k))
    transposes_S4x8192x128_S8192x4x128_1_0_2) shapeCasts_S8192x4x128_S8192x512) bitsLt_bf16_f32
def rDk (q d : FVec F S8192x512 .bf16) (k v : FVec F S256x512 .bf16) : FVec F S256x512 .f32 :=
  extf .f32 (truncf .bf16 (shapeCast S256x512 (transpose S256x4x128 [1, 0, 2]
    (Host.dotGeneral dot_S4x8192x256_S8192x4x128_S4x256x128_1_0_2_2_0_1 none (rDs (rE (rL q k)) (rDp d v)) (split8192 q))
    transposes_S4x256x128_S256x4x128_1_0_2) shapeCasts_S256x4x128_S256x512) bitsLt_bf16_f32) bitsLt_bf16_f32
def rDv (q d : FVec F S8192x512 .bf16) (k : FVec F S256x512 .bf16) : FVec F S256x512 .f32 :=
  extf .f32 (truncf .bf16 (shapeCast S256x512 (transpose S256x4x128 [2, 0, 1]
    (Host.dotGeneral dot_S4x128x8192_S4x8192x256_S4x128x256_2_1_1_2_0_0 none (rDt d)
      (Host.divf (rE (rL q k)) (along (rS (rE (rL q k))))))
    transposes_S4x128x256_S256x4x128_2_0_1) shapeCasts_S256x4x128_S256x512) bitsLt_bf16_f32) bitsLt_bf16_f32

section
variable (m : (ℓ : Loc nD τ sig) → Buf (Elt F) ℓ) (ρ : Dev nD → PrngReg)

abbrev argQ (c : Dev nD) : FVec F S8192x512 .bf16 := m ((c.tc : Thread nD τ).loc main_arg0)
abbrev argK (c : Dev nD) : FVec F S256x512 .bf16 := m ((c.tc : Thread nD τ).loc main_arg1)
abbrev argV (c : Dev nD) : FVec F S256x512 .bf16 := m ((c.tc : Thread nD τ).loc main_arg2)
abbrev argD (c : Dev nD) : FVec F S8192x512 .bf16 := m ((c.tc : Thread nD τ).loc main_arg3)

/-- The reference's run, its results by these stages. -/
theorem run_stages : θ_run defs (onTc (τ := τ) (main (F := F))) ⟨m, fun _ => 0, ρ⟩ fun r => ∀ c : Dev nD,
      r.2.mem ((c.tc : Thread nD τ).loc main_v69) = rDq (argQ m c) (argD m c) (argK m c) (argV m c)
      ∧ r.2.mem ((c.tc : Thread nD τ).loc main_v70) = rDk (argQ m c) (argD m c) (argK m c) (argV m c)
      ∧ r.2.mem ((c.tc : Thread nD τ).loc main_v71) = rDv (argQ m c) (argD m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by sl_kernel_rfl), (h c).2.1.trans (by sl_kernel_rfl),
    (h c).2.2.1.trans (by sl_kernel_rfl), (h c).2.2.2⟩) (Cert.ReferenceIdeal.Value.run m ρ)
end

/-! ## The stages at an entry -/

section
variable (q d : Vec Ideal ⟨2, ![8192, 512]⟩ .bf16) (k v : Vec Ideal ⟨2, ![256, 512]⟩ .bf16)

theorem split8192_at (r : Fin 8192) (h : Fin 4) (e : Fin 128) :
    split8192 (F := Ideal) q (ix3 r h e) = q (ix2 r (col h e)) := by
  pointwise [split8192]
  exact congrArg (fun x => q (ix2 r x)) (Fin.ext (by simp only [col]; omega))

theorem split256_at (r : Fin 256) (h : Fin 4) (e : Fin 128) :
    split256 (F := Ideal) k (ix3 r h e) = k (ix2 r (col h e)) := by
  pointwise [split256]
  exact congrArg (fun x => k (ix2 r x)) (Fin.ext (by simp only [col]; omega))

theorem rL_at (h : Fin 4) (r : Fin 8192) (j : Fin 256) : rL (F := Ideal) q k (ix3 h r j) = scores (row q r) (row k) h j := by
  pointwise [rL]
  simp only [split8192_at, split256_at]
  rfl

theorem reduceMax_at (l : FVec Ideal S4x8192x256 .f32) (h : Fin 4) (r : Fin 8192) :
    Host.reduce FloatOps.maximumf l (constant S_ .f32 0xFF800000#32) reducesTo_S4x8192x256_S4x8192_d2 h_S_ (ix2 h r)
      = rowMax (fun j => l (ix3 h r j)) := by
  pointwise
  rfl

theorem max_at (a b : FVec Ideal S4x8192 .f32) (i : S4x8192.Idx) : maximumf a b i = max (a i) (b i) := rfl

theorem floor_at (h : Fin 4) (r : Fin 8192) :
    broadcastInDim S4x8192 ![] bcast_S_S4x8192 (constant (F := Ideal) S_ .f32 0xFF800000#32) (ix2 h r) = floor := rfl

theorem rM_at (l : FVec Ideal S4x8192x256 .f32) (h : Fin 4) (r : Fin 8192) :
    rM l (ix2 h r) = rowMax (fun j => l (ix3 h r j)) := by
  unfold rM
  rw [max_at, floor_at, reduceMax_at, floor_eq]
  exact max_eq_right bot_le

theorem rE_at (l : FVec Ideal S4x8192x256 .f32) (h : Fin 4) (r : Fin 8192) (j : Fin 256) :
    rE l (ix3 h r j) = wt (fun j => l (ix3 h r j)) j := by
  pointwise [rE, along]
  simp only [rM_at]
  rfl

theorem rS_at (e : FVec Ideal S4x8192x256 .f32) (h : Fin 4) (r : Fin 8192) :
    rS e (ix2 h r) = ∑ j, e (ix3 h r j) := by
  pointwise [rS]

theorem rDp_at (h : Fin 4) (r : Fin 8192) (j : Fin 256) :
    rDp (F := Ideal) d v (ix3 h r j) = dprob (row d r) (row v) h j := by
  pointwise [rDp, rDt]
  simp only [split8192_at, split256_at]
  rfl

theorem rDs_at (e dp : FVec Ideal S4x8192x256 .f32) (h : Fin 4) (r : Fin 8192) (j : Fin 256) :
    rDs e dp (ix3 h r j)
      = (Ideal.div (dp (ix3 h r j)) (∑ x, e (ix3 h r x))
          + -∑ x, dp (ix3 h r x) * Ideal.div 1 ((∑ x, e (ix3 h r x)) * ∑ x, e (ix3 h r x)) * e (ix3 h r x))
        * e (ix3 h r j) * scale := by
  pointwise [rDs, along, rC]
  simp only [rS_at]
  rw [Fin.sum_univ_one]
  rfl

/-- The gradients of the scores of real query rows and keys. -/
theorem ds_at (hq : ∀ i, ∃ x : ℝ, q i = x) (hk : ∀ i, ∃ x : ℝ, k i = x) (h : Fin 4) (r : Fin 8192) (j : Fin 256) :
    rDs (F := Ideal) (rE (rL q k)) (rDp d v) (ix3 h r j) = dscore (row q r) (row d r) (row k) (row v) h j := by
  rw [rDs_at, ← dscore_eq _ _ _ _ (fun c => hq _) (fun j c => hk _)]
  simp only [rE_at, rL_at, rDp_at]
  rfl

/-- The query gradients. -/
theorem rDq_eq (hq : ∀ i, ∃ x : ℝ, q i = x) (hk : ∀ i, ∃ x : ℝ, k i = x) : rDq (F := Ideal) q d k v = gradQ q d k v := by
  have h : ∀ (r : Fin 8192) (x : Fin 512), rDq (F := Ideal) q d k v (ix2 r x) = gradQ q d k v (ix2 r x) := fun r x => by
    pointwise [rDq]
    simp only [split256_at, ds_at q d k v hq hk]
    unfold gradQ
    simp only [ix2_0, ix2_1]
    rfl
  exact funext fun i => by rw [eq_ix2 i]; exact h _ _

/-- The key gradients. -/
theorem rDk_eq (hq : ∀ i, ∃ x : ℝ, q i = x) (hk : ∀ i, ∃ x : ℝ, k i = x) : rDk (F := Ideal) q d k v = gradK q d k v := by
  have h : ∀ (r : Fin 256) (x : Fin 512), rDk (F := Ideal) q d k v (ix2 r x) = gradK q d k v (ix2 r x) := fun r x => by
    pointwise [rDk]
    simp only [split8192_at, ds_at q d k v hq hk]
    unfold gradK
    simp only [ix2_0, ix2_1]
    rfl
  exact funext fun i => by rw [eq_ix2 i]; exact h _ _

/-- The value gradients: on any arguments. -/
theorem rDv_eq : rDv (F := Ideal) q d k = gradV q d k := by
  have h : ∀ (r : Fin 256) (x : Fin 512), rDv (F := Ideal) q d k (ix2 r x) = gradV q d k (ix2 r x) := fun r x => by
    pointwise [rDv, rDt, along]
    simp only [split8192_at, rS_at, rE_at, rL_at]
    unfold gradV
    simp only [ix2_0, ix2_1]
    exact Finset.sum_congr rfl fun r _ => mul_comm _ _
  exact funext fun i => by rw [eq_ix2 i]; exact h _ _

end

end Cert.ReferenceIdeal.Hand

end
-- ==== Proof.Finite.lean ====
/- The precondition read: finite queries and keys are real numbers. -/
module

public import proofs.«01_k».proof.Proof.Gen.Pre_finite
public import Idealize.ShloMosaic.Lib.Pipeline.ValueKit
public import Idealize.ShloMosaic.Lib.ReduceAll

@[expose] public section

set_option maxRecDepth 16384

noncomputable section

namespace Cert.Pre_finite.Hand

open Cert.Pre_finite Cert.Pre_finite.Gen Idealize.ShloMosaic

theorem subsingleton : Subsingleton S_.Idx := ⟨fun a b => funext fun i => i.elim0⟩

theorem split (a b : BitVec 1) (h : IntOp.andi a b = 1#1) : a = 1#1 ∧ b = 1#1 := by
  revert a b
  decide

/-- The constant the entries are compared with is infinity. -/
theorem top_eq : Ideal.ofBits .f32 2139095040#32 = ⊤ := by simp [Ideal.ofBits, Ideal.ieee]

/-- An extended real of absolute value below the top is real. -/
theorem real_of_lt (x : EReal)
    (h : BitVec.ofBool (decide (FloatOps.absf (F := Ideal) (φ := .f32) x < Ideal.ofBits FTy.f32 2139095040#32)) = 1#1) :
    ∃ r : ℝ, x = r := by
  have h1 : FloatOps.absf (F := Ideal) (φ := .f32) x < ⊤ := by
    rw [← top_eq]
    by_contra hc
    rw [decide_eq_false hc] at h
    exact absurd h (by decide)
  have h2 : max x (-x) < ⊤ := h1
  induction x with
  | coe r => exact ⟨r, rfl⟩
  | bot => simp at h2
  | top => simp at h2

/-- The predicate's two halves: every entry compares below infinity. -/
theorem real_of_fn (q : FVec Ideal S8192x512 .bf16) (k v : FVec Ideal S256x512 .bf16) (d : FVec Ideal S8192x512 .bf16)
    (h : Cert.Pre_finite.fn (F := Ideal) q k v d = fun _ => 1#1) :
    (∀ i, ∃ x : ℝ, q i = x) ∧ ∀ i, ∃ x : ℝ, k i = x := by
  have h0 := congrFun h (fun i => i.elim0)
  unfold Cert.Pre_finite.fn at h0
  dsimp only at h0
  haveI := subsingleton
  obtain ⟨h1, h2⟩ := split _ _ h0
  have h3 := Host.reduce_andi_all _ _ _ _ _ h1
  have h4 := Host.reduce_andi_all _ _ _ _ _ h2
  exact ⟨fun i => real_of_lt _ (h3 i), fun i => real_of_lt _ (h4 i)⟩

end Cert.Pre_finite.Hand

end
-- ==== Proof.Products.lean ====
/- A projection's product and the two of its gradient, and one block of each: the block at rows `i` and columns `j` of the whole
   product is the product of the blocks at `i` and at `j`. -/
module

public import Idealize.ShloMosaic.Lib.Pipeline.ValueKit
public import Idealize.ShloMosaic.Lib.Pointwise

@[expose] public section

noncomputable section

namespace Cert.Products

open Idealize.ShloMosaic

/-- Every row of `a` against every row of `b`: a cotangent against a weight's rows. -/
def rowsRows {M N K : ℕ} (a : (⟨2, ![M, K]⟩ : Shape).Idx → EReal) (b : (⟨2, ![N, K]⟩ : Shape).Idx → EReal) :
    (⟨2, ![M, N]⟩ : Shape).Idx → EReal :=
  fun y => ∑ x : Fin K, a (ix2 (y 0) x) * b (ix2 (y 1) x)

/-- Every column of `a` against every column of `b`: an input against a cotangent. -/
def colsCols {M N K : ℕ} (a : (⟨2, ![K, M]⟩ : Shape).Idx → EReal) (b : (⟨2, ![K, N]⟩ : Shape).Idx → EReal) :
    (⟨2, ![M, N]⟩ : Shape).Idx → EReal :=
  fun y => ∑ x : Fin K, a (ix2 x (y 0)) * b (ix2 x (y 1))

/-- Every row of `a` against every column of `b`: an input against a weight. -/
def rowsCols {M N K : ℕ} (a : (⟨2, ![M, K]⟩ : Shape).Idx → EReal) (b : (⟨2, ![K, N]⟩ : Shape).Idx → EReal) :
    (⟨2, ![M, N]⟩ : Shape).Idx → EReal :=
  fun y => ∑ x : Fin K, a (ix2 (y 0) x) * b (ix2 x (y 1))

variable {M N K m n : ℕ}

theorem rowsRows_block {A : (⟨2, ![M, K]⟩ : Shape).Idx → EReal} {B : (⟨2, ![N, K]⟩ : Shape).Idx → EReal}
    {a : (⟨2, ![m, K]⟩ : Shape).Idx → EReal} {b : (⟨2, ![n, K]⟩ : Shape).Idx → EReal} (i : Fin m → Fin M) (j : Fin n → Fin N)
    (ha : ∀ r x, a (ix2 r x) = A (ix2 (i r) x)) (hb : ∀ r x, b (ix2 r x) = B (ix2 (j r) x)) (y : (⟨2, ![m, n]⟩ : Shape).Idx) :
    rowsRows a b y = rowsRows A B (ix2 (i (y 0)) (j (y 1))) :=
  Finset.sum_congr rfl fun x _ => congrArg₂ (· * ·) (ha (y 0) x) (hb (y 1) x)

theorem colsCols_block {A : (⟨2, ![K, M]⟩ : Shape).Idx → EReal} {B : (⟨2, ![K, N]⟩ : Shape).Idx → EReal}
    {a : (⟨2, ![K, m]⟩ : Shape).Idx → EReal} {b : (⟨2, ![K, n]⟩ : Shape).Idx → EReal} (i : Fin m → Fin M) (j : Fin n → Fin N)
    (ha : ∀ x r, a (ix2 x r) = A (ix2 x (i r))) (hb : ∀ x r, b (ix2 x r) = B (ix2 x (j r))) (y : (⟨2, ![m, n]⟩ : Shape).Idx) :
    colsCols a b y = colsCols A B (ix2 (i (y 0)) (j (y 1))) :=
  Finset.sum_congr rfl fun x _ => congrArg₂ (· * ·) (ha x (y 0)) (hb x (y 1))

/-- The same, of a block that was computed: `p` is the product of the blocks `a` and `b`. -/
theorem rowsRows_whole {a : (⟨2, ![m, K]⟩ : Shape).Idx → EReal} {b : (⟨2, ![n, K]⟩ : Shape).Idx → EReal}
    {p : (⟨2, ![m, n]⟩ : Shape).Idx → EReal} (i : Fin m → Fin M) (j : Fin n → Fin N) (e : p = rowsRows a b)
    (A : (⟨2, ![M, K]⟩ : Shape).Idx → EReal) (B : (⟨2, ![N, K]⟩ : Shape).Idx → EReal)
    (ha : ∀ r x, a (ix2 r x) = A (ix2 (i r) x)) (hb : ∀ r x, b (ix2 r x) = B (ix2 (j r) x)) (y : (⟨2, ![m, n]⟩ : Shape).Idx) :
    p y = rowsRows A B (ix2 (i (y 0)) (j (y 1))) :=
  (congrFun e y).trans (rowsRows_block i j ha hb y)

theorem colsCols_whole {a : (⟨2, ![K, m]⟩ : Shape).Idx → EReal} {b : (⟨2, ![K, n]⟩ : Shape).Idx → EReal}
    {p : (⟨2, ![m, n]⟩ : Shape).Idx → EReal} (i : Fin m → Fin M) (j : Fin n → Fin N) (e : p = colsCols a b)
    (A : (⟨2, ![K, M]⟩ : Shape).Idx → EReal) (B : (⟨2, ![K, N]⟩ : Shape).Idx → EReal)
    (ha : ∀ x r, a (ix2 x r) = A (ix2 x (i r))) (hb : ∀ x r, b (ix2 x r) = B (ix2 x (j r))) (y : (⟨2, ![m, n]⟩ : Shape).Idx) :
    p y = colsCols A B (ix2 (i (y 0)) (j (y 1))) :=
  (congrFun e y).trans (colsCols_block i j ha hb y)

theorem rowsCols_whole {a : (⟨2, ![m, K]⟩ : Shape).Idx → EReal} {b : (⟨2, ![K, n]⟩ : Shape).Idx → EReal}
    {p : (⟨2, ![m, n]⟩ : Shape).Idx → EReal} (i : Fin m → Fin M) (j : Fin n → Fin N) (e : p = rowsCols a b)
    (A : (⟨2, ![M, K]⟩ : Shape).Idx → EReal) (B : (⟨2, ![K, N]⟩ : Shape).Idx → EReal)
    (ha : ∀ r x, a (ix2 r x) = A (ix2 (i r) x)) (hb : ∀ x r, b (ix2 x r) = B (ix2 x (j r))) (y : (⟨2, ![m, n]⟩ : Shape).Idx) :
    p y = rowsCols A B (ix2 (i (y 0)) (j (y 1))) :=
  (congrFun e y).trans (Finset.sum_congr rfl fun x _ => congrArg₂ (· * ·) (ha (y 0) x) (hb x (y 1)))

/-- A product with something added to it, which is tiled as the product is. -/
theorem rowsCols_add_whole {a : (⟨2, ![m, K]⟩ : Shape).Idx → EReal} {b : (⟨2, ![K, n]⟩ : Shape).Idx → EReal}
    {p s : (⟨2, ![m, n]⟩ : Shape).Idx → EReal} (i : Fin m → Fin M) (j : Fin n → Fin N) (e : p = rowsCols a b + s)
    (A : (⟨2, ![M, K]⟩ : Shape).Idx → EReal) (B : (⟨2, ![K, N]⟩ : Shape).Idx → EReal) (S : (⟨2, ![M, N]⟩ : Shape).Idx → EReal)
    (ha : ∀ r x, a (ix2 r x) = A (ix2 (i r) x)) (hb : ∀ x r, b (ix2 x r) = B (ix2 x (j r)))
    (hs : ∀ r q, s (ix2 r q) = S (ix2 (i r) (j q))) (y : (⟨2, ![m, n]⟩ : Shape).Idx) :
    p y = (S + rowsCols A B) (ix2 (i (y 0)) (j (y 1))) :=
  (congrFun e y).trans ((add_comm _ _).trans (congrArg₂ (· + ·)
    ((congrArg s (eq_ix2 y)).trans (hs (y 0) (y 1))) (rowsCols_whole i j rfl A B ha hb y)))

/-! ### The matrix operations that compute them

The program's own operation has the dimension numbers below; a narrowing or a widening around it is the identity on extended reals. -/

/-- A contraction of both second axes. -/
def dimsRows (M N K : ℕ)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ :=
  ⟨[1], [1], [0], [0], [], [], wf⟩

/-- A contraction of both first axes. -/
def dimsCols (M N K : ℕ)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ :=
  ⟨[0], [0], [1], [1], [], [], wf⟩

/-- A contraction of the second axis with the first. -/
def dimsPlain (M N K : ℕ)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- The exact contraction of the second axis with the first, onto zero. -/
theorem ideal_plain {wf} (a : (⟨2, ![M, K]⟩ : Shape).Idx → EReal) (b : (⟨2, ![K, N]⟩ : Shape).Idx → EReal) :
    Ideal.matmul (dimsPlain M N K wf) a b (fun _ => 0) = rowsCols a b := by
  funext y
  rw [Ideal.matmul_apply₁ (dimsPlain M N K wf) rfl rfl, zero_add]
  refine Finset.sum_congr rfl fun x _ => congrArg₂ (· * ·) (congrArg a ?_) (congrArg b ?_) <;>
    · funext i
      match i with
      | ⟨0, _⟩ => rfl
      | ⟨1, _⟩ => rfl

/-- The exact contraction over both second axes, onto zero. -/
theorem ideal_rows {wf} (a : (⟨2, ![M, K]⟩ : Shape).Idx → EReal) (b : (⟨2, ![N, K]⟩ : Shape).Idx → EReal) :
    Ideal.matmul (dimsRows M N K wf) a b (fun _ => 0) = rowsRows a b := by
  funext y
  rw [Ideal.matmul_apply₁ (dimsRows M N K wf) rfl rfl, zero_add]
  refine Finset.sum_congr rfl fun x _ => congrArg₂ (· * ·) (congrArg a ?_) (congrArg b ?_) <;>
    · funext i
      match i with
      | ⟨0, _⟩ => rfl
      | ⟨1, _⟩ => rfl

/-- The exact contraction over both first axes, onto zero. -/
theorem ideal_cols {wf} (a : (⟨2, ![K, M]⟩ : Shape).Idx → EReal) (b : (⟨2, ![K, N]⟩ : Shape).Idx → EReal) :
    Ideal.matmul (dimsCols M N K wf) a b (fun _ => 0) = colsCols a b := by
  funext y
  rw [Ideal.matmul_apply₁ (dimsCols M N K wf) rfl rfl, zero_add]
  refine Finset.sum_congr rfl fun x _ => congrArg₂ (· * ·) (congrArg a ?_) (congrArg b ?_) <;>
    · funext i
      match i with
      | ⟨0, _⟩ => rfl
      | ⟨1, _⟩ => rfl

theorem zeros {s : Shape} : (constant s .f32 0x00000000#32 : FVec Ideal s .f32) = fun _ => 0 := by
  funext y
  pointwise []

theorem matmul_rows {φ : FTy} {wf} (a : FVec Ideal ⟨2, ![M, K]⟩ φ) (b : FVec Ideal ⟨2, ![N, K]⟩ φ) :
    matmul (dimsRows M N K wf) none a b (constant ⟨2, ![M, N]⟩ .f32 0x00000000#32) = rowsRows a b := by
  rw [zeros]
  exact ideal_rows a b

theorem matmul_cols {φ : FTy} {wf} (a : FVec Ideal ⟨2, ![K, M]⟩ φ) (b : FVec Ideal ⟨2, ![K, N]⟩ φ) :
    matmul (dimsCols M N K wf) none a b (constant ⟨2, ![M, N]⟩ .f32 0x00000000#32) = colsCols a b := by
  rw [zeros]
  exact ideal_cols a b

theorem dot_rows {φ : FTy} {wf} (a : FVec Ideal ⟨2, ![M, K]⟩ φ) (b : FVec Ideal ⟨2, ![N, K]⟩ φ) :
    Host.dotGeneral (dimsRows M N K wf) none a b = rowsRows a b :=
  ideal_rows a b

theorem matmul_plain {φ : FTy} {wf} (a : FVec Ideal ⟨2, ![M, K]⟩ φ) (b : FVec Ideal ⟨2, ![K, N]⟩ φ) :
    matmul (dimsPlain M N K wf) none a b (constant ⟨2, ![M, N]⟩ .f32 0x00000000#32) = rowsCols a b := by
  rw [zeros]
  exact ideal_plain a b

theorem matmul_plain_add {φ : FTy} {wf} (a : FVec Ideal ⟨2, ![M, K]⟩ φ) (b : FVec Ideal ⟨2, ![K, N]⟩ φ)
    (s : FVec Ideal ⟨2, ![M, N]⟩ .f32) :
    addf (matmul (dimsPlain M N K wf) none a b (constant ⟨2, ![M, N]⟩ .f32 0x00000000#32)) s = rowsCols a b + s := by
  rw [matmul_plain]
  rfl

theorem dot_plain {φ : FTy} {wf} (a : FVec Ideal ⟨2, ![M, K]⟩ φ) (b : FVec Ideal ⟨2, ![K, N]⟩ φ) :
    Host.dotGeneral (dimsPlain M N K wf) none a b = rowsCols a b :=
  ideal_plain a b

theorem dot_plain_add {φ : FTy} {wf} (a : FVec Ideal ⟨2, ![M, K]⟩ φ) (b : FVec Ideal ⟨2, ![K, N]⟩ φ)
    (s : FVec Ideal ⟨2, ![M, N]⟩ .f32) :
    addf s (Host.dotGeneral (dimsPlain M N K wf) none a b) = s + rowsCols a b := by
  have e : (Host.dotGeneral (dimsPlain M N K wf) none a b : FVec Ideal ⟨2, ![M, N]⟩ .f32) = rowsCols a b := dot_plain a b
  rw [e]
  rfl

/-- The gradient of a weight is contracted the other way round and transposed. -/
theorem dot_cols {φ : FTy} {wf} {h} (a : FVec Ideal ⟨2, ![K, M]⟩ φ) (b : FVec Ideal ⟨2, ![K, N]⟩ φ) :
    transpose ⟨2, ![M, N]⟩ [1, 0] (Host.dotGeneral (dimsCols N M K wf) none b a : FVec Ideal ⟨2, ![N, M]⟩ .f32) h
      = colsCols a b := by
  have e : (Host.dotGeneral (dimsCols N M K wf) none b a : FVec Ideal ⟨2, ![N, M]⟩ .f32) = colsCols b a := ideal_cols b a
  rw [e]
  funext y
  obtain ⟨r, j, rfl⟩ : ∃ r j, y = ix2 r j := ⟨y 0, y 1, eq_ix2 y⟩
  pointwise [colsCols]
  exact Finset.sum_congr rfl fun x _ => mul_comm _ _

end Cert.Products

end
-- ==== Proof.Dact.lean ====
/- The gradient of the SwiGLU's activations, through `w_down`: the kernel's blocks put together are the whole product, and so is the reference. -/
module

public import proofs.«01_k».proof.Defs
public import proofs.«01_k».proof.Proof.Gen.DactIdeal.Value
public import proofs.«01_k».proof.Proof.Gen.DactRefIdeal.Run
public import proofs.«01_k».proof.Proof.Products

@[expose] public section

set_option maxRecDepth 16384

noncomputable section

namespace Cert.DactIdeal.Hand

open Cert.DactIdeal Cert.DactIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S5632x2048 .bf16 := m ((c : Thread nD τ).loc main_arg1)

theorem idx0 : ∀ t : Fin cfg0.N, win0_0.index t = ![t.val / 11, 0] := (by decide +kernel : ∀ t : Fin grid0.N, _)
theorem idx1 : ∀ t : Fin cfg0.N, win0_1.index t = ![t.val % 11, 0] := (by decide +kernel : ∀ t : Fin grid0.N, _)
theorem idx2 : ∀ t : Fin cfg0.N, win0_2.index t = ![t.val / 11, t.val % 11] := (by decide +kernel : ∀ t : Fin grid0.N, _)

theorem lt_N (t : Fin cfg0.N) : t.val < 88 := lt_of_lt_of_eq t.isLt N_0

/-- Row `r` and column `r` of block `t`, in the whole result. -/
def rowOf (t : Fin cfg0.N) (r : Fin 1024) : Fin 8192 := ⟨t.val / 11 * 1024 + r.val, by have := lt_N t; omega⟩
def colOf (t : Fin cfg0.N) (r : Fin 512) : Fin 5632 := ⟨t.val % 11 * 512 + r.val, by have := lt_N t; omega⟩

/-- The kernel's result. -/
theorem final (c : Dev nD) : (dats m 0 c).arrAt 2 cfg0.N = rowsRows (argA m c) (argB m c) := by
  refine (dats m 0 c).arrAt_eq_of_covers 2 _ (by decide +kernel) fun t hf y => ?_
  blk_simp
  rw [after0_2]
  frame_out
  refine (rowsRows_whole (rowOf t) (colOf t) (matmul_rows (φ := .bf16) _ _ : k0_pay1 (iblk m c 0 t) (iblk m c 1 t) = _) (argA m c) (argB m c)
    (fun r x => by blk_ext [iblk, V, idx0 t, rowOf]) (fun r x => by blk_ext [iblk, V, idx1 t, colOf]) y).trans (congrArg _ ?_)
  blk_ext [idx2 t, rowOf, colOf]

end Cert.DactIdeal.Hand

namespace Cert.DactRefIdeal.Hand

open Cert.Products Idealize.ShloMosaic Idealize.SL.Sem

theorem frame : Cert.quiescent_DactRefIdeal := fun m g _ =>
  (θ_run Cert.DactRefIdeal.defs _ _).mono (fun r h => ⟨fun c => (h c).2, sem_eq_zero_of_no_sems (by decide) r.2⟩) (Cert.DactRefIdeal.Value.run m g)

/-- The kernel's product is the reference's gradient. -/
theorem value : Cert.algebraic_DactIdeal_DactRefIdeal := fun m g m' g' _ agree =>
  ⟨fun c => rowsRows (Cert.DactIdeal.Hand.argA m c) (Cert.DactIdeal.Hand.argB m c),
    (θ_run Cert.DactIdeal.defs _ _).mono (fun _ h c => ⟨(h c).1.trans (Cert.DactIdeal.Hand.final m c), (h c).2⟩) (Cert.DactIdeal.Value.run_blocks m g),
    (θ_run Cert.DactRefIdeal.defs _ _).mono (fun _ h c => ⟨(h c).1.trans ((dot_rows (φ := .f32) _ _).trans (congrArg₂ rowsRows (agree c).1 (agree c).2)), (h c).2⟩)
      (Cert.DactRefIdeal.Value.run m' g')⟩

end Cert.DactRefIdeal.Hand

end
-- ==== Proof.Do.lean ====
/- The gradient of the attention's output, through `w_o`: the kernel's blocks put together are the whole product, and so is the reference. -/
module

public import proofs.«01_k».proof.Defs
public import proofs.«01_k».proof.Proof.Gen.DoIdeal.Value
public import proofs.«01_k».proof.Proof.Gen.DoRefIdeal.Run
public import proofs.«01_k».proof.Proof.Products

@[expose] public section

set_option maxRecDepth 16384

noncomputable section

namespace Cert.DoIdeal.Hand

open Cert.DoIdeal Cert.DoIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S512x2048 .bf16 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt_N (t : Fin cfg0.N) : t.val < 8 := lt_of_lt_of_eq t.isLt N_0

/-- Row `r` and column `r` of block `t`, in the whole result. -/
def rowOf (t : Fin cfg0.N) (r : Fin 1024) : Fin 8192 := ⟨t.val * 1024 + r.val, by have := lt_N t; omega⟩
def colOf (t : Fin cfg0.N) (r : Fin 512) : Fin 512 := ⟨r.val, by omega⟩

/-- The kernel's result. -/
theorem final (c : Dev nD) : (dats m 0 c).arrAt 2 cfg0.N = rowsRows (argA m c) (argB m c) := by
  refine (dats m 0 c).arrAt_eq_of_covers 2 _ (by decide +kernel) fun t hf y => ?_
  blk_simp
  rw [after0_2]
  frame_out
  refine (rowsRows_whole (rowOf t) (colOf t) (matmul_rows (φ := .bf16) _ _ : k0_pay1 (iblk m c 0 t) (iblk m c 1 t) = _) (argA m c) (argB m c)
    (fun r x => by blk_ext [iblk, V, idx0 t, rowOf]) (fun r x => by blk_ext [iblk, V, idx1 t, colOf]) y).trans (congrArg _ ?_)
  blk_ext [idx2 t, rowOf, colOf]

end Cert.DoIdeal.Hand

namespace Cert.DoRefIdeal.Hand

open Cert.Products Idealize.ShloMosaic Idealize.SL.Sem

theorem frame : Cert.quiescent_DoRefIdeal := fun m g _ =>
  (θ_run Cert.DoRefIdeal.defs _ _).mono (fun r h => ⟨fun c => (h c).2, sem_eq_zero_of_no_sems (by decide) r.2⟩) (Cert.DoRefIdeal.Value.run m g)

/-- The kernel's product is the reference's gradient. -/
theorem value : Cert.algebraic_DoIdeal_DoRefIdeal := fun m g m' g' _ agree =>
  ⟨fun c => rowsRows (Cert.DoIdeal.Hand.argA m c) (Cert.DoIdeal.Hand.argB m c),
    (θ_run Cert.DoIdeal.defs _ _).mono (fun _ h c => ⟨(h c).1.trans (Cert.DoIdeal.Hand.final m c), (h c).2⟩) (Cert.DoIdeal.Value.run_blocks m g),
    (θ_run Cert.DoRefIdeal.defs _ _).mono (fun _ h c => ⟨(h c).1.trans ((dot_rows (φ := .f32) _ _).trans (congrArg₂ rowsRows (agree c).1 (agree c).2)), (h c).2⟩)
      (Cert.DoRefIdeal.Value.run m' g')⟩

end Cert.DoRefIdeal.Hand

end
-- ==== Proof.Dhx.lean ====
/- The gradient of the attention's normalised input, through `w_q`: the kernel's blocks put together are the whole product, and so is the reference. -/
module

public import proofs.«01_k».proof.Defs
public import proofs.«01_k».proof.Proof.Gen.DhxIdeal.Value
public import proofs.«01_k».proof.Proof.Gen.DhxRefIdeal.Run
public import proofs.«01_k».proof.Proof.Products

@[expose] public section

set_option maxRecDepth 16384

noncomputable section

namespace Cert.DhxIdeal.Hand

open Cert.DhxIdeal Cert.DhxIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x512 .bf16 := m ((c : Thread nD τ).loc main_arg0)
abbrev argB (c : Dev nD) : Vec Ideal S2048x512 .bf16 := m ((c : Thread nD τ).loc main_arg1)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem lt_N (t : Fin cfg0.N) : t.val < 16 := lt_of_lt_of_eq t.isLt N_0

/-- Row `r` and column `r` of block `t`, in the whole result. -/
def rowOf (t : Fin cfg0.N) (r : Fin 1024) : Fin 8192 := ⟨t.val / 2 * 1024 + r.val, by have := lt_N t; omega⟩
def colOf (t : Fin cfg0.N) (r : Fin 1024) : Fin 2048 := ⟨t.val % 2 * 1024 + r.val, by have := lt_N t; omega⟩

/-- The kernel's result. -/
theorem final (c : Dev nD) : (dats m 0 c).arrAt 2 cfg0.N = rowsRows (argA m c) (argB m c) := by
  refine (dats m 0 c).arrAt_eq_of_covers 2 _ (by decide +kernel) fun t hf y => ?_
  blk_simp
  rw [after0_2]
  frame_out
  refine (rowsRows_whole (rowOf t) (colOf t) (matmul_rows (φ := .bf16) _ _ : k0_pay1 (iblk m c 0 t) (iblk m c 1 t) = _) (argA m c) (argB m c)
    (fun r x => by blk_ext [iblk, V, idx0 t, rowOf]) (fun r x => by blk_ext [iblk, V, idx1 t, colOf]) y).trans (congrArg _ ?_)
  blk_ext [idx2 t, rowOf, colOf]

end Cert.DhxIdeal.Hand

namespace Cert.DhxRefIdeal.Hand

open Cert.Products Idealize.ShloMosaic Idealize.SL.Sem

theorem frame : Cert.quiescent_DhxRefIdeal := fun m g _ =>
  (θ_run Cert.DhxRefIdeal.defs _ _).mono (fun r h => ⟨fun c => (h c).2, sem_eq_zero_of_no_sems (by decide) r.2⟩) (Cert.DhxRefIdeal.Value.run m g)

/-- The kernel's product is the reference's gradient. -/
theorem value : Cert.algebraic_DhxIdeal_DhxRefIdeal := fun m g m' g' _ agree =>
  ⟨fun c => rowsRows (Cert.DhxIdeal.Hand.argA m c) (Cert.DhxIdeal.Hand.argB m c),
    (θ_run Cert.DhxIdeal.defs _ _).mono (fun _ h c => ⟨(h c).1.trans (Cert.DhxIdeal.Hand.final m c), (h c).2⟩) (Cert.DhxIdeal.Value.run_blocks m g),
    (θ_run Cert.DhxRefIdeal.defs _ _).mono (fun _ h c => ⟨(h c).1.trans ((dot_rows (φ := .f32) _ _).trans (congrArg₂ rowsRows (agree c).1 (agree c).2)), (h c).2⟩)
      (Cert.DhxRefIdeal.Value.run m' g')⟩

end Cert.DhxRefIdeal.Hand

end
-- ==== Proof.DwOut.lean ====
/- The gradient of the mixer's output projection, `w_out`: the kernel's blocks put together are the whole product, and so is the reference. -/
module

public import proofs.«01_k».proof.Defs
public import proofs.«01_k».proof.Proof.Gen.DwOutIdeal.Value
public import proofs.«01_k».proof.Proof.Gen.DwOutRefIdeal.Run
public import proofs.«01_k».proof.Proof.Products

@[expose] public section

set_option maxRecDepth 16384

noncomputable section

namespace Cert.DwOutIdeal.Hand

open Cert.DwOutIdeal Cert.DwOutIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x4096 .bf16 := m ((c : Thread nD τ).loc main_arg0)
abbrev argB (c : Dev nD) : Vec Ideal S8192x2048 .bf16 := m ((c : Thread nD τ).loc main_arg1)

theorem idx0 : ∀ t : Fin cfg0.N, win0_0.index t = ![0, t.val / 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

theorem lt_N (t : Fin cfg0.N) : t.val < 32 := lt_of_lt_of_eq t.isLt N_0

/-- Row `r` and column `r` of block `t`, in the whole result. -/
def rowOf (t : Fin cfg0.N) (r : Fin 512) : Fin 4096 := ⟨t.val / 4 * 512 + r.val, by have := lt_N t; omega⟩
def colOf (t : Fin cfg0.N) (r : Fin 512) : Fin 2048 := ⟨t.val % 4 * 512 + r.val, by have := lt_N t; omega⟩

/-- The kernel's result. -/
theorem final (c : Dev nD) : (dats m 0 c).arrAt 2 cfg0.N = colsCols (argA m c) (argB m c) := by
  refine (dats m 0 c).arrAt_eq_of_covers 2 _ (by decide +kernel) fun t hf y => ?_
  blk_simp
  rw [after0_2]
  frame_out
  refine (colsCols_whole (rowOf t) (colOf t) (matmul_cols (φ := .bf16) _ _ : k0_pay1 (iblk m c 0 t) (iblk m c 1 t) = _) (argA m c) (argB m c)
    (fun x r => by blk_ext [iblk, V, idx0 t, rowOf]) (fun x r => by blk_ext [iblk, V, idx1 t, colOf]) y).trans (congrArg _ ?_)
  blk_ext [idx2 t, rowOf, colOf]

end Cert.DwOutIdeal.Hand

namespace Cert.DwOutRefIdeal.Hand

open Cert.Products Idealize.ShloMosaic Idealize.SL.Sem

theorem frame : Cert.quiescent_DwOutRefIdeal := fun m g _ =>
  (θ_run Cert.DwOutRefIdeal.defs _ _).mono (fun r h => ⟨fun c => (h c).2, sem_eq_zero_of_no_sems (by decide) r.2⟩) (Cert.DwOutRefIdeal.Value.run m g)

/-- The kernel's product is the reference's gradient. -/
theorem value : Cert.algebraic_DwOutIdeal_DwOutRefIdeal := fun m g m' g' _ agree =>
  ⟨fun c => colsCols (Cert.DwOutIdeal.Hand.argA m c) (Cert.DwOutIdeal.Hand.argB m c),
    (θ_run Cert.DwOutIdeal.defs _ _).mono (fun _ h c => ⟨(h c).1.trans (Cert.DwOutIdeal.Hand.final m c), (h c).2⟩) (Cert.DwOutIdeal.Value.run_blocks m g),
    (θ_run Cert.DwOutRefIdeal.defs _ _).mono (fun _ h c => ⟨(h c).1.trans ((dot_cols (φ := .f32) _ _).trans (congrArg₂ colsCols (agree c).1 (agree c).2)), (h c).2⟩)
      (Cert.DwOutRefIdeal.Value.run m' g')⟩

end Cert.DwOutRefIdeal.Hand

end
-- ==== Proof.DwO.lean ====
/- The gradient of the attention's output projection, `w_o`: the kernel's blocks put together are the whole product, and so is the reference. -/
module

public import proofs.«01_k».proof.Defs
public import proofs.«01_k».proof.Proof.Gen.DwOIdeal.Value
public import proofs.«01_k».proof.Proof.Gen.DwORefIdeal.Run
public import proofs.«01_k».proof.Proof.Products

@[expose] public section

set_option maxRecDepth 16384

noncomputable section

namespace Cert.DwOIdeal.Hand

open Cert.DwOIdeal Cert.DwOIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x512 .bf16 := m ((c : Thread nD τ).loc main_arg0)
abbrev argB (c : Dev nD) : Vec Ideal S8192x2048 .bf16 := m ((c : Thread nD τ).loc main_arg1)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

theorem lt_N (t : Fin cfg0.N) : t.val < 4 := lt_of_lt_of_eq t.isLt N_0

/-- Row `r` and column `r` of block `t`, in the whole result. -/
def rowOf (t : Fin cfg0.N) (r : Fin 512) : Fin 512 := ⟨r.val, by omega⟩
def colOf (t : Fin cfg0.N) (r : Fin 512) : Fin 2048 := ⟨t.val * 512 + r.val, by have := lt_N t; omega⟩

/-- The kernel's result. -/
theorem final (c : Dev nD) : (dats m 0 c).arrAt 2 cfg0.N = colsCols (argA m c) (argB m c) := by
  refine (dats m 0 c).arrAt_eq_of_covers 2 _ (by decide +kernel) fun t hf y => ?_
  blk_simp
  rw [after0_2]
  frame_out
  refine (colsCols_whole (rowOf t) (colOf t) (matmul_cols (φ := .bf16) _ _ : k0_pay1 (iblk m c 0 t) (iblk m c 1 t) = _) (argA m c) (argB m c)
    (fun x r => by blk_ext [iblk, V, idx0 t, rowOf]) (fun x r => by blk_ext [iblk, V, idx1 t, colOf]) y).trans (congrArg _ ?_)
  blk_ext [idx2 t, rowOf, colOf]

end Cert.DwOIdeal.Hand

namespace Cert.DwORefIdeal.Hand

open Cert.Products Idealize.ShloMosaic Idealize.SL.Sem

theorem frame : Cert.quiescent_DwORefIdeal := fun m g _ =>
  (θ_run Cert.DwORefIdeal.defs _ _).mono (fun r h => ⟨fun c => (h c).2, sem_eq_zero_of_no_sems (by decide) r.2⟩) (Cert.DwORefIdeal.Value.run m g)

/-- The kernel's product is the reference's gradient. -/
theorem value : Cert.algebraic_DwOIdeal_DwORefIdeal := fun m g m' g' _ agree =>
  ⟨fun c => colsCols (Cert.DwOIdeal.Hand.argA m c) (Cert.DwOIdeal.Hand.argB m c),
    (θ_run Cert.DwOIdeal.defs _ _).mono (fun _ h c => ⟨(h c).1.trans (Cert.DwOIdeal.Hand.final m c), (h c).2⟩) (Cert.DwOIdeal.Value.run_blocks m g),
    (θ_run Cert.DwORefIdeal.defs _ _).mono (fun _ h c => ⟨(h c).1.trans ((dot_cols (φ := .f32) _ _).trans (congrArg₂ colsCols (agree c).1 (agree c).2)), (h c).2⟩)
      (Cert.DwORefIdeal.Value.run m' g')⟩

end Cert.DwORefIdeal.Hand

end
-- ==== Proof.DwQ.lean ====
/- The gradient of the query projection, `w_q`: the kernel's blocks put together are the whole product, and so is the reference. -/
module

public import proofs.«01_k».proof.Defs
public import proofs.«01_k».proof.Proof.Gen.DwQIdeal.Value
public import proofs.«01_k».proof.Proof.Gen.DwQRefIdeal.Run
public import proofs.«01_k».proof.Proof.Products

@[expose] public section

set_option maxRecDepth 16384

noncomputable section

namespace Cert.DwQIdeal.Hand

open Cert.DwQIdeal Cert.DwQIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S8192x512 .bf16 := m ((c : Thread nD τ).loc main_arg1)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt_N (t : Fin cfg0.N) : t.val < 4 := lt_of_lt_of_eq t.isLt N_0

/-- Row `r` and column `r` of block `t`, in the whole result. -/
def rowOf (t : Fin cfg0.N) (r : Fin 512) : Fin 2048 := ⟨t.val * 512 + r.val, by have := lt_N t; omega⟩
def colOf (t : Fin cfg0.N) (r : Fin 512) : Fin 512 := ⟨r.val, by omega⟩

/-- The kernel's result. -/
theorem final (c : Dev nD) : (dats m 0 c).arrAt 2 cfg0.N = colsCols (argA m c) (argB m c) := by
  refine (dats m 0 c).arrAt_eq_of_covers 2 _ (by decide +kernel) fun t hf y => ?_
  blk_simp
  rw [after0_2]
  frame_out
  refine (colsCols_whole (rowOf t) (colOf t) (matmul_cols (φ := .bf16) _ _ : k0_pay1 (iblk m c 0 t) (iblk m c 1 t) = _) (argA m c) (argB m c)
    (fun x r => by blk_ext [iblk, V, idx0 t, rowOf]) (fun x r => by blk_ext [iblk, V, idx1 t, colOf]) y).trans (congrArg _ ?_)
  blk_ext [idx2 t, rowOf, colOf]

end Cert.DwQIdeal.Hand

namespace Cert.DwQRefIdeal.Hand

open Cert.Products Idealize.ShloMosaic Idealize.SL.Sem

theorem frame : Cert.quiescent_DwQRefIdeal := fun m g _ =>
  (θ_run Cert.DwQRefIdeal.defs _ _).mono (fun r h => ⟨fun c => (h c).2, sem_eq_zero_of_no_sems (by decide) r.2⟩) (Cert.DwQRefIdeal.Value.run m g)

/-- The kernel's product is the reference's gradient. -/
theorem value : Cert.algebraic_DwQIdeal_DwQRefIdeal := fun m g m' g' _ agree =>
  ⟨fun c => colsCols (Cert.DwQIdeal.Hand.argA m c) (Cert.DwQIdeal.Hand.argB m c),
    (θ_run Cert.DwQIdeal.defs _ _).mono (fun _ h c => ⟨(h c).1.trans (Cert.DwQIdeal.Hand.final m c), (h c).2⟩) (Cert.DwQIdeal.Value.run_blocks m g),
    (θ_run Cert.DwQRefIdeal.defs _ _).mono (fun _ h c => ⟨(h c).1.trans ((dot_cols (φ := .f32) _ _).trans (congrArg₂ colsCols (agree c).1 (agree c).2)), (h c).2⟩)
      (Cert.DwQRefIdeal.Value.run m' g')⟩

end Cert.DwQRefIdeal.Hand

end
-- ==== Proof.Gate.lean ====
/- The gate `silu g * u` over the extended reals: its derivative as the kernel forms it and as the chain rule gives it are
   the same where the factor and the cotangent are real. -/
module

public import Idealize.ShloMosaic.PureOps
public import Idealize.ShloMosaic.Lib.Pointwise

@[expose] public section

noncomputable section

namespace Cert.Gate

open Idealize.ShloMosaic

/-- The logistic function. -/
def logis (g : EReal) : EReal := Ideal.div 1 (1 + Ideal.exp (-g))

/-- The gradient with respect to the gate's argument, in the kernel's form. -/
def dArg (g u d : EReal) : EReal := d * u * logis g * (1 + g * (1 - logis g))

/-- The gradient with respect to the gated factor. -/
def dFactor (g d : EReal) : EReal := d * g * logis g

theorem logis_real (g : ℝ) : ∃ s : ℝ, logis (g : EReal) = s := by
  refine ⟨1 / (1 + Real.exp (-g)), ?_⟩
  have h : (1 : EReal) + ((Real.exp (-g) : ℝ) : EReal) = ((1 + Real.exp (-g) : ℝ) : EReal) := by norm_cast
  have h0 : (1 + Real.exp (-g)) ≠ 0 := by positivity
  unfold logis
  rw [← EReal.coe_neg, show Ideal.exp ((-g : ℝ) : EReal) = ((Real.exp (-g) : ℝ) : EReal) from rfl, h, Ideal.div_coe h0, one_mul]

theorem logis_top : logis ⊤ = 1 := by
  show Ideal.div 1 (1 + 0) = 1
  rw [add_zero, ← EReal.coe_one, Ideal.div_coe one_ne_zero, ← EReal.coe_mul]
  norm_num

theorem logis_bot : logis ⊥ = 0 := by
  show Ideal.div 1 (1 + ⊤) = 0
  rw [← EReal.coe_one, EReal.coe_add_top, Ideal.div, if_neg EReal.top_ne_zero]
  simp

/-- The product rule's two terms are the kernel's product, at an infinite gate too. -/
theorem dArg_eq (g : EReal) (u d : ℝ) :
    ((d : EReal) * u * logis g + g * (d * u) * (logis g * (1 - logis g))) = dArg g u d := by
  unfold dArg
  induction g with
  | coe g =>
    obtain ⟨s, hs⟩ := logis_real g
    rw [hs]
    norm_cast
    ring
  | top =>
    have h : (1 : EReal) - 1 = 0 := by rw [← EReal.coe_one, ← EReal.coe_sub, sub_self, EReal.coe_zero]
    simp [logis_top, h]
  | bot => simp [logis_bot]

theorem dFactor_eq (g d : EReal) : g * logis g * d = dFactor g d := by
  unfold dFactor
  ac_rfl

end Cert.Gate

end
-- ==== Proof.Swiglu.lean ====
/- The gradient of the SwiGLU's gate: the kernel's blocks of rows put together are the whole gradient, and so is the
   reference. -/
module

public import proofs.«01_k».proof.Defs
public import proofs.«01_k».proof.Proof.Gen.SwigluIdeal.Value
public import proofs.«01_k».proof.Proof.Gen.SwigluRefIdeal.Run
public import proofs.«01_k».proof.Proof.Gen.Pre_finite_gate
public import proofs.«01_k».proof.Proof.Finite
public import proofs.«01_k».proof.Proof.Gate

@[expose] public section

set_option maxRecDepth 16384

noncomputable section

namespace Cert.Gate

open Idealize.ShloMosaic

/-- The gradients of one row side by side: the gates' first, the factors' after them. -/
def lineGrad (g u d : Fin 5632 → EReal) (j : Fin 11264) : EReal :=
  if h : j.val < 5632 then dArg (g ⟨j.val, h⟩) (u ⟨j.val, h⟩) (d ⟨j.val, h⟩)
  else dFactor (g ⟨j.val - 5632, by omega⟩) (d ⟨j.val - 5632, by omega⟩)

theorem lineGrad_left (g u d : Fin 5632 → EReal) (j : Fin 11264) (x : Fin 5632) (h : j.val = x.val) :
    lineGrad g u d j = dArg (g x) (u x) (d x) := by
  have e : j.val < 5632 := by omega
  have e2 : (⟨j.val, e⟩ : Fin 5632) = x := Fin.ext h
  rw [lineGrad, dif_pos e, e2]

theorem lineGrad_right (g u d : Fin 5632 → EReal) (j : Fin 11264) (x : Fin 5632) (h : j.val = 5632 + x.val) :
    lineGrad g u d j = dFactor (g x) (d x) := by
  have e : ¬j.val < 5632 := by omega
  have e2 : (⟨j.val - 5632, by omega⟩ : Fin 5632) = x := Fin.ext (by simp only; omega)
  rw [lineGrad, dif_neg e, e2]

/-- The left half and the right half of the gates and factors, and the cotangent, row by row. -/
def lo {R : ℕ} (a : (⟨2, ![R, 11264]⟩ : Shape).Idx → EReal) (r : Fin R) (x : Fin 5632) : EReal := a (ix2 r ⟨x.val, by omega⟩)
def hi {R : ℕ} (a : (⟨2, ![R, 11264]⟩ : Shape).Idx → EReal) (r : Fin R) (x : Fin 5632) : EReal :=
  a (ix2 r ⟨5632 + x.val, by omega⟩)
def rows {R : ℕ} (d : (⟨2, ![R, 5632]⟩ : Shape).Idx → EReal) (r : Fin R) (x : Fin 5632) : EReal := d (ix2 r x)

/-- The whole gradient. -/
def whole {R : ℕ} (a : (⟨2, ![R, 11264]⟩ : Shape).Idx → EReal) (d : (⟨2, ![R, 5632]⟩ : Shape).Idx → EReal) :
    (⟨2, ![R, 11264]⟩ : Shape).Idx → EReal := fun y => lineGrad (lo a (y 0)) (hi a (y 0)) (rows d (y 0)) (y 1)

end Cert.Gate

namespace Cert.SwigluIdeal.Hand

open Cert.SwigluIdeal Cert.SwigluIdeal.Gen Cert.Gate Idealize.ShloMosaic Idealize.ShloMosaic.Tactic
open Idealize.ShloMosaic.TcCoe

variable (m : (ℓ : Loc nD τ sig) → Buf (Elt Ideal) ℓ)

abbrev argA (c : Dev nD) : Vec Ideal S8192x11264 .bf16 := m ((c : Thread nD τ).loc main_arg0)
abbrev argD (c : Dev nD) : Vec Ideal S8192x5632 .bf16 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem lt_N (t : Fin cfg0.N) : t.val < 32 := lt_of_lt_of_eq t.isLt N_0

/-- Row `r` of block `t`, in the whole array. -/
def rowOf (t : Fin cfg0.N) (r : Fin 256) : Fin 8192 := ⟨t.val * 256 + r.val, by have := lt_N t; omega⟩

theorem blk0 (c : Dev nD) (t : Fin cfg0.N) (r : Fin 256) (x : Fin 5632) :
    (iblk m c 0 t : Vec Ideal S256x5632 .bf16) (ix2 r x) = lo (argA m c) (rowOf t r) x := by
  unfold lo
  blk_ext [iblk, V, idx0 t, rowOf]

theorem blk1 (c : Dev nD) (t : Fin cfg0.N) (r : Fin 256) (x : Fin 5632) :
    (iblk m c 1 t : Vec Ideal S256x5632 .bf16) (ix2 r x) = hi (argA m c) (rowOf t r) x := by
  unfold hi
  blk_ext [iblk, V, idx1 t, rowOf]

theorem blk2 (c : Dev nD) (t : Fin cfg0.N) (r : Fin 256) (x : Fin 5632) :
    (iblk m c 2 t : Vec Ideal S256x5632 .bf16) (ix2 r x) = rows (argD m c) (rowOf t r) x := by
  unfold rows
  blk_ext [iblk, V, idx2 t, rowOf]

/-- The body's two stores. -/
theorem pay4_at (g d u : Vec Ideal S256x5632 .bf16) (r : Fin 256) (j : Fin 5632) :
    k0_pay4 g d u (ix2 r j) = dArg (g (ix2 r j)) (u (ix2 r j)) (d (ix2 r j)) := by
  pointwise [k0_pay4, k0_pay1, k0_pay2, k0_pay3]
  simp only [dArg, logis, zero_sub]

theorem pay5_at (g d : Vec Ideal S256x5632 .bf16) (r : Fin 256) (j : Fin 5632) :
    k0_pay5 g d (ix2 r j) = dFactor (g (ix2 r j)) (d (ix2 r j)) := by
  pointwise [k0_pay5, k0_pay1, k0_pay2, k0_pay3]
  simp only [dFactor, logis, zero_sub]

theorem out_eq (g u d : Vec Ideal S256x5632 .bf16) (y : S256x11264.Idx) :
    out0_3 g u d y = lineGrad (rows g (y 0)) (rows u (y 0)) (rows d (y 0)) (y 1) := by
  frame_out
  let G : S256x11264.Idx → Elt Ideal .bf16 := fun y => lineGrad (rows g (y 0)) (rows u (y 0)) (rows d (y 0)) (y 1)
  refine View.canon_apply_of_pieces (Val := Elt Ideal) G _ (fun p hp x => ?_) y (cover0_3 _ _ y)
  simp only [List.mem_cons, List.not_mem_nil, or_false] at hp
  rcases hp with rfl | rfl
  · have h0 : (r0_2.emb x) 0 = x 0 := Fin.ext ((ValueKit.rect_emb_unit_val _ _ _ x 0).trans (Nat.zero_add _))
    have h1 : ((r0_2.emb x) 1).val = 5632 + (x 1).val := ValueKit.rect_emb_unit_val _ _ _ x 1
    refine .trans ((congrArg (k0_pay5 g d) (eq_ix2 (n0 := 256) (n1 := 5632) x)).trans (pay5_at g d (x 0) (x 1))) ?_
    show _ = lineGrad (rows g ((r0_2.emb x) 0)) (rows u ((r0_2.emb x) 0)) (rows d ((r0_2.emb x) 0)) ((r0_2.emb x) 1)
    rw [lineGrad_right _ _ _ _ (x 1) h1, h0]
    rfl
  · have h0 : (r0_1.emb x) 0 = x 0 := Fin.ext ((ValueKit.rect_emb_unit_val _ _ _ x 0).trans (Nat.zero_add _))
    have h1 : ((r0_1.emb x) 1).val = (x 1).val := (ValueKit.rect_emb_unit_val _ _ _ x 1).trans (Nat.zero_add _)
    refine .trans ((congrArg (k0_pay4 g d u) (eq_ix2 (n0 := 256) (n1 := 5632) x)).trans (pay4_at g d u (x 0) (x 1))) ?_
    show _ = lineGrad (rows g ((r0_1.emb x) 0)) (rows u ((r0_1.emb x) 0)) (rows d ((r0_1.emb x) 0)) ((r0_1.emb x) 1)
    rw [lineGrad_left _ _ _ _ (x 1) h1, h0]
    rfl

/-- The kernel's result. -/
theorem final (c : Dev nD) : (dats m 0 c).arrAt 3 cfg0.N = whole (argA m c) (argD m c) := by
  refine (dats m 0 c).arrAt_eq_of_covers 3 _ (by decide +kernel) fun t hf y => ?_
  blk_simp
  rw [after0_3]
  have e1 : ∀ y : S256x11264.Idx, out0_3 (F := Ideal) (iblk m c 0 t) (iblk m c 1 t) (iblk m c 2 t) y
      = whole (argA m c) (argD m c) (ix2 (rowOf t (y 0)) (y 1)) := fun y => by
    have h0 : rows (iblk m c 0 t : Vec Ideal S256x5632 .bf16) (y 0) = lo (argA m c) (rowOf t (y 0)) :=
      funext fun x => blk0 m c t (y 0) x
    have h1 : rows (iblk m c 1 t : Vec Ideal S256x5632 .bf16) (y 0) = hi (argA m c) (rowOf t (y 0)) :=
      funext fun x => blk1 m c t (y 0) x
    have h2 : rows (iblk m c 2 t : Vec Ideal S256x5632 .bf16) (y 0) = rows (argD m c) (rowOf t (y 0)) :=
      funext fun x => blk2 m c t (y 0) x
    rw [out_eq, h0, h1, h2]
    rfl
  refine (e1 y).trans (congrArg _ ?_)
  blk_ext [idx3 t, rowOf]

end Cert.SwigluIdeal.Hand

namespace Cert.SwigluRefIdeal.Hand

open Cert.SwigluRefIdeal Cert.SwigluRefIdeal.Gen Cert.Gate Idealize.ShloMosaic Idealize.SL.Sem

/-- The reference's stages: the gates, the factors, the cotangent, and their logistic function. -/
def gates (a : FVec Ideal S8192x11264 .bf16) : FVec Ideal S8192x5632 .f32 :=
  extractStridedSlice S8192x5632 ![0, 0] (extf .f32 a bitsLt_bf16_f32) slices_S8192x11264_S8192x5632_0_0
def factors (a : FVec Ideal S8192x11264 .bf16) : FVec Ideal S8192x5632 .f32 :=
  extractStridedSlice S8192x5632 ![0, 5632] (extf .f32 a bitsLt_bf16_f32) slices_S8192x11264_S8192x5632_0_5632
def cot (d : FVec Ideal S8192x5632 .bf16) : FVec Ideal S8192x5632 .f32 := extf .f32 d bitsLt_bf16_f32
def ones : FVec Ideal S8192x5632 .f32 := broadcastInDim S8192x5632 ![] bcast_S_S8192x5632 (constant S_ .f32 0x3F800000#32)
def logits (a : FVec Ideal S8192x11264 .bf16) : FVec Ideal S8192x5632 .f32 :=
  Host.divf ones (addf ones (Host.exp (Host.negf (gates a))))

/-- The reference's result. -/
def result (a : FVec Ideal S8192x11264 .bf16) (d : FVec Ideal S8192x5632 .bf16) : FVec Ideal S8192x11264 .bf16 :=
  truncf .bf16 (concatenate S8192x11264 1 [⟨S8192x5632, (addf (mulf (mulf (cot d) (factors a)) (logits a)) (mulf (mulf (gates a) (mulf (cot d) (factors a))) (mulf (logits a) (subf ones (logits a)))))⟩, ⟨S8192x5632, (mulf (mulf (gates a) (logits a)) (cot d))⟩] concatenates_S8192x5632_S8192x5632_S8192x11264_d1) bitsLt_bf16_f32

theorem result_eq (a : FVec Ideal S8192x11264 .bf16) (d : FVec Ideal S8192x5632 .bf16)
    (ha : ∀ (r : Fin 8192) (j : Fin 5632), ∃ x : ℝ, hi a r j = x) (hd : ∀ i, ∃ x : ℝ, d i = x) :
    result a d = whole a d := by
  funext y
  obtain ⟨r, j, rfl⟩ : ∃ r j, y = ix2 r j := ⟨y 0, y 1, eq_ix2 y⟩
  pointwise [result, gates, factors, cot, ones, logits, whole, lineGrad, lo, hi, rows]
  split
  · rename_i h
    obtain ⟨u, hu⟩ := ha r ⟨j.val, h⟩
    obtain ⟨v, hv⟩ := hd (ix2 r ⟨j.val, h⟩)
    unfold hi at hu
    simp only [hu, hv]
    exact dArg_eq _ u v
  · exact dFactor_eq _ _

/-- Finite factors and cotangents are real. -/
theorem real_of_fn (a : FVec Ideal S8192x11264 .bf16) (d : FVec Ideal S8192x5632 .bf16)
    (h : Cert.Pre_finite_gate.fn (F := Ideal) a d = fun _ => 1#1) :
    (∀ (r : Fin 8192) (j : Fin 5632), ∃ x : ℝ, hi a r j = x) ∧ ∀ i, ∃ x : ℝ, d i = x := by
  have h0 := congrFun h (fun i => i.elim0)
  unfold Cert.Pre_finite_gate.fn at h0
  dsimp only at h0
  haveI := Cert.Pre_finite.Hand.subsingleton
  obtain ⟨h1, h2⟩ := Cert.Pre_finite.Hand.split _ _ h0
  have h3 := Host.reduce_andi_all _ _ _ _ _ h1
  have h4 := Host.reduce_andi_all _ _ _ _ _ h2
  refine ⟨fun r j => ?_, fun i => Cert.Pre_finite.Hand.real_of_lt _ (h4 i)⟩
  obtain ⟨x, hx⟩ := Cert.Pre_finite.Hand.real_of_lt _ (h3 (ix2 r j))
  refine ⟨x, .trans ?_ hx⟩
  pointwise [hi]

theorem frame : Cert.quiescent_SwigluRefIdeal := fun m g _ =>
  (θ_run Cert.SwigluRefIdeal.defs _ _).mono (fun r h => ⟨fun c => (h c).2, sem_eq_zero_of_no_sems (by decide) r.2⟩)
    (Cert.SwigluRefIdeal.Value.run m g)

/-- The kernel's gradient is the reference's, where its factors and cotangents are finite. -/
theorem value : Cert.algebraic_SwigluIdeal_SwigluRefIdeal_pre_finite_gate := by
  intro m g m' g' hpre hagree
  refine ⟨fun c => whole (Cert.SwigluIdeal.Hand.argA m c) (Cert.SwigluIdeal.Hand.argD m c), ?_, ?_⟩
  · exact (θ_run Cert.SwigluIdeal.defs _ _).mono (fun r h c => ⟨(h c).1.trans (Cert.SwigluIdeal.Hand.final m c), (h c).2⟩)
      (Cert.SwigluIdeal.Value.run_blocks m g)
  · refine (θ_run Cert.SwigluRefIdeal.defs _ _).mono (fun r h c => ⟨(h c).1.trans ?_, (h c).2⟩)
      (Cert.SwigluRefIdeal.Value.run m' g')
    obtain ⟨ha, hd⟩ := real_of_fn _ _ (hpre c)
    exact (congrArg₂ result (hagree c).1 (hagree c).2).trans (result_eq _ _ ha hd)

end Cert.SwigluRefIdeal.Hand

end
-- ==== Proof.DwDown.lean ====
/- The gradient of the feed-forward's last weight, `w_down`: the kernel's blocks put together are the whole product, and so is the reference. -/
module

public import proofs.«01_k».proof.Defs
public import proofs.«01_k».proof.Proof.Gen.DwDownIdeal.Value
public import proofs.«01_k».proof.Proof.Gen.DwDownRefIdeal.Run
public import proofs.«01_k».proof.Proof.Products

@[expose] public section

set_option maxRecDepth 16384

noncomputable section

namespace Cert.DwDownIdeal.Hand

open Cert.DwDownIdeal Cert.DwDownIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x5632 .bf16 := m ((c : Thread nD τ).loc main_arg0)
abbrev argB (c : Dev nD) : Vec Ideal S8192x2048 .bf16 := m ((c : Thread nD τ).loc main_arg1)

theorem idx0 : ∀ t : Fin cfg0.N, win0_0.index t = ![0, t.val / 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

theorem lt_N (t : Fin cfg0.N) : t.val < 44 := lt_of_lt_of_eq t.isLt N_0

/-- Row `r` and column `r` of block `t`, in the whole result. -/
def rowOf (t : Fin cfg0.N) (r : Fin 512) : Fin 5632 := ⟨t.val / 4 * 512 + r.val, by have := lt_N t; omega⟩
def colOf (t : Fin cfg0.N) (r : Fin 512) : Fin 2048 := ⟨t.val % 4 * 512 + r.val, by have := lt_N t; omega⟩

/-- The kernel's result. -/
theorem final (c : Dev nD) : (dats m 0 c).arrAt 2 cfg0.N = colsCols (argA m c) (argB m c) := by
  refine (dats m 0 c).arrAt_eq_of_covers 2 _ (by decide +kernel) fun t hf y => ?_
  blk_simp
  rw [after0_2]
  frame_out
  refine (colsCols_whole (rowOf t) (colOf t) (matmul_cols (φ := .bf16) _ _ : k0_pay1 (iblk m c 0 t) (iblk m c 1 t) = _) (argA m c) (argB m c)
    (fun x r => by blk_ext [iblk, V, idx0 t, rowOf]) (fun x r => by blk_ext [iblk, V, idx1 t, colOf]) y).trans (congrArg _ ?_)
  blk_ext [idx2 t, rowOf, colOf]

end Cert.DwDownIdeal.Hand

namespace Cert.DwDownRefIdeal.Hand

open Cert.Products Idealize.ShloMosaic Idealize.SL.Sem

theorem frame : Cert.quiescent_DwDownRefIdeal := fun m g _ =>
  (θ_run Cert.DwDownRefIdeal.defs _ _).mono (fun r h => ⟨fun c => (h c).2, sem_eq_zero_of_no_sems (by decide) r.2⟩) (Cert.DwDownRefIdeal.Value.run m g)

/-- The kernel's product is the reference's gradient. -/
theorem value : Cert.algebraic_DwDownIdeal_DwDownRefIdeal := fun m g m' g' _ agree =>
  ⟨fun c => colsCols (Cert.DwDownIdeal.Hand.argA m c) (Cert.DwDownIdeal.Hand.argB m c),
    (θ_run Cert.DwDownIdeal.defs _ _).mono (fun _ h c => ⟨(h c).1.trans (Cert.DwDownIdeal.Hand.final m c), (h c).2⟩) (Cert.DwDownIdeal.Value.run_blocks m g),
    (θ_run Cert.DwDownRefIdeal.defs _ _).mono (fun _ h c => ⟨(h c).1.trans ((dot_cols (φ := .f32) _ _).trans (congrArg₂ colsCols (agree c).1 (agree c).2)), (h c).2⟩)
      (Cert.DwDownRefIdeal.Value.run m' g')⟩

end Cert.DwDownRefIdeal.Hand

end
-- ==== Proof.DwGu.lean ====
/- The gradient of the feed-forward's first weight, `w_gu`: the kernel's blocks put together are the whole product, and so is the reference. -/
module

public import proofs.«01_k».proof.Defs
public import proofs.«01_k».proof.Proof.Gen.DwGuIdeal.Value
public import proofs.«01_k».proof.Proof.Gen.DwGuRefIdeal.Run
public import proofs.«01_k».proof.Proof.Products

@[expose] public section

set_option maxRecDepth 16384

noncomputable section

namespace Cert.DwGuIdeal.Hand

open Cert.DwGuIdeal Cert.DwGuIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S8192x11264 .bf16 := m ((c : Thread nD τ).loc main_arg1)

theorem idx0 : ∀ t : Fin cfg0.N, win0_0.index t = ![0, t.val / 22] := (by decide +kernel : ∀ t : Fin grid0.N, _)
theorem idx1 : ∀ t : Fin cfg0.N, win0_1.index t = ![0, t.val % 22] := (by decide +kernel : ∀ t : Fin grid0.N, _)
theorem idx2 : ∀ t : Fin cfg0.N, win0_2.index t = ![t.val / 22, t.val % 22] := (by decide +kernel : ∀ t : Fin grid0.N, _)

theorem lt_N (t : Fin cfg0.N) : t.val < 88 := lt_of_lt_of_eq t.isLt N_0

/-- Row `r` and column `r` of block `t`, in the whole result. -/
def rowOf (t : Fin cfg0.N) (r : Fin 512) : Fin 2048 := ⟨t.val / 22 * 512 + r.val, by have := lt_N t; omega⟩
def colOf (t : Fin cfg0.N) (r : Fin 512) : Fin 11264 := ⟨t.val % 22 * 512 + r.val, by have := lt_N t; omega⟩

/-- The kernel's result. -/
theorem final (c : Dev nD) : (dats m 0 c).arrAt 2 cfg0.N = colsCols (argA m c) (argB m c) := by
  refine (dats m 0 c).arrAt_eq_of_covers 2 _ (by decide +kernel) fun t hf y => ?_
  blk_simp
  rw [after0_2]
  frame_out
  refine (colsCols_whole (rowOf t) (colOf t) (matmul_cols (φ := .bf16) _ _ : k0_pay1 (iblk m c 0 t) (iblk m c 1 t) = _) (argA m c) (argB m c)
    (fun x r => by blk_ext [iblk, V, idx0 t, rowOf]) (fun x r => by blk_ext [iblk, V, idx1 t, colOf]) y).trans (congrArg _ ?_)
  blk_ext [idx2 t, rowOf, colOf]

end Cert.DwGuIdeal.Hand

namespace Cert.DwGuRefIdeal.Hand

open Cert.Products Idealize.ShloMosaic Idealize.SL.Sem

theorem frame : Cert.quiescent_DwGuRefIdeal := fun m g _ =>
  (θ_run Cert.DwGuRefIdeal.defs _ _).mono (fun r h => ⟨fun c => (h c).2, sem_eq_zero_of_no_sems (by decide) r.2⟩) (Cert.DwGuRefIdeal.Value.run m g)

/-- The kernel's product is the reference's gradient. -/
theorem value : Cert.algebraic_DwGuIdeal_DwGuRefIdeal := fun m g m' g' _ agree =>
  ⟨fun c => colsCols (Cert.DwGuIdeal.Hand.argA m c) (Cert.DwGuIdeal.Hand.argB m c),
    (θ_run Cert.DwGuIdeal.defs _ _).mono (fun _ h c => ⟨(h c).1.trans (Cert.DwGuIdeal.Hand.final m c), (h c).2⟩) (Cert.DwGuIdeal.Value.run_blocks m g),
    (θ_run Cert.DwGuRefIdeal.defs _ _).mono (fun _ h c => ⟨(h c).1.trans ((dot_cols (φ := .f32) _ _).trans (congrArg₂ colsCols (agree c).1 (agree c).2)), (h c).2⟩)
      (Cert.DwGuRefIdeal.Value.run m' g')⟩

end Cert.DwGuRefIdeal.Hand

end
-- ==== Proof.Dhf.lean ====
/- The gradient of the feed-forward's normalised input, through `w_gu`: the kernel's blocks put together are the whole product, and so is the reference. -/
module

public import proofs.«01_k».proof.Defs
public import proofs.«01_k».proof.Proof.Gen.DhfIdeal.Value
public import proofs.«01_k».proof.Proof.Gen.DhfRefIdeal.Run
public import proofs.«01_k».proof.Proof.Products

@[expose] public section

set_option maxRecDepth 16384

noncomputable section

namespace Cert.DhfIdeal.Hand

open Cert.DhfIdeal Cert.DhfIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x11264 .bf16 := m ((c : Thread nD τ).loc main_arg0)
abbrev argB (c : Dev nD) : Vec Ideal S2048x11264 .bf16 := m ((c : Thread nD τ).loc main_arg1)

theorem idx0 : ∀ t : Fin cfg0.N, win0_0.index t = ![t.val % 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val % 16, t.val / 16] := (by decide +kernel : ∀ t : Fin grid0.N, _)

theorem lt_N (t : Fin cfg0.N) : t.val < 64 := lt_of_lt_of_eq t.isLt N_0

/-- Row `r` and column `r` of block `t`, in the whole result. -/
def rowOf (t : Fin cfg0.N) (r : Fin 512) : Fin 8192 := ⟨t.val % 16 * 512 + r.val, by have := lt_N t; omega⟩
def colOf (t : Fin cfg0.N) (r : Fin 512) : Fin 2048 := ⟨t.val / 16 * 512 + r.val, by have := lt_N t; omega⟩

/-- The kernel's result. -/
theorem final (c : Dev nD) : (dats m 0 c).arrAt 2 cfg0.N = rowsRows (argA m c) (argB m c) := by
  refine (dats m 0 c).arrAt_eq_of_covers 2 _ (by decide +kernel) fun t hf y => ?_
  blk_simp
  rw [after0_2]
  frame_out
  refine (rowsRows_whole (rowOf t) (colOf t) (matmul_rows (φ := .bf16) _ _ : k0_pay1 (iblk m c 0 t) (iblk m c 1 t) = _) (argA m c) (argB m c)
    (fun r x => by blk_ext [iblk, V, idx0 t, rowOf]) (fun r x => by blk_ext [iblk, V, idx1 t, colOf]) y).trans (congrArg _ ?_)
  blk_ext [idx2 t, rowOf, colOf]

end Cert.DhfIdeal.Hand

namespace Cert.DhfRefIdeal.Hand

open Cert.Products Idealize.ShloMosaic Idealize.SL.Sem

theorem frame : Cert.quiescent_DhfRefIdeal := fun m g _ =>
  (θ_run Cert.DhfRefIdeal.defs _ _).mono (fun r h => ⟨fun c => (h c).2, sem_eq_zero_of_no_sems (by decide) r.2⟩) (Cert.DhfRefIdeal.Value.run m g)

/-- The kernel's product is the reference's gradient. -/
theorem value : Cert.algebraic_DhfIdeal_DhfRefIdeal := fun m g m' g' _ agree =>
  ⟨fun c => rowsRows (Cert.DhfIdeal.Hand.argA m c) (Cert.DhfIdeal.Hand.argB m c),
    (θ_run Cert.DhfIdeal.defs _ _).mono (fun _ h c => ⟨(h c).1.trans (Cert.DhfIdeal.Hand.final m c), (h c).2⟩) (Cert.DhfIdeal.Value.run_blocks m g),
    (θ_run Cert.DhfRefIdeal.defs _ _).mono (fun _ h c => ⟨(h c).1.trans ((dot_rows (φ := .f32) _ _).trans (congrArg₂ rowsRows (agree c).1 (agree c).2)), (h c).2⟩)
      (Cert.DhfRefIdeal.Value.run m' g')⟩

end Cert.DhfRefIdeal.Hand

end
-- ==== Proof.Dcat.lean ====
/- The gradient of the mixer's joined branches, through `w_out`: the kernel's blocks put together are the whole product, and so is the reference. -/
module

public import proofs.«01_k».proof.Defs
public import proofs.«01_k».proof.Proof.Gen.DcatIdeal.Value
public import proofs.«01_k».proof.Proof.Gen.DcatRefIdeal.Run
public import proofs.«01_k».proof.Proof.Products

@[expose] public section

set_option maxRecDepth 16384

noncomputable section

namespace Cert.DcatIdeal.Hand

open Cert.DcatIdeal Cert.DcatIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S4096x2048 .bf16 := m ((c : Thread nD τ).loc main_arg1)

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)

theorem lt_N (t : Fin cfg0.N) : t.val < 32 := lt_of_lt_of_eq t.isLt N_0

/-- Row `r` and column `r` of block `t`, in the whole result. -/
def rowOf (t : Fin cfg0.N) (r : Fin 1024) : Fin 8192 := ⟨t.val / 4 * 1024 + r.val, by have := lt_N t; omega⟩
def colOf (t : Fin cfg0.N) (r : Fin 1024) : Fin 4096 := ⟨t.val % 4 * 1024 + r.val, by have := lt_N t; omega⟩

/-- The kernel's result. -/
theorem final (c : Dev nD) : (dats m 0 c).arrAt 2 cfg0.N = rowsRows (argA m c) (argB m c) := by
  refine (dats m 0 c).arrAt_eq_of_covers 2 _ (by decide +kernel) fun t hf y => ?_
  blk_simp
  rw [after0_2]
  frame_out
  refine (rowsRows_whole (rowOf t) (colOf t) (matmul_rows (φ := .bf16) _ _ : k0_pay1 (iblk m c 0 t) (iblk m c 1 t) = _) (argA m c) (argB m c)
    (fun r x => by blk_ext [iblk, V, idx0 t, rowOf]) (fun r x => by blk_ext [iblk, V, idx1 t, colOf]) y).trans (congrArg _ ?_)
  blk_ext [idx2 t, rowOf, colOf]

end Cert.DcatIdeal.Hand

namespace Cert.DcatRefIdeal.Hand

open Cert.Products Idealize.ShloMosaic Idealize.SL.Sem

theorem frame : Cert.quiescent_DcatRefIdeal := fun m g _ =>
  (θ_run Cert.DcatRefIdeal.defs _ _).mono (fun r h => ⟨fun c => (h c).2, sem_eq_zero_of_no_sems (by decide) r.2⟩) (Cert.DcatRefIdeal.Value.run m g)

/-- The kernel's product is the reference's gradient. -/
theorem value : Cert.algebraic_DcatIdeal_DcatRefIdeal := fun m g m' g' _ agree =>
  ⟨fun c => rowsRows (Cert.DcatIdeal.Hand.argA m c) (Cert.DcatIdeal.Hand.argB m c),
    (θ_run Cert.DcatIdeal.defs _ _).mono (fun _ h c => ⟨(h c).1.trans (Cert.DcatIdeal.Hand.final m c), (h c).2⟩) (Cert.DcatIdeal.Value.run_blocks m g),
    (θ_run Cert.DcatRefIdeal.defs _ _).mono (fun _ h c => ⟨(h c).1.trans ((dot_rows (φ := .f32) _ _).trans (congrArg₂ rowsRows (agree c).1 (agree c).2)), (h c).2⟩)
      (Cert.DcatRefIdeal.Value.run m' g')⟩

end Cert.DcatRefIdeal.Hand

end
-- ==== Proof.DwMain.lean ====
/- The gradient of the mixer's input projection, `w_main`: the kernel's blocks put together are the whole product, and so is the reference. -/
module

public import proofs.«01_k».proof.Defs
public import proofs.«01_k».proof.Proof.Gen.DwMainIdeal.Value
public import proofs.«01_k».proof.Proof.Gen.DwMainRefIdeal.Run
public import proofs.«01_k».proof.Proof.Products

@[expose] public section

set_option maxRecDepth 16384

noncomputable section

namespace Cert.DwMainIdeal.Hand

open Cert.DwMainIdeal Cert.DwMainIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S8192x11264 .bf16 := m ((c : Thread nD τ).loc main_arg1)

theorem idx0 : ∀ t : Fin cfg0.N, win0_0.index t = ![0, t.val / 22] := (by decide +kernel : ∀ t : Fin grid0.N, _)
theorem idx1 : ∀ t : Fin cfg0.N, win0_1.index t = ![0, t.val % 22] := (by decide +kernel : ∀ t : Fin grid0.N, _)
theorem idx2 : ∀ t : Fin cfg0.N, win0_2.index t = ![t.val / 22, t.val % 22] := (by decide +kernel : ∀ t : Fin grid0.N, _)

theorem lt_N (t : Fin cfg0.N) : t.val < 88 := lt_of_lt_of_eq t.isLt N_0

/-- Row `r` and column `r` of block `t`, in the whole result. -/
def rowOf (t : Fin cfg0.N) (r : Fin 512) : Fin 2048 := ⟨t.val / 22 * 512 + r.val, by have := lt_N t; omega⟩
def colOf (t : Fin cfg0.N) (r : Fin 512) : Fin 11264 := ⟨t.val % 22 * 512 + r.val, by have := lt_N t; omega⟩

/-- The kernel's result. -/
theorem final (c : Dev nD) : (dats m 0 c).arrAt 2 cfg0.N = colsCols (argA m c) (argB m c) := by
  refine (dats m 0 c).arrAt_eq_of_covers 2 _ (by decide +kernel) fun t hf y => ?_
  blk_simp
  rw [after0_2]
  frame_out
  refine (colsCols_whole (rowOf t) (colOf t) (matmul_cols (φ := .bf16) _ _ : k0_pay1 (iblk m c 0 t) (iblk m c 1 t) = _) (argA m c) (argB m c)
    (fun x r => by blk_ext [iblk, V, idx0 t, rowOf]) (fun x r => by blk_ext [iblk, V, idx1 t, colOf]) y).trans (congrArg _ ?_)
  blk_ext [idx2 t, rowOf, colOf]

end Cert.DwMainIdeal.Hand

namespace Cert.DwMainRefIdeal.Hand

open Cert.Products Idealize.ShloMosaic Idealize.SL.Sem

theorem frame : Cert.quiescent_DwMainRefIdeal := fun m g _ =>
  (θ_run Cert.DwMainRefIdeal.defs _ _).mono (fun r h => ⟨fun c => (h c).2, sem_eq_zero_of_no_sems (by decide) r.2⟩) (Cert.DwMainRefIdeal.Value.run m g)

/-- The kernel's product is the reference's gradient. -/
theorem value : Cert.algebraic_DwMainIdeal_DwMainRefIdeal := fun m g m' g' _ agree =>
  ⟨fun c => colsCols (Cert.DwMainIdeal.Hand.argA m c) (Cert.DwMainIdeal.Hand.argB m c),
    (θ_run Cert.DwMainIdeal.defs _ _).mono (fun _ h c => ⟨(h c).1.trans (Cert.DwMainIdeal.Hand.final m c), (h c).2⟩) (Cert.DwMainIdeal.Value.run_blocks m g),
    (θ_run Cert.DwMainRefIdeal.defs _ _).mono (fun _ h c => ⟨(h c).1.trans ((dot_cols (φ := .f32) _ _).trans (congrArg₂ colsCols (agree c).1 (agree c).2)), (h c).2⟩)
      (Cert.DwMainRefIdeal.Value.run m' g')⟩

end Cert.DwMainRefIdeal.Hand

end
-- ==== Proof.Dhn.lean ====
/- The gradient of the layer's normalised input, through `w_main`: the kernel's blocks put together are the whole product, and so is the reference. -/
module

public import proofs.«01_k».proof.Defs
public import proofs.«01_k».proof.Proof.Gen.DhnIdeal.Value
public import proofs.«01_k».proof.Proof.Gen.DhnRefIdeal.Run
public import proofs.«01_k».proof.Proof.Products

@[expose] public section

set_option maxRecDepth 16384

noncomputable section

namespace Cert.DhnIdeal.Hand

open Cert.DhnIdeal Cert.DhnIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x11264 .bf16 := m ((c : Thread nD τ).loc main_arg0)
abbrev argB (c : Dev nD) : Vec Ideal S2048x11264 .bf16 := m ((c : Thread nD τ).loc main_arg1)

theorem idx0 : ∀ t : Fin cfg0.N, win0_0.index t = ![t.val % 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val % 16, t.val / 16] := (by decide +kernel : ∀ t : Fin grid0.N, _)

theorem lt_N (t : Fin cfg0.N) : t.val < 64 := lt_of_lt_of_eq t.isLt N_0

/-- Row `r` and column `r` of block `t`, in the whole result. -/
def rowOf (t : Fin cfg0.N) (r : Fin 512) : Fin 8192 := ⟨t.val % 16 * 512 + r.val, by have := lt_N t; omega⟩
def colOf (t : Fin cfg0.N) (r : Fin 512) : Fin 2048 := ⟨t.val / 16 * 512 + r.val, by have := lt_N t; omega⟩

/-- The kernel's result. -/
theorem final (c : Dev nD) : (dats m 0 c).arrAt 2 cfg0.N = rowsRows (argA m c) (argB m c) := by
  refine (dats m 0 c).arrAt_eq_of_covers 2 _ (by decide +kernel) fun t hf y => ?_
  blk_simp
  rw [after0_2]
  frame_out
  refine (rowsRows_whole (rowOf t) (colOf t) (matmul_rows (φ := .bf16) _ _ : k0_pay1 (iblk m c 0 t) (iblk m c 1 t) = _) (argA m c) (argB m c)
    (fun r x => by blk_ext [iblk, V, idx0 t, rowOf]) (fun r x => by blk_ext [iblk, V, idx1 t, colOf]) y).trans (congrArg _ ?_)
  blk_ext [idx2 t, rowOf, colOf]

end Cert.DhnIdeal.Hand

namespace Cert.DhnRefIdeal.Hand

open Cert.Products Idealize.ShloMosaic Idealize.SL.Sem

theorem frame : Cert.quiescent_DhnRefIdeal := fun m g _ =>
  (θ_run Cert.DhnRefIdeal.defs _ _).mono (fun r h => ⟨fun c => (h c).2, sem_eq_zero_of_no_sems (by decide) r.2⟩) (Cert.DhnRefIdeal.Value.run m g)

/-- The kernel's product is the reference's gradient. -/
theorem value : Cert.algebraic_DhnIdeal_DhnRefIdeal := fun m g m' g' _ agree =>
  ⟨fun c => rowsRows (Cert.DhnIdeal.Hand.argA m c) (Cert.DhnIdeal.Hand.argB m c),
    (θ_run Cert.DhnIdeal.defs _ _).mono (fun _ h c => ⟨(h c).1.trans (Cert.DhnIdeal.Hand.final m c), (h c).2⟩) (Cert.DhnIdeal.Value.run_blocks m g),
    (θ_run Cert.DhnRefIdeal.defs _ _).mono (fun _ h c => ⟨(h c).1.trans ((dot_rows (φ := .f32) _ _).trans (congrArg₂ rowsRows (agree c).1 (agree c).2)), (h c).2⟩)
      (Cert.DhnRefIdeal.Value.run m' g')⟩

end Cert.DhnRefIdeal.Hand

end
-- ==== Proof.Proj.lean ====
/- The mixer's input projection through `w_main`: the kernel's blocks put together are the whole product, and so is the reference. -/
module

public import proofs.«01_k».proof.Defs
public import proofs.«01_k».proof.Proof.Gen.ProjIdeal.Value
public import proofs.«01_k».proof.Proof.Gen.ProjRefIdeal.Run
public import proofs.«01_k».proof.Proof.Products

@[expose] public section

set_option maxRecDepth 16384

noncomputable section

namespace Cert.ProjIdeal.Hand

open Cert.ProjIdeal Cert.ProjIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S2048x11264 .bf16 := m ((c : Thread nD τ).loc main_arg1)

theorem idx0 : ∀ t : Fin cfg0.N, win0_0.index t = ![t.val / 11, 0] := (by decide +kernel : ∀ t : Fin grid0.N, _)
theorem idx1 : ∀ t : Fin cfg0.N, win0_1.index t = ![0, t.val % 11] := (by decide +kernel : ∀ t : Fin grid0.N, _)
theorem idx2 : ∀ t : Fin cfg0.N, win0_2.index t = ![t.val / 11, t.val % 11] := (by decide +kernel : ∀ t : Fin grid0.N, _)

theorem lt_N (t : Fin cfg0.N) : t.val < 88 := lt_of_lt_of_eq t.isLt N_0

/-- Row `r` and column `r` of block `t`, in the whole result. -/
def rowOf (t : Fin cfg0.N) (r : Fin 1024) : Fin 8192 := ⟨t.val / 11 * 1024 + r.val, by have := lt_N t; omega⟩
def colOf (t : Fin cfg0.N) (r : Fin 1024) : Fin 11264 := ⟨t.val % 11 * 1024 + r.val, by have := lt_N t; omega⟩

/-- The kernel's result. -/
theorem final (c : Dev nD) : (dats m 0 c).arrAt 2 cfg0.N = rowsCols (argA m c) (argB m c) := by
  refine (dats m 0 c).arrAt_eq_of_covers 2 _ (by decide +kernel) fun t hf y => ?_
  blk_simp
  rw [after0_2]
  frame_out
  refine (rowsCols_whole (rowOf t) (colOf t) (matmul_plain (φ := .bf16) _ _ : k0_pay1 (iblk m c 0 t) (iblk m c 1 t) = _)
    (argA m c) (argB m c) (fun r x => by blk_ext [iblk, V, idx0 t, rowOf]) (fun x r => by blk_ext [iblk, V, idx1 t, colOf])
    y).trans (congrArg _ ?_)
  blk_ext [idx2 t, rowOf, colOf]

end Cert.ProjIdeal.Hand

namespace Cert.ProjRefIdeal.Hand

open Cert.Products Idealize.ShloMosaic Idealize.SL.Sem

theorem frame : Cert.quiescent_ProjRefIdeal := fun m g _ =>
  (θ_run Cert.ProjRefIdeal.defs _ _).mono (fun r h => ⟨fun c => (h c).2, sem_eq_zero_of_no_sems (by decide) r.2⟩) (Cert.ProjRefIdeal.Value.run m g)

/-- The kernel's result is the reference's. -/
theorem value : Cert.algebraic_ProjIdeal_ProjRefIdeal := fun m g m' g' _ agree =>
  ⟨fun c => rowsCols (Cert.ProjIdeal.Hand.argA m c) (Cert.ProjIdeal.Hand.argB m c),
    (θ_run Cert.ProjIdeal.defs _ _).mono (fun _ h c => ⟨(h c).1.trans (Cert.ProjIdeal.Hand.final m c), (h c).2⟩) (Cert.ProjIdeal.Value.run_blocks m g),
    (θ_run Cert.ProjRefIdeal.defs _ _).mono (fun _ h c => ⟨(h c).1.trans ((dot_plain (φ := .f32) _ _).trans (congrArg₂ rowsCols (agree c).1 (agree c).2)), (h c).2⟩)
      (Cert.ProjRefIdeal.Value.run m' g')⟩

end Cert.ProjRefIdeal.Hand

end
-- ==== Proof.Out.lean ====
/- The mixer's output projection through `w_out`, onto the residual stream:
   the kernel's blocks put together are the whole sum, and so is the reference. -/
module

public import proofs.«01_k».proof.Defs
public import proofs.«01_k».proof.Proof.Gen.OutIdeal.Value
public import proofs.«01_k».proof.Proof.Gen.OutRefIdeal.Run
public import proofs.«01_k».proof.Proof.Products

@[expose] public section

set_option maxRecDepth 16384

noncomputable section

namespace Cert.OutIdeal.Hand

open Cert.OutIdeal Cert.OutIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x4096 .bf16 := m ((c : Thread nD τ).loc main_arg0)
abbrev argB (c : Dev nD) : Vec Ideal S4096x2048 .bf16 := m ((c : Thread nD τ).loc main_arg1)
abbrev argC (c : Dev nD) : Vec Ideal S8192x2048 .f32 := m ((c : Thread nD τ).loc main_arg2)

theorem idx0 : ∀ t : Fin cfg0.N, win0_0.index t = ![t.val % 16, 0] := (by decide +kernel : ∀ t : Fin grid0.N, _)
theorem idx1 : ∀ t : Fin cfg0.N, win0_1.index t = ![0, t.val / 16] := (by decide +kernel : ∀ t : Fin grid0.N, _)
theorem idx2 : ∀ t : Fin cfg0.N, win0_2.index t = ![t.val % 16, t.val / 16] := (by decide +kernel : ∀ t : Fin grid0.N, _)
theorem idx3 : ∀ t : Fin cfg0.N, win0_3.index t = ![t.val % 16, t.val / 16] := (by decide +kernel : ∀ t : Fin grid0.N, _)

theorem lt_N (t : Fin cfg0.N) : t.val < 32 := lt_of_lt_of_eq t.isLt N_0

/-- Row `r` and column `r` of block `t`, in the whole result. -/
def rowOf (t : Fin cfg0.N) (r : Fin 512) : Fin 8192 := ⟨t.val % 16 * 512 + r.val, by have := lt_N t; omega⟩
def colOf (t : Fin cfg0.N) (r : Fin 1024) : Fin 2048 := ⟨t.val / 16 * 1024 + r.val, by have := lt_N t; omega⟩

/-- The kernel's result. -/
theorem final (c : Dev nD) : (dats m 0 c).arrAt 3 cfg0.N = argC m c + rowsCols (argA m c) (argB m c) := by
  refine (dats m 0 c).arrAt_eq_of_covers 3 _ (by decide +kernel) fun t hf y => ?_
  blk_simp
  rw [after0_3]
  frame_out
  refine (rowsCols_add_whole (rowOf t) (colOf t)
    (matmul_plain_add (φ := .bf16) _ _ _ : k0_pay1 (iblk m c 0 t) (iblk m c 1 t) (iblk m c 2 t) = _) (argA m c) (argB m c) (argC m c)
    (fun r x => by blk_ext [iblk, V, idx0 t, rowOf]) (fun x r => by blk_ext [iblk, V, idx1 t, colOf])
    (fun r q => by blk_ext [iblk, V, idx2 t, rowOf, colOf]) y).trans (congrArg (argC m c + rowsCols (argA m c) (argB m c)) ?_)
  blk_ext [idx3 t, rowOf, colOf]

end Cert.OutIdeal.Hand

namespace Cert.OutRefIdeal.Hand

open Cert.Products Idealize.ShloMosaic Idealize.SL.Sem

theorem frame : Cert.quiescent_OutRefIdeal := fun m g _ =>
  (θ_run Cert.OutRefIdeal.defs _ _).mono (fun r h => ⟨fun c => (h c).2, sem_eq_zero_of_no_sems (by decide) r.2⟩) (Cert.OutRefIdeal.Value.run m g)

/-- The kernel's result is the reference's. -/
theorem value : Cert.algebraic_OutIdeal_OutRefIdeal := fun m g m' g' _ agree =>
  ⟨fun c => Cert.OutIdeal.Hand.argC m c + rowsCols (Cert.OutIdeal.Hand.argA m c) (Cert.OutIdeal.Hand.argB m c),
    (θ_run Cert.OutIdeal.defs _ _).mono (fun _ h c => ⟨(h c).1.trans (Cert.OutIdeal.Hand.final m c), (h c).2⟩) (Cert.OutIdeal.Value.run_blocks m g),
    (θ_run Cert.OutRefIdeal.defs _ _).mono (fun _ h c => ⟨(h c).1.trans ((dot_plain_add (φ := .f32) _ _ _).trans
        (congrArg₂ (· + ·) (agree c).2.2 (congrArg₂ rowsCols (agree c).1 (agree c).2.1))), (h c).2⟩)
      (Cert.OutRefIdeal.Value.run m' g')⟩

end Cert.OutRefIdeal.Hand

end
-- ==== Proof.Q.lean ====
/- The attention's queries, through `w_q`: the kernel's blocks put together are the whole product, and so is the reference. -/
module

public import proofs.«01_k».proof.Defs
public import proofs.«01_k».proof.Proof.Gen.QIdeal.Value
public import proofs.«01_k».proof.Proof.Gen.QRefIdeal.Run
public import proofs.«01_k».proof.Proof.Products

@[expose] public section

set_option maxRecDepth 16384

noncomputable section

namespace Cert.QIdeal.Hand

open Cert.QIdeal Cert.QIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S2048x512 .bf16 := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt_N (t : Fin cfg0.N) : t.val < 8 := lt_of_lt_of_eq t.isLt N_0

/-- Row `r` and column `r` of block `t`, in the whole result. -/
def rowOf (t : Fin cfg0.N) (r : Fin 1024) : Fin 8192 := ⟨t.val * 1024 + r.val, by have := lt_N t; omega⟩
def colOf (t : Fin cfg0.N) (r : Fin 512) : Fin 512 := ⟨r.val, by omega⟩

/-- The kernel's result. -/
theorem final (c : Dev nD) : (dats m 0 c).arrAt 2 cfg0.N = rowsCols (argA m c) (argB m c) := by
  refine (dats m 0 c).arrAt_eq_of_covers 2 _ (by decide +kernel) fun t hf y => ?_
  blk_simp
  rw [after0_2]
  frame_out
  refine (rowsCols_whole (rowOf t) (colOf t) (matmul_plain (φ := .bf16) _ _ : k0_pay1 (iblk m c 0 t) (iblk m c 1 t) = _)
    (argA m c) (argB m c) (fun r x => by blk_ext [iblk, V, idx0 t, rowOf]) (fun x r => by blk_ext [iblk, V, idx1 t, colOf])
    y).trans (congrArg _ ?_)
  blk_ext [idx2 t, rowOf, colOf]

end Cert.QIdeal.Hand

namespace Cert.QRefIdeal.Hand

open Cert.Products Idealize.ShloMosaic Idealize.SL.Sem

theorem frame : Cert.quiescent_QRefIdeal := fun m g _ =>
  (θ_run Cert.QRefIdeal.defs _ _).mono (fun r h => ⟨fun c => (h c).2, sem_eq_zero_of_no_sems (by decide) r.2⟩) (Cert.QRefIdeal.Value.run m g)

/-- The kernel's result is the reference's. -/
theorem value : Cert.algebraic_QIdeal_QRefIdeal := fun m g m' g' _ agree =>
  ⟨fun c => rowsCols (Cert.QIdeal.Hand.argA m c) (Cert.QIdeal.Hand.argB m c),
    (θ_run Cert.QIdeal.defs _ _).mono (fun _ h c => ⟨(h c).1.trans (Cert.QIdeal.Hand.final m c), (h c).2⟩) (Cert.QIdeal.Value.run_blocks m g),
    (θ_run Cert.QRefIdeal.defs _ _).mono (fun _ h c => ⟨(h c).1.trans ((dot_plain (φ := .f32) _ _).trans (congrArg₂ rowsCols (agree c).1 (agree c).2)), (h c).2⟩)
      (Cert.QRefIdeal.Value.run m' g')⟩

end Cert.QRefIdeal.Hand

end
-- ==== Proof.O.lean ====
/- The attention's output projection through `w_o`, onto the residual stream:
   the kernel's blocks put together are the whole sum, and so is the reference. -/
module

public import proofs.«01_k».proof.Defs
public import proofs.«01_k».proof.Proof.Gen.OIdeal.Value
public import proofs.«01_k».proof.Proof.Gen.ORefIdeal.Run
public import proofs.«01_k».proof.Proof.Products

@[expose] public section

set_option maxRecDepth 16384

noncomputable section

namespace Cert.OIdeal.Hand

open Cert.OIdeal Cert.OIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x512 .bf16 := m ((c : Thread nD τ).loc main_arg0)
abbrev argB (c : Dev nD) : Vec Ideal S512x2048 .bf16 := m ((c : Thread nD τ).loc main_arg1)
abbrev argC (c : Dev nD) : Vec Ideal S8192x2048 .f32 := m ((c : Thread nD τ).loc main_arg2)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

theorem lt_N (t : Fin cfg0.N) : t.val < 16 := lt_of_lt_of_eq t.isLt N_0

/-- Row `r` and column `r` of block `t`, in the whole result. -/
def rowOf (t : Fin cfg0.N) (r : Fin 1024) : Fin 8192 := ⟨t.val / 2 * 1024 + r.val, by have := lt_N t; omega⟩
def colOf (t : Fin cfg0.N) (r : Fin 1024) : Fin 2048 := ⟨t.val % 2 * 1024 + r.val, by have := lt_N t; omega⟩

/-- The kernel's result. -/
theorem final (c : Dev nD) : (dats m 0 c).arrAt 3 cfg0.N = argC m c + rowsCols (argA m c) (argB m c) := by
  refine (dats m 0 c).arrAt_eq_of_covers 3 _ (by decide +kernel) fun t hf y => ?_
  blk_simp
  rw [after0_3]
  frame_out
  refine (rowsCols_add_whole (rowOf t) (colOf t)
    (matmul_plain_add (φ := .bf16) _ _ _ : k0_pay1 (iblk m c 0 t) (iblk m c 1 t) (iblk m c 2 t) = _) (argA m c) (argB m c) (argC m c)
    (fun r x => by blk_ext [iblk, V, idx0 t, rowOf]) (fun x r => by blk_ext [iblk, V, idx1 t, colOf])
    (fun r q => by blk_ext [iblk, V, idx2 t, rowOf, colOf]) y).trans (congrArg (argC m c + rowsCols (argA m c) (argB m c)) ?_)
  blk_ext [idx3 t, rowOf, colOf]

end Cert.OIdeal.Hand

namespace Cert.ORefIdeal.Hand

open Cert.Products Idealize.ShloMosaic Idealize.SL.Sem

theorem frame : Cert.quiescent_ORefIdeal := fun m g _ =>
  (θ_run Cert.ORefIdeal.defs _ _).mono (fun r h => ⟨fun c => (h c).2, sem_eq_zero_of_no_sems (by decide) r.2⟩) (Cert.ORefIdeal.Value.run m g)

/-- The kernel's result is the reference's. -/
theorem value : Cert.algebraic_OIdeal_ORefIdeal := fun m g m' g' _ agree =>
  ⟨fun c => Cert.OIdeal.Hand.argC m c + rowsCols (Cert.OIdeal.Hand.argA m c) (Cert.OIdeal.Hand.argB m c),
    (θ_run Cert.OIdeal.defs _ _).mono (fun _ h c => ⟨(h c).1.trans (Cert.OIdeal.Hand.final m c), (h c).2⟩) (Cert.OIdeal.Value.run_blocks m g),
    (θ_run Cert.ORefIdeal.defs _ _).mono (fun _ h c => ⟨(h c).1.trans ((dot_plain_add (φ := .f32) _ _ _).trans
        (congrArg₂ (· + ·) (agree c).2.2 (congrArg₂ rowsCols (agree c).1 (agree c).2.1))), (h c).2⟩)
      (Cert.ORefIdeal.Value.run m' g')⟩

end Cert.ORefIdeal.Hand

end
-- ==== Proof.Gu.lean ====
/- The feed-forward's first projection, through `w_gu`: the kernel's blocks put together are the whole product, and so is the reference. -/
module

public import proofs.«01_k».proof.Defs
public import proofs.«01_k».proof.Proof.Gen.GuIdeal.Value
public import proofs.«01_k».proof.Proof.Gen.GuRefIdeal.Run
public import proofs.«01_k».proof.Proof.Products

@[expose] public section

set_option maxRecDepth 16384

noncomputable section

namespace Cert.GuIdeal.Hand

open Cert.GuIdeal Cert.GuIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x2048 .bf16 := m ((c : Thread nD τ).loc main_arg0)
abbrev argB (c : Dev nD) : Vec Ideal S2048x11264 .bf16 := m ((c : Thread nD τ).loc main_arg1)

theorem idx0 : ∀ t : Fin cfg0.N, win0_0.index t = ![t.val / 11, 0] := (by decide +kernel : ∀ t : Fin grid0.N, _)
theorem idx1 : ∀ t : Fin cfg0.N, win0_1.index t = ![0, t.val % 11] := (by decide +kernel : ∀ t : Fin grid0.N, _)
theorem idx2 : ∀ t : Fin cfg0.N, win0_2.index t = ![t.val / 11, t.val % 11] := (by decide +kernel : ∀ t : Fin grid0.N, _)

theorem lt_N (t : Fin cfg0.N) : t.val < 88 := lt_of_lt_of_eq t.isLt N_0

/-- Row `r` and column `r` of block `t`, in the whole result. -/
def rowOf (t : Fin cfg0.N) (r : Fin 1024) : Fin 8192 := ⟨t.val / 11 * 1024 + r.val, by have := lt_N t; omega⟩
def colOf (t : Fin cfg0.N) (r : Fin 1024) : Fin 11264 := ⟨t.val % 11 * 1024 + r.val, by have := lt_N t; omega⟩

/-- The kernel's result. -/
theorem final (c : Dev nD) : (dats m 0 c).arrAt 2 cfg0.N = rowsCols (argA m c) (argB m c) := by
  refine (dats m 0 c).arrAt_eq_of_covers 2 _ (by decide +kernel) fun t hf y => ?_
  blk_simp
  rw [after0_2]
  frame_out
  refine (rowsCols_whole (rowOf t) (colOf t) (matmul_plain (φ := .bf16) _ _ : k0_pay1 (iblk m c 0 t) (iblk m c 1 t) = _)
    (argA m c) (argB m c) (fun r x => by blk_ext [iblk, V, idx0 t, rowOf]) (fun x r => by blk_ext [iblk, V, idx1 t, colOf])
    y).trans (congrArg _ ?_)
  blk_ext [idx2 t, rowOf, colOf]

end Cert.GuIdeal.Hand

namespace Cert.GuRefIdeal.Hand

open Cert.Products Idealize.ShloMosaic Idealize.SL.Sem

theorem frame : Cert.quiescent_GuRefIdeal := fun m g _ =>
  (θ_run Cert.GuRefIdeal.defs _ _).mono (fun r h => ⟨fun c => (h c).2, sem_eq_zero_of_no_sems (by decide) r.2⟩) (Cert.GuRefIdeal.Value.run m g)

/-- The kernel's result is the reference's. -/
theorem value : Cert.algebraic_GuIdeal_GuRefIdeal := fun m g m' g' _ agree =>
  ⟨fun c => rowsCols (Cert.GuIdeal.Hand.argA m c) (Cert.GuIdeal.Hand.argB m c),
    (θ_run Cert.GuIdeal.defs _ _).mono (fun _ h c => ⟨(h c).1.trans (Cert.GuIdeal.Hand.final m c), (h c).2⟩) (Cert.GuIdeal.Value.run_blocks m g),
    (θ_run Cert.GuRefIdeal.defs _ _).mono (fun _ h c => ⟨(h c).1.trans ((dot_plain (φ := .f32) _ _).trans (congrArg₂ rowsCols (agree c).1 (agree c).2)), (h c).2⟩)
      (Cert.GuRefIdeal.Value.run m' g')⟩

end Cert.GuRefIdeal.Hand

end
-- ==== Proof.Down.lean ====
/- The feed-forward's last projection through `w_down`, onto the residual stream:
   the kernel's blocks put together are the whole sum, and so is the reference. -/
module

public import proofs.«01_k».proof.Defs
public import proofs.«01_k».proof.Proof.Gen.DownIdeal.Value
public import proofs.«01_k».proof.Proof.Gen.DownRefIdeal.Run
public import proofs.«01_k».proof.Proof.Products

@[expose] public section

set_option maxRecDepth 16384

noncomputable section

namespace Cert.DownIdeal.Hand

open Cert.DownIdeal Cert.DownIdeal.Gen Cert.Products Idealize.ShloMosaic Idealize.ShloMosaic.Tactic
open Idealize.ShloMosaic.TcCoe

variable (m : (ℓ : Loc nD τ sig) → Buf (Elt Ideal) ℓ)

abbrev argA (c : Dev nD) : Vec Ideal S8192x5632 .bf16 := m ((c : Thread nD τ).loc main_arg0)
abbrev argB (c : Dev nD) : Vec Ideal S5632x2048 .bf16 := m ((c : Thread nD τ).loc main_arg1)
abbrev argC (c : Dev nD) : Vec Ideal S8192x2048 .f32 := m ((c : Thread nD τ).loc main_arg2)

theorem idx0 : ∀ t : Fin cfg0.N, win0_0.index t = ![t.val % 16, 0] := (by decide +kernel : ∀ t : Fin grid0.N, _)
theorem idx1 : ∀ t : Fin cfg0.N, win0_1.index t = ![0, t.val / 16] := (by decide +kernel : ∀ t : Fin grid0.N, _)
theorem idx2 : ∀ t : Fin cfg0.N, win0_2.index t = ![t.val % 16, t.val / 16] := (by decide +kernel : ∀ t : Fin grid0.N, _)
theorem idx3 : ∀ t : Fin cfg0.N, win0_3.index t = ![t.val % 16, t.val / 16] := (by decide +kernel : ∀ t : Fin grid0.N, _)

theorem lt_N (t : Fin cfg0.N) : t.val < 32 := lt_of_lt_of_eq t.isLt N_0

/-- Row `r` and column `r` of block `t`, in the whole result. -/
def rowOf (t : Fin cfg0.N) (r : Fin 512) : Fin 8192 := ⟨t.val % 16 * 512 + r.val, by have := lt_N t; omega⟩
def colOf (t : Fin cfg0.N) (r : Fin 1024) : Fin 2048 := ⟨t.val / 16 * 1024 + r.val, by have := lt_N t; omega⟩

/-- The kernel's result. -/
theorem final (c : Dev nD) : (dats m 0 c).arrAt 3 cfg0.N = argC m c + rowsCols (argA m c) (argB m c) := by
  refine (dats m 0 c).arrAt_eq_of_covers 3 _ (by decide +kernel) fun t hf y => ?_
  blk_simp
  rw [after0_3]
  frame_out
  refine (rowsCols_add_whole (rowOf t) (colOf t)
    (matmul_plain_add (φ := .bf16) _ _ _ : k0_pay1 (iblk m c 0 t) (iblk m c 1 t) (iblk m c 2 t) = _) (argA m c) (argB m c) (argC m c)
    (fun r x => by blk_ext [iblk, V, idx0 t, rowOf]) (fun x r => by blk_ext [iblk, V, idx1 t, colOf])
    (fun r q => by blk_ext [iblk, V, idx2 t, rowOf, colOf]) y).trans (congrArg (argC m c + rowsCols (argA m c) (argB m c)) ?_)
  blk_ext [idx3 t, rowOf, colOf]

end Cert.DownIdeal.Hand

namespace Cert.DownRefIdeal.Hand

open Cert.Products Idealize.ShloMosaic Idealize.SL.Sem

theorem frame : Cert.quiescent_DownRefIdeal := fun m g _ =>
  (θ_run Cert.DownRefIdeal.defs _ _).mono (fun r h => ⟨fun c => (h c).2, sem_eq_zero_of_no_sems (by decide) r.2⟩) (Cert.DownRefIdeal.Value.run m g)

/-- The kernel's result is the reference's. -/
theorem value : Cert.algebraic_DownIdeal_DownRefIdeal := fun m g m' g' _ agree =>
  ⟨fun c => Cert.DownIdeal.Hand.argC m c + rowsCols (Cert.DownIdeal.Hand.argA m c) (Cert.DownIdeal.Hand.argB m c),
    (θ_run Cert.DownIdeal.defs _ _).mono (fun _ h c => ⟨(h c).1.trans (Cert.DownIdeal.Hand.final m c), (h c).2⟩) (Cert.DownIdeal.Value.run_blocks m g),
    (θ_run Cert.DownRefIdeal.defs _ _).mono (fun _ h c => ⟨(h c).1.trans ((dot_plain_add (φ := .f32) _ _ _).trans
        (congrArg₂ (· + ·) (agree c).2.2 (congrArg₂ rowsCols (agree c).1 (agree c).2.1))), (h c).2⟩)
      (Cert.DownRefIdeal.Value.run m' g')⟩

end Cert.DownRefIdeal.Hand

end
-- ==== Proof.Rms.lean ====
/- The gradient of a row divided by its root mean square: the kernel's closed form and the chain rule's three terms are
   the same where the row and its cotangent are real. -/
module

public import Idealize.ShloMosaic.PureOps
public import Idealize.ShloMosaic.Lib.Pointwise
public import Idealize.ShloMosaic.Lib.IdealHost
public import proofs.«01_k».proof.Proof.Softmax

@[expose] public section

noncomputable section

namespace Cert.Rms

open Idealize.ShloMosaic

/-- The number of a row's entries, as the constant the sums are divided by. -/
structure Width where
  val : EReal
  real : ℝ
  pos : 0 < real
  eq : val = (real : EReal)

/-- The number added to the mean square, and the factor of a square root's derivative. -/
def eps : EReal := Ideal.ofBits .f32 0x3727C5AC#32
def negHalf : EReal := Ideal.ofBits .f32 0xBF000000#32

def w2048 : Width := ⟨Ideal.ofBits .f32 0x45000000#32, 2048, by norm_num, by
  simp [Ideal.ofBits, Ideal.ieee, -EReal.coe_mul]
  norm_num⟩

def w512 : Width := ⟨Ideal.ofBits .f32 0x44000000#32, 512, by norm_num, by
  simp [Ideal.ofBits, Ideal.ieee, -EReal.coe_mul]
  norm_num⟩

theorem negHalf_eq : negHalf = ((-(1 / 2) : ℝ) : EReal) := by
  simp [negHalf, Ideal.ofBits, Ideal.ieee, -EReal.coe_mul]
  norm_num

theorem eps_pos : ∃ e : ℝ, 0 < e ∧ eps = (e : EReal) := by
  simp [eps, Ideal.ofBits, Ideal.ieee, -EReal.coe_mul]

variable {ι : Type} [Fintype ι] (n : Width)

/-- The mean square, and the reciprocal of its root. -/
def meanSq (x : ι → EReal) : EReal := Ideal.div (∑ k, x k * x k) n.val + eps
def rstd (x : ι → EReal) : EReal := Ideal.rsqrt (meanSq n x)

/-- The gradient in the kernel's form: `x` is the row, `y` the cotangent of the normalized row. -/
def grad (x y : ι → EReal) (j : ι) : EReal :=
  rstd n x * (y j - x j * rstd n x * Ideal.div (∑ k, y k * (x k * rstd n x)) n.val)

/-- The cotangent of the sum of squares. -/
def slope (x y : ι → EReal) : EReal :=
  Ideal.div ((∑ k, x k * y k) * (negHalf * Ideal.div (rstd n x) (meanSq n x))) n.val

theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- Of a real row the mean square is a positive real, and the reciprocal of its root one whose square is its inverse. -/
theorem stats (x : ι → ℝ) : ∃ a r : ℝ, a ≠ 0 ∧ 0 ≤ r ∧ r * r = 1 / a ∧ meanSq n (fun k => (x k : EReal)) = a
    ∧ rstd n (fun k => (x k : EReal)) = r := by
  obtain ⟨e, he, ee⟩ := eps_pos
  have ha : 0 < (∑ k, x k * x k) * (1 / n.real) + e :=
    add_pos_of_nonneg_of_pos (mul_nonneg (Finset.sum_nonneg fun k _ => mul_self_nonneg (x k)) (one_div_pos.mpr n.pos).le) he
  have hm : meanSq n (fun k => (x k : EReal)) = (((∑ k, x k * x k) * (1 / n.real) + e : ℝ) : EReal) := by
    simp only [meanSq, n.eq, ee, ← EReal.coe_mul, Cert.Attn.coe_sum]
    rw [Ideal.div_coe n.pos.ne', ← EReal.coe_mul, ← EReal.coe_add]
  refine ⟨_, (Real.sqrt ((∑ k, x k * x k) * (1 / n.real) + e))⁻¹, ha.ne', inv_nonneg.mpr (Real.sqrt_nonneg _), ?_, hm, ?_⟩
  · rw [← mul_inv, Real.mul_self_sqrt ha.le]
    simp only [one_div]
  · rw [rstd, hm, rsqrt_coe _ ha]

/-- Of a row with an infinite entry the mean square is infinite. -/
theorem meanSq_top (x : ι → EReal) (k : ι) (h : x k = ⊤ ∨ x k = ⊥) : meanSq n x = ⊤ := by
  obtain ⟨e, he, ee⟩ := eps_pos
  have hk : x k * x k = ⊤ := by rcases h with h | h <;> rw [h] <;> rfl
  have hs : ∑ k, x k * x k = ⊤ := by
    refine top_unique (hk ▸ Finset.single_le_sum (f := fun k => x k * x k) (fun i _ => ?_) (Finset.mem_univ k))
    rcases le_total 0 (x i) with h | h
    · exact mul_nonneg h h
    · exact EReal.mul_nonneg_iff.mpr (Or.inr ⟨h, h⟩)
  rw [meanSq, hs, n.eq, ee, Ideal.div_coe n.pos.ne', EReal.top_mul_coe_of_pos (one_div_pos.mpr n.pos)]
  exact EReal.top_add_coe e

/-- Twice the same real multiple of a number, which may be infinite. -/
theorem mul_add_self (s : EReal) (p : ℝ) : s * p + s * p = s * ((p + p : ℝ) : EReal) := by
  induction s with
  | coe s => norm_cast; ring
  | top =>
    rcases lt_trichotomy p 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy p 0 with h | rfl | h
    · rw [EReal.bot_mul_coe_of_neg h, EReal.bot_mul_coe_of_neg (by linarith)]; rfl
    · simp
    · rw [EReal.bot_mul_coe_of_pos h, EReal.bot_mul_coe_of_pos (by linarith)]; rfl

/-- The chain rule's terms, through the row itself and twice through its square, on a real row. -/
theorem chain_real (X : ι → ℝ) (y : ι → EReal) (j : ι) :
    y j * rstd n (fun k => (X k : EReal)) + X j * slope n (fun k => (X k : EReal)) y + slope n (fun k => (X k : EReal)) y * X j
      = grad n (fun k => (X k : EReal)) y j := by
  obtain ⟨a, r, ha, h0, hr, hm, hs⟩ := stats n X
  have e1 : ∑ k, y k * ((X k : EReal) * r) = (∑ k, (X k : EReal) * y k) * r := by
    rw [mul_comm _ (r : EReal), Cert.Attn.mul_sum_nonneg _ h0]
    exact Finset.sum_congr rfl fun k _ => by ac_rfl
  simp only [slope, grad, hm, hs, n.eq, negHalf_eq]
  rw [Ideal.div_coe ha, Ideal.div_coe n.pos.ne', Ideal.div_coe n.pos.ne', e1]
  generalize ∑ k, (X k : EReal) * y k = s
  generalize y j = v
  have e2 : ((X j : EReal)) * (s * (((-(1 / 2) : ℝ) : EReal) * (r * ((1 / a : ℝ) : EReal))) * ((1 / n.real : ℝ) : EReal))
      = s * ((X j * (-(1 / 2) * (r * (1 / a))) * (1 / n.real) : ℝ) : EReal) := by
    simp only [EReal.coe_mul]
    ac_rfl
  have e3 : (X j : EReal) * r * (s * r * ((1 / n.real : ℝ) : EReal)) = s * ((X j * r * r * (1 / n.real) : ℝ) : EReal) := by
    simp only [EReal.coe_mul]
    ac_rfl
  rw [mul_comm _ (X j : EReal), e2, e3, add_assoc, mul_add_self, sub_eq_add_neg, ← mul_neg,
    EReal.left_distrib_of_nonneg_of_ne_top (EReal.coe_nonneg.mpr h0) (EReal.coe_ne_top r), mul_comm v]
  refine congrArg ((r : EReal) * v + ·) ?_
  rw [mul_left_comm (r : EReal), ← EReal.coe_neg, ← EReal.coe_mul]
  refine congrArg (fun z : ℝ => s * (z : EReal)) ?_
  rw [← hr]
  ring

/-- The same whatever the row: where one of its entries is infinite, every term is zero. -/
theorem chain_eq (x y : ι → EReal) (j : ι) : y j * rstd n x + x j * slope n x y + slope n x y * x j = grad n x y j := by
  by_cases h : ∃ k, x k = ⊤ ∨ x k = ⊥
  · obtain ⟨k, hk⟩ := h
    have hm := meanSq_top n x k hk
    have hr : rstd n x = 0 := by rw [rstd, hm]; rfl
    have hs : slope n x y = 0 := by
      rw [slope, hr, hm, n.eq, Ideal.div_coe n.pos.ne', Ideal.div, if_neg EReal.top_ne_zero]
      simp
    rw [grad, hr, hs]
    simp
  · have hx : ∀ k, ∃ a : ℝ, x k = a := fun k => by
      have hk := not_or.mp (not_exists.mp h k)
      exact ⟨(x k).toReal, (EReal.coe_toReal hk.1 hk.2).symm⟩
    choose X hX using hx
    obtain rfl : x = fun k => (X k : EReal) := funext hX
    exact chain_real n X y j

/-- Where an entry of the row is infinite, the gradient is zero. -/
theorem grad_top (x y : ι → EReal) (k : ι) (hk : x k = ⊤ ∨ x k = ⊥) (j : ι) : grad n x y j = 0 := by
  have hr : rstd n x = 0 := by rw [rstd, meanSq_top n x k hk]; rfl
  rw [grad, hr, zero_mul]

/-- For real cotangents the gradient is real, whatever the row. -/
theorem grad_real (x y : ι → EReal) (hy : ∀ k, ∃ a : ℝ, y k = a) (j : ι) : ∃ a : ℝ, grad n x y j = a := by
  by_cases h : ∃ k, x k = ⊤ ∨ x k = ⊥
  · obtain ⟨k, hk⟩ := h
    exact ⟨0, grad_top n x y k hk j⟩
  · have hx : ∀ k, ∃ a : ℝ, x k = a := fun k => by
      have hk := not_or.mp (not_exists.mp h k)
      exact ⟨(x k).toReal, (EReal.coe_toReal hk.1 hk.2).symm⟩
    choose X hX using hx
    choose Y hY using hy
    obtain rfl : x = fun k => (X k : EReal) := funext hX
    obtain rfl : y = fun k => (Y k : EReal) := funext hY
    obtain ⟨a, r, ha, h0, hr, hm, hs⟩ := stats n X
    simp only [grad, hs, n.eq, ← EReal.coe_mul, Cert.Attn.coe_sum]
    rw [Ideal.div_coe n.pos.ne']
    exact ⟨r * (Y j - X j * r * ((∑ k, Y k * (X k * r)) * (1 / n.real))), by norm_cast⟩

end Cert.Rms

end
-- ==== Proof.Norm.lean ====
/- The gradient of the root-mean-square norm: the kernel's blocks of rows put together, and its running sum of the
   scale's gradient, are the whole gradient, and so is the reference. -/
module

public import proofs.«01_k».proof.Defs
public import proofs.«01_k».proof.Proof.Gen.NormIdeal.Value
public import proofs.«01_k».proof.Proof.Gen.NormRefIdeal.Run
public import proofs.«01_k».proof.Proof.Rms
public import Idealize.ShloMosaic.Lib.Pipeline.ValueKit

@[expose] public section

set_option maxRecDepth 16384

noncomputable section

namespace Cert.Rms

open Idealize.ShloMosaic

/-- Row `r` of an array, and the cotangent of the normalized row: the output's cotangent times the scale. -/
def line {R : ℕ} (h : (⟨2, ![R, 2048]⟩ : Shape).Idx → EReal) (r : Fin R) (k : Fin 2048) : EReal := h (ix2 r k)
def scaled {R : ℕ} (d : (⟨2, ![R, 2048]⟩ : Shape).Idx → EReal) (g : (⟨2, ![1, 2048]⟩ : Shape).Idx → EReal) (r : Fin R)
    (k : Fin 2048) : EReal := d (ix2 r k) * g (ix2 0 k)

/-- The gradient of the rows, with the gradient that bypasses the norm added. -/
def wholeDh {R : ℕ} (h : (⟨2, ![R, 2048]⟩ : Shape).Idx → EReal) (g : (⟨2, ![1, 2048]⟩ : Shape).Idx → EReal)
    (d s : (⟨2, ![R, 2048]⟩ : Shape).Idx → EReal) : (⟨2, ![R, 2048]⟩ : Shape).Idx → EReal :=
  fun y => grad w2048 (line h (y 0)) (scaled d g (y 0)) (y 1) + s (ix2 (y 0) (y 1))

/-- What row `r` adds to the scale's gradient, and that gradient. -/
def partDg {R : ℕ} (h d : (⟨2, ![R, 2048]⟩ : Shape).Idx → EReal) (j : Fin 2048) (r : Fin R) : EReal :=
  d (ix2 r j) * (h (ix2 r j) * rstd w2048 (line h r))
def wholeDg {R : ℕ} (h d : (⟨2, ![R, 2048]⟩ : Shape).Idx → EReal) : (⟨2, ![1, 2048]⟩ : Shape).Idx → EReal :=
  fun y => ∑ r, partDg h d (y 1) r

end Cert.Rms

namespace Cert.NormIdeal.Hand

open Cert.NormIdeal Cert.NormIdeal.Gen Cert.Rms Idealize.ShloMosaic Idealize.ShloMosaic.Tactic
open Idealize.ShloMosaic.TcCoe

variable (m : (ℓ : Loc nD τ sig) → Buf (Elt Ideal) ℓ)

abbrev argH (c : Dev nD) : Vec Ideal S8192x2048 .f32 := m ((c : Thread nD τ).loc main_arg0)
abbrev argG (c : Dev nD) : Vec Ideal S1x2048 .f32 := m ((c : Thread nD τ).loc main_arg1)
abbrev argD (c : Dev nD) : Vec Ideal S8192x2048 .bf16 := m ((c : Thread nD τ).loc main_arg2)
abbrev argS (c : Dev nD) : Vec Ideal S8192x2048 .f32 := m ((c : Thread nD τ).loc main_arg3)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

theorem lt_N (t : Fin cfg0.N) : t.val < 32 := lt_of_lt_of_eq t.isLt N_0

/-- Row `r` of block `t`, in the whole array. -/
def rowOf (t : Fin cfg0.N) (r : Fin 256) : Fin 8192 := ⟨t.val * 256 + r.val, by have := lt_N t; omega⟩

theorem blk0 (c : Dev nD) (t : Fin cfg0.N) (r : Fin 256) (x : Fin 2048) :
    (iblk m c 0 t : Vec Ideal S256x2048 .f32) (ix2 r x) = argH m c (ix2 (rowOf t r) x) := by
  blk_ext [iblk, V, idx0 t, rowOf]

theorem blk1 (c : Dev nD) (t : Fin cfg0.N) (x : Fin 2048) :
    (iblk m c 1 t : Vec Ideal S1x2048 .f32) (ix2 0 x) = argG m c (ix2 0 x) := by
  blk_ext [iblk, V, idx1 t]

theorem blk2 (c : Dev nD) (t : Fin cfg0.N) (r : Fin 256) (x : Fin 2048) :
    (iblk m c 2 t : Vec Ideal S256x2048 .bf16) (ix2 r x) = argD m c (ix2 (rowOf t r) x) := by
  blk_ext [iblk, V, idx2 t, rowOf]

theorem blk3 (c : Dev nD) (t : Fin cfg0.N) (r : Fin 256) (x : Fin 2048) :
    (iblk m c 3 t : Vec Ideal S256x2048 .f32) (ix2 r x) = argS m c (ix2 (rowOf t r) x) := by
  blk_ext [iblk, V, idx3 t, rowOf]

/-- The body's stores, over whole blocks. -/
theorem pay5_eq (h : Vec Ideal S256x2048 .f32) (d : Vec Ideal S256x2048 .bf16) (g : Vec Ideal S1x2048 .f32)
    (s : Vec Ideal S256x2048 .f32) : k0_pay5 h d g s = wholeDh h g d s := by
  funext y
  obtain ⟨r, j, rfl⟩ : ∃ r j, y = ix2 r j := ⟨y 0, y 1, eq_ix2 y⟩
  pointwise [k0_pay5, k0_pay4, k0_pay3, k0_pay2]
  rfl

theorem pay6_eq (h : Vec Ideal S256x2048 .f32) (d : Vec Ideal S256x2048 .bf16) (g : Vec Ideal S1x2048 .f32)
    (s : Vec Ideal S256x2048 .f32) : k0_pay6 h d g s = wholeDh h g d s :=
  (rfl : k0_pay6 h d g s = k0_pay5 h d g s).trans (pay5_eq h d g s)

theorem pay7_eq (h : Vec Ideal S256x2048 .f32) (d : Vec Ideal S256x2048 .bf16) : k0_pay7 h d = wholeDg h d := by
  funext y
  obtain ⟨r, j, rfl⟩ : ∃ r j, y = ix2 r j := ⟨y 0, y 1, eq_ix2 y⟩
  obtain rfl : r = 0 := Subsingleton.elim r 0
  pointwise [k0_pay7, k0_pay4, k0_pay3, k0_pay2]
  rfl

theorem out4_A (c : Dev nD) (t : Fin cfg0.N) (h0 : t.val % 32 = 0) (h1 : ¬1 ≤ t.val) :
    (outsAt0 m c t.val t.isLt).1 = k0_pay5 (iblk m c 0 t) (iblk m c 2 t) (iblk m c 1 t) (iblk m c 3 t) := by
  rw [outsAt0_A m c t h0 h1]
  frame_out

theorem out4_B (c : Dev nD) (t : Fin cfg0.N) (h0 : ¬t.val % 32 = 0) (h1 : 1 ≤ t.val) :
    (outsAt0 m c t.val t.isLt).1 = k0_pay5 (iblk m c 0 t) (iblk m c 2 t) (iblk m c 1 t) (iblk m c 3 t) := by
  rw [outsAt0_B m c t h0 h1]
  frame_out

theorem out5_A (c : Dev nD) (t : Fin cfg0.N) (h0 : t.val % 32 = 0) (h1 : ¬1 ≤ t.val) :
    (outsAt0 m c t.val t.isLt).2.1 = k0_pay6 (iblk m c 0 t) (iblk m c 2 t) (iblk m c 1 t) (iblk m c 3 t) := by
  rw [outsAt0_A m c t h0 h1]
  frame_out

theorem out5_B (c : Dev nD) (t : Fin cfg0.N) (h0 : ¬t.val % 32 = 0) (h1 : 1 ≤ t.val) :
    (outsAt0 m c t.val t.isLt).2.1 = k0_pay6 (iblk m c 0 t) (iblk m c 2 t) (iblk m c 1 t) (iblk m c 3 t) := by
  rw [outsAt0_B m c t h0 h1]
  frame_out

theorem out6_A (c : Dev nD) (t : Fin cfg0.N) (h0 : t.val % 32 = 0) (h1 : ¬1 ≤ t.val) :
    (outsAt0 m c t.val t.isLt).2.2 = k0_pay7 (iblk m c 0 t) (iblk m c 2 t) := by
  rw [outsAt0_A m c t h0 h1]
  frame_out

theorem out6_B (c : Dev nD) (t : Fin cfg0.N) (h0 : ¬t.val % 32 = 0) (h1 : 1 ≤ t.val) :
    (outsAt0 m c t.val t.isLt).2.2 = addf (outsAt0 m c (t.val - 1) (Nat.lt_of_le_of_lt (Nat.sub_le _ _) t.isLt)).2.2
      (k0_pay7 (iblk m c 0 t) (iblk m c 2 t)) := by
  rw [outsAt0_B m c t h0 h1]
  frame_out
  generalize (outsAt0 m c (t.val - 1) _).2.2 = X
  unfold k0_pay1
  dsimp only
  rw [shapeCast_self]

theorem out4 (c : Dev nD) (t : Fin cfg0.N) :
    (outsAt0 m c t.val t.isLt).1 = wholeDh (iblk m c 0 t : Vec Ideal S256x2048 .f32) (iblk m c 1 t : Vec Ideal S1x2048 .f32) (iblk m c 2 t : Vec Ideal S256x2048 .bf16) (iblk m c 3 t : Vec Ideal S256x2048 .f32) := by
  have := lt_N t
  refine .trans ?_ (pay5_eq _ _ _ _)
  by_cases h0 : t.val % 32 = 0
  · exact out4_A m c t h0 (by omega)
  · exact out4_B m c t h0 (by omega)

theorem out5 (c : Dev nD) (t : Fin cfg0.N) :
    (outsAt0 m c t.val t.isLt).2.1 = wholeDh (iblk m c 0 t : Vec Ideal S256x2048 .f32) (iblk m c 1 t : Vec Ideal S1x2048 .f32) (iblk m c 2 t : Vec Ideal S256x2048 .bf16) (iblk m c 3 t : Vec Ideal S256x2048 .f32) := by
  have := lt_N t
  refine .trans ?_ (pay6_eq _ _ _ _)
  by_cases h0 : t.val % 32 = 0
  · exact out5_A m c t h0 (by omega)
  · exact out5_B m c t h0 (by omega)

/-- A block's gradient is that block of the whole gradient. -/
theorem block_dh (c : Dev nD) (t : Fin cfg0.N) (y : S256x2048.Idx) :
    wholeDh (iblk m c 0 t : Vec Ideal S256x2048 .f32) (iblk m c 1 t : Vec Ideal S1x2048 .f32) (iblk m c 2 t : Vec Ideal S256x2048 .bf16) (iblk m c 3 t : Vec Ideal S256x2048 .f32) y
      = wholeDh (argH m c) (argG m c) (argD m c) (argS m c) (ix2 (rowOf t (y 0)) (y 1)) := by
  have e1 : line (iblk m c 0 t : Vec Ideal S256x2048 .f32) (y 0) = line (argH m c) (rowOf t (y 0)) :=
    funext fun x => blk0 m c t (y 0) x
  have e2 : scaled (iblk m c 2 t : Vec Ideal S256x2048 .bf16) (iblk m c 1 t : Vec Ideal S1x2048 .f32) (y 0)
      = scaled (argD m c) (argG m c) (rowOf t (y 0)) :=
    funext fun x => congrArg₂ (· * ·) (blk2 m c t (y 0) x) (blk1 m c t x)
  unfold wholeDh
  rw [e1, e2]
  exact congrArg (_ + ·) (blk3 m c t (y 0) (y 1))

theorem final_dh (c : Dev nD) :
    (dats m 0 c).arrAt 4 cfg0.N = wholeDh (argH m c) (argG m c) (argD m c) (argS m c) := by
  refine (dats m 0 c).arrAt_eq_of_covers 4 _ (by decide +kernel) fun t hf y => ?_
  blk_simp
  rw [after0_4, out4]
  refine (block_dh m c t y).trans (congrArg _ ?_)
  blk_ext [idx4 t, rowOf]

theorem final_dhb (c : Dev nD) :
    (dats m 0 c).arrAt 5 cfg0.N = wholeDh (argH m c) (argG m c) (argD m c) (argS m c) := by
  refine (dats m 0 c).arrAt_eq_of_covers 5 _ (by decide +kernel) fun t hf y => ?_
  blk_simp
  rw [after0_5, out5]
  refine (block_dh m c t y).trans (congrArg _ ?_)
  blk_ext [idx5 t, rowOf]

/-- A sum over the rows, block by block. -/
theorem sum_rows (f : Fin 8192 → EReal) : ∑ t : Fin cfg0.N, ∑ r : Fin 256, f (rowOf t r) = ∑ r, f r := by
  rw [Fin.sum_univ_tiles 32 256 (by norm_num) f]
  exact Fintype.sum_equiv (finCongr N_0) _ _ fun t => rfl

/-- The last grid point. -/
def tLast : Fin cfg0.N := ⟨31, lt_of_lt_of_eq (by decide) N_0.symm⟩

/-- The scale's gradient: the blocks' sums, added up over the grid. -/
theorem acc (c : Dev nD) (y : S1x2048.Idx) : (outsAt0 m c 31 tLast.isLt).2.2 y = wholeDg (argH m c) (argD m c) y := by
  have h := Pipeline.eq_sum_fin_of_reset_step_apply_last (fun n h => (outsAt0 m c n h).2.2) 32 (fun _ => (0 : EReal))
    (fun t i => k0_pay7 (F := Ideal) (iblk m c 0 t) (iblk m c 2 t) i)
    (fun t h i => by rw [out6_A m c t h (by have := lt_N t; omega), zero_add])
    (fun t h i => congrFun (out6_B m c t h (by have := lt_N t; omega)) i)
    (le_of_eq N_0) tLast (N_0.symm : 31 + 1 = cfg0.N) y
  rw [zero_add] at h
  refine h.trans ?_
  have e : ∀ t : Fin cfg0.N, k0_pay7 (F := Ideal) (iblk m c 0 t) (iblk m c 2 t) y
      = ∑ r, partDg (argH m c) (argD m c) (y 1) (rowOf t r) := fun t => by
    rw [pay7_eq]
    refine Finset.sum_congr rfl fun r _ => ?_
    have e1 : line (iblk m c 0 t : Vec Ideal S256x2048 .f32) r = line (argH m c) (rowOf t r) :=
      funext fun x => blk0 m c t r x
    unfold partDg
    rw [e1]
    exact congrArg₂ (· * ·) (blk2 m c t r (y 1)) (congrArg (· * _) (blk0 m c t r (y 1)))
  exact (Finset.sum_congr rfl fun t _ => e t).trans (sum_rows _)

theorem final_dg (c : Dev nD) : (dats m 0 c).arrAt 6 cfg0.N = wholeDg (argH m c) (argD m c) := by
  refine (dats m 0 c).arrAt_eq_of_after_last 6 tLast (by decide +kernel) _ fun y => ?_
  blk_simp
  rw [after0_6]
  refine (acc m c y).trans (congrArg _ ?_)
  blk_ext [idx6 tLast]

end Cert.NormIdeal.Hand

namespace Cert.NormRefIdeal.Hand

open Cert.NormRefIdeal Cert.NormRefIdeal.Gen Cert.Rms Idealize.ShloMosaic Idealize.SL.Sem

/-- The reference's stages: the mean squares, the scaled cotangents, and the cotangents of the sums of squares. -/
def sq (h : FVec Ideal S8192x2048 .f32) : FVec Ideal S8192x1 .f32 :=
  addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32))
def gy (d : FVec Ideal S8192x2048 .bf16) (g : FVec Ideal S1x2048 .f32) : FVec Ideal S8192x2048 .f32 :=
  mulf (extf .f32 d bitsLt_bf16_f32) (broadcastInDim S8192x2048 ![0, 1] bcast_S1x2048_S8192x2048_0_1 g)
def slopes (h : FVec Ideal S8192x2048 .f32) (d : FVec Ideal S8192x2048 .bf16) (g : FVec Ideal S1x2048 .f32) :
    FVec Ideal S8192x2048 .f32 :=
  broadcastInDim S8192x2048 ![0] bcast_S8192_S8192x2048_0 (Host.reduceAdd (Host.divf (mulf (shapeCast _ (Host.reduceAdd (mulf h (gy d g)) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (sq h)) (sq h)))) (broadcastInDim S8192x1 ![] bcast_S_S8192x1 (constant S_ .f32 0x45000000#32))) (constant S_ .f32 0x00000000#32) reducesTo_S8192x1_S8192_d1 h_S_)

/-- The reference's results. -/
def dh (h : FVec Ideal S8192x2048 .f32) (g : FVec Ideal S1x2048 .f32) (d : FVec Ideal S8192x2048 .bf16)
    (s : FVec Ideal S8192x2048 .f32) : FVec Ideal S8192x2048 .f32 :=
  addf (addf (addf (mulf (gy d g) (broadcastInDim S8192x2048 ![0, 1] bcast_S8192x1_S8192x2048_0_1 (Host.rsqrt (sq h)))) (mulf h (slopes h d g))) (mulf (slopes h d g) h)) s
def dg (h : FVec Ideal S8192x2048 .f32) (d : FVec Ideal S8192x2048 .bf16) : FVec Ideal S1x2048 .f32 :=
  shapeCast _ (Host.reduceAdd (mulf (mulf h (broadcastInDim S8192x2048 ![0, 1] bcast_S8192x1_S8192x2048_0_1 (Host.rsqrt (sq h)))) (extf .f32 d bitsLt_bf16_f32)) (constant S_ .f32 0x00000000#32) reducesTo_S8192x2048_S2048_d0 h_S_) shapeCasts_S2048_S1x2048

theorem sq_at (h : FVec Ideal S8192x2048 .f32) (r : Fin 8192) : sq h (ix2 r 0) = meanSq w2048 (line h r) := by
  pointwise [sq]
  rfl

theorem gy_at (d : FVec Ideal S8192x2048 .bf16) (g : FVec Ideal S1x2048 .f32) (r : Fin 8192) (k : Fin 2048) :
    gy d g (ix2 r k) = scaled d g r k := by
  pointwise [gy]
  rfl

theorem slopes_at (h : FVec Ideal S8192x2048 .f32) (d : FVec Ideal S8192x2048 .bf16) (g : FVec Ideal S1x2048 .f32)
    (r : Fin 8192) (k : Fin 2048) : slopes h d g (ix2 r k) = slope w2048 (line h r) (scaled d g r) := by
  pointwise [slopes]
  rw [Fin.sum_univ_one]
  simp only [sq_at, gy_at]
  rfl

theorem dh_eq (h : FVec Ideal S8192x2048 .f32) (g : FVec Ideal S1x2048 .f32) (d : FVec Ideal S8192x2048 .bf16)
    (s : FVec Ideal S8192x2048 .f32) : dh h g d s = wholeDh h g d s := by
  funext y
  obtain ⟨r, j, rfl⟩ : ∃ r j, y = ix2 r j := ⟨y 0, y 1, eq_ix2 y⟩
  pointwise [dh]
  simp only [sq_at, gy_at, slopes_at]
  exact congrArg (· + s (ix2 r j)) (chain_eq w2048 (line h r) (scaled d g r) j)

theorem dg_eq (h : FVec Ideal S8192x2048 .f32) (d : FVec Ideal S8192x2048 .bf16) : dg h d = wholeDg h d := by
  funext y
  obtain ⟨r, j, rfl⟩ : ∃ r j, y = ix2 r j := ⟨y 0, y 1, eq_ix2 y⟩
  obtain rfl : r = 0 := Subsingleton.elim r 0
  pointwise [dg]
  simp only [sq_at]
  exact Finset.sum_congr rfl fun r _ => mul_comm _ _

theorem frame : Cert.quiescent_NormRefIdeal := fun m g _ =>
  (θ_run Cert.NormRefIdeal.defs _ _).mono (fun r h => ⟨fun c => (h c).2.2.2, sem_eq_zero_of_no_sems (by decide) r.2⟩)
    (Cert.NormRefIdeal.Value.run m g)

/-- The kernel's gradients are the reference's. -/
theorem value : Cert.algebraic_NormIdeal_NormRefIdeal := by
  intro m g m' g' _ hagree
  refine ⟨fun c => wholeDh (Cert.NormIdeal.Hand.argH m c) (Cert.NormIdeal.Hand.argG m c) (Cert.NormIdeal.Hand.argD m c) (Cert.NormIdeal.Hand.argS m c),
    fun c => wholeDh (Cert.NormIdeal.Hand.argH m c) (Cert.NormIdeal.Hand.argG m c) (Cert.NormIdeal.Hand.argD m c) (Cert.NormIdeal.Hand.argS m c),
    fun c => wholeDg (Cert.NormIdeal.Hand.argH m c) (Cert.NormIdeal.Hand.argD m c), ?_, ?_⟩
  · exact (θ_run Cert.NormIdeal.defs _ _).mono (fun r h c => ⟨(h c).1.trans (Cert.NormIdeal.Hand.final_dh m c),
        (h c).2.1.trans (Cert.NormIdeal.Hand.final_dhb m c), (h c).2.2.1.trans (Cert.NormIdeal.Hand.final_dg m c), (h c).2.2.2⟩)
      (Cert.NormIdeal.Value.run_blocks m g)
  · refine (θ_run Cert.NormRefIdeal.defs _ _).mono (fun r h c => ?_) (Cert.NormRefIdeal.Value.run m' g')
    obtain ⟨e0, e1, e2, e3⟩ := hagree c
    have k : dh (m' ((c.tc : Thread nD τ).loc main_arg0)) (m' ((c.tc : Thread nD τ).loc main_arg1)) (m' ((c.tc : Thread nD τ).loc main_arg2)) (m' ((c.tc : Thread nD τ).loc main_arg3))
        = wholeDh (Cert.NormIdeal.Hand.argH m c) (Cert.NormIdeal.Hand.argG m c) (Cert.NormIdeal.Hand.argD m c) (Cert.NormIdeal.Hand.argS m c) := by
      rw [e0, e1, e2, e3]
      exact dh_eq _ _ _ _
    refine ⟨(h c).1.trans k, (h c).2.1.trans k, (h c).2.2.1.trans ?_, (h c).2.2.2⟩
    exact (congrArg₂ dg e0 e2).trans (dg_eq _ _)

end Cert.NormRefIdeal.Hand

end
-- ==== Proof.Gated.lean ====
/- The gradient of the gated norm, row by row: `y * silu z` is normalized in four groups of 512 columns. -/
module

public import proofs.«01_k».proof.Proof.Rms
public import proofs.«01_k».proof.Proof.Gate

@[expose] public section

noncomputable section

namespace Cert.Gated

open Cert.Rms Cert.Gate Idealize.ShloMosaic

/-- Column `l` of group `q`, and the group and the place in it of a column. -/
def col (q : Fin 4) (l : Fin 512) : Fin 2048 := ⟨512 * q.val + l.val, by omega⟩
def grp (j : Fin 2048) : Fin 4 := ⟨j.val / 512, by omega⟩
def lane (j : Fin 2048) : Fin 512 := ⟨j.val % 512, by omega⟩

theorem col_grp (j : Fin 2048) : col (grp j) (lane j) = j := Fin.ext (by simp only [col, grp, lane]; omega)
theorem grp_col (q : Fin 4) (l : Fin 512) : grp (col q l) = q := Fin.ext (by simp only [col, grp]; omega)
theorem lane_col (q : Fin 4) (l : Fin 512) : lane (col q l) = l := Fin.ext (by simp only [col, lane]; omega)

/-- The entries of a group. -/
def part (x : Fin 2048 → EReal) (q : Fin 4) (l : Fin 512) : EReal := x (col q l)

/-- The gate, the row it gates, and the cotangent of the normalized row. -/
def act (z : EReal) : EReal := z * logis z
def gated (z y : Fin 2048 → EReal) (j : Fin 2048) : EReal := y j * act (z j)
def scaled (d g : Fin 2048 → EReal) (j : Fin 2048) : EReal := d j * g j

/-- The gradient of the gated row. -/
def dGated (z y d g : Fin 2048 → EReal) (j : Fin 2048) : EReal :=
  grad w512 (part (gated z y) (grp j)) (part (scaled d g) (grp j)) (lane j)

/-- The gradients of the row, of the gate's argument and (what the row adds to it) of the scale. -/
def dRow (z y d g : Fin 2048 → EReal) (j : Fin 2048) : EReal := dGated z y d g j * act (z j)
def dArgRow (z y d g : Fin 2048 → EReal) (j : Fin 2048) : EReal := dArg (z j) (y j) (dGated z y d g j)
def dScale (z y d : Fin 2048 → EReal) (j : Fin 2048) : EReal :=
  d j * (gated z y j * rstd w512 (part (gated z y) (grp j)))

theorem infinite_mul (y a : EReal) (hy : y = ⊤ ∨ y = ⊥) (ha : a ≠ 0) : y * a = ⊤ ∨ y * a = ⊥ := by
  rcases lt_or_gt_of_ne ha with h | h <;> rcases hy with rfl | rfl
  · exact Or.inr (EReal.top_mul_of_neg h)
  · exact Or.inl (EReal.bot_mul_of_neg h)
  · exact Or.inl (EReal.top_mul_of_pos h)
  · exact Or.inr (EReal.bot_mul_of_pos h)

/-- The product rule's two terms are the kernel's product, for a real factor, at a zero of the gate, and for a zero
    cotangent. -/
theorem dArg_chain (z y : EReal) (t : ℝ) (h : (∃ a : ℝ, y = a) ∨ act z = 0 ∨ t = 0) :
    y * t * logis z + z * (y * t) * (logis z * (1 - logis z)) = dArg z y t := by
  rcases h with ⟨a, rfl⟩ | h | rfl
  · rw [mul_comm (a : EReal)]
    exact dArg_eq z a t
  · rcases mul_eq_zero.mp h with rfl | h
    · simp [dArg, mul_comm]
    · simp [dArg, h]
  · simp [dArg]

/-- For real cotangents of the normalized row the chain rule gives the kernel's gradient of the gate's argument. -/
theorem dArgRow_eq (z y d g : Fin 2048 → EReal) (hs : ∀ j, ∃ a : ℝ, scaled d g j = a) (j : Fin 2048) :
    y j * dGated z y d g j * logis (z j) + z j * (y j * dGated z y d g j) * (logis (z j) * (1 - logis (z j)))
      = dArgRow z y d g j := by
  obtain ⟨t, ht⟩ := grad_real w512 (part (gated z y) (grp j)) (part (scaled d g) (grp j)) (fun k => hs _) (lane j)
  have ht' : dGated z y d g j = t := ht
  unfold dArgRow
  rw [ht']
  refine dArg_chain (z j) (y j) t ?_
  by_cases hy : y j = ⊤ ∨ y j = ⊥
  · by_cases ha : act (z j) = 0
    · exact Or.inr (Or.inl ha)
    · refine Or.inr (Or.inr (EReal.coe_eq_zero.mp (ht'.symm.trans ?_)))
      refine grad_top w512 _ _ (lane j) ?_ _
      unfold part
      rw [col_grp]
      exact infinite_mul _ _ hy ha
  · exact Or.inl ⟨(y j).toReal, (EReal.coe_toReal (not_or.mp hy).1 (not_or.mp hy).2).symm⟩

/-- The first 2048 columns of row `r` of an array. -/
def lead {R W : ℕ} (h : 2048 ≤ W) (a : (⟨2, ![R, W]⟩ : Shape).Idx → EReal) (r : Fin R) (k : Fin 2048) : EReal :=
  a (ix2 r (Fin.castLE h k))

/-- The three gradients of arrays whose rows are `Z`, `Y` and `D`. -/
def allRow {R : ℕ} (Z Y D : Fin R → Fin 2048 → EReal) (g : Fin 2048 → EReal) : (⟨2, ![R, 2048]⟩ : Shape).Idx → EReal :=
  fun i => dRow (Z (i 0)) (Y (i 0)) (D (i 0)) g (i 1)
def allArg {R : ℕ} (Z Y D : Fin R → Fin 2048 → EReal) (g : Fin 2048 → EReal) : (⟨2, ![R, 2048]⟩ : Shape).Idx → EReal :=
  fun i => dArgRow (Z (i 0)) (Y (i 0)) (D (i 0)) g (i 1)
def allScale {R : ℕ} (Z Y D : Fin R → Fin 2048 → EReal) : (⟨2, ![1, 2048]⟩ : Shape).Idx → EReal :=
  fun i => ∑ r, dScale (Z r) (Y r) (D r) (i 1)

end Cert.Gated

end
-- ==== Proof.GNormTile.lean ====
/- One block of the gated norm's gradient: what the body stores, over whole blocks. -/
module

public import proofs.«01_k».proof.Proof.Gen.GNormIdeal.Value
public import proofs.«01_k».proof.Proof.Gated
public import Idealize.ShloMosaic.Lib.Pipeline.ValueKit

@[expose] public section

set_option maxRecDepth 16384

noncomputable section

namespace Cert.GNormIdeal.Hand

open Cert.GNormIdeal Cert.GNormIdeal.Gen Cert.Rms Cert.Gate Cert.Gated Idealize.ShloMosaic Idealize.ShloMosaic.Tactic

variable {F : FTy → Type} [FloatOps F]

/-- A group's columns. -/
def piece (x : FVec F S256x2048 .f32) : Fin 4 → FVec F S256x512 .f32
  | 0 => extractStridedSlice S256x512 ![0, 0] x slices_S256x2048_o0_0_S256x512
  | 1 => extractStridedSlice S256x512 ![0, 512] x slices_S256x2048_o0_512_S256x512
  | 2 => extractStridedSlice S256x512 ![0, 1024] x slices_S256x2048_o0_1024_S256x512
  | 3 => extractStridedSlice S256x512 ![0, 1536] x slices_S256x2048_o0_1536_S256x512

/-- The mean of each row of a group, and its reciprocal root mean square, along the group's columns. -/
abbrev mean (x : FVec F S256x512 .f32) : FVec F S256x1 .f32 :=
  divf (shapeCast S256x1 (multiReduction .add [1] S256 x 0x00000000#32 reduces_S256x512_S256 (.inl rfl) rfl) shapeCasts_S256_S256x1)
    (broadcast S256x1 (Scalar.ofBits .f32 0x44000000#32))
abbrev along (x : FVec F S256x1 .f32) : FVec F S256x512 .f32 :=
  broadcastTo S256x512 (shapeCast S256x1 x shapeCasts_S256x1_S256x1) broadcasts_S256x1_S256x512
abbrev meanP (x : FVec F S256x2048 .f32) (q : Fin 4) : FVec F S256x512 .f32 := along (mean (piece x q))
abbrev rstdP (x : FVec F S256x2048 .f32) (q : Fin 4) : FVec F S256x512 .f32 :=
  along (rsqrt (addf (mean (mulf (piece x q) (piece x q))) (broadcast S256x1 (Scalar.ofBits .f32 0x3727C5AC#32))))

/-- Four groups side by side. -/
abbrev cat (P : Fin 4 → FVec F S256x512 .f32) : FVec F S256x2048 .f32 :=
  concatenate S256x2048 1 [⟨S256x512, P 0⟩, ⟨S256x512, P 1⟩, ⟨S256x512, P 2⟩, ⟨S256x512, P 3⟩]
    concatenates_S256x512_S256x512_S256x512_S256x512_S256x2048_d1

/-- The normalized rows, and the gradient of the gated rows. -/
abbrev that (x : FVec F S256x2048 .f32) : FVec F S256x2048 .f32 := mulf x (cat (rstdP x))
abbrev dt (x s : FVec F S256x2048 .f32) : FVec F S256x2048 .f32 :=
  mulf (cat (rstdP x)) (subf s (mulf (that x) (cat (meanP (mulf s (that x))))))

/-- The body's three stores, of the row block `y`, the gate's argument `z`, the cotangent `d` and the scale `g`. -/
def pDy (y z : Vec F S256x2048 .f32) (d : Vec F S256x2048 .bf16) (g : Vec F S1x2048 .f32) : FVec F S256x2048 .f32 :=
  mulf (dt (k0_pay9 z y) (k0_pay15 (k0_pay6 d) g)) (k0_pay8 z)
def pDz (y z : Vec F S256x2048 .f32) (d : Vec F S256x2048 .bf16) (g : Vec F S1x2048 .f32) : FVec F S256x2048 .bf16 :=
  truncf .bf16 (mulf (mulf (mulf (dt (k0_pay9 z y) (k0_pay15 (k0_pay6 d) g)) y) (k0_pay7 z))
    (addf (broadcast S256x2048 (Scalar.ofBits .f32 0x3F800000#32)) (mulf z (subf (broadcast S256x2048 (Scalar.ofBits .f32 0x3F800000#32)) (k0_pay7 z))))) bitsLt_bf16_f32
def pDg (y z : Vec F S256x2048 .f32) (d : Vec F S256x2048 .bf16) : FVec F S1x2048 .f32 :=
  k0_pay4 (k0_pay6 d) (that (k0_pay9 z y))

theorem piece_at (x : FVec Ideal S256x2048 .f32) (q : Fin 4) (r : Fin 256) (l : Fin 512) :
    piece x q (ix2 r l) = x (ix2 r (col q l)) := by
  match q with
  | 0 => pointwise [piece]; exact congrArg (fun y => x (ix2 r y)) (Fin.ext (by simp only [col]; omega))
  | 1 => pointwise [piece]; exact congrArg (fun y => x (ix2 r y)) (Fin.ext (by simp only [col]; omega))
  | 2 => pointwise [piece]; exact congrArg (fun y => x (ix2 r y)) (Fin.ext (by simp only [col]; omega))
  | 3 => pointwise [piece]; exact congrArg (fun y => x (ix2 r y)) (Fin.ext (by simp only [col]; omega))

theorem cat_at (P : Fin 4 → FVec Ideal S256x512 .f32) (r : Fin 256) (q : Fin 4) (l : Fin 512) :
    cat P (ix2 r (col q l)) = P q (ix2 r l) := by
  have he := l.isLt
  generalize hc : col q l = c
  have hv : c.val = 512 * q.val + l.val := by rw [← hc]; rfl
  unfold cat
  generalize h0 : P 0 = a0
  generalize h1 : P 1 = a1
  generalize h2 : P 2 = a2
  generalize h3 : P 3 = a3
  pointwise
  subst h0 h1 h2 h3
  match q, hv with
  | 0, hv => rw [dif_pos (by omega)]; exact congrArg (fun y => P 0 (ix2 r y)) (Fin.ext (by dsimp only; omega))
  | 1, hv =>
    rw [dif_neg (by omega), dif_pos (by omega)]; exact congrArg (fun y => P 1 (ix2 r y)) (Fin.ext (by dsimp only; omega))
  | 2, hv =>
    rw [dif_neg (by omega), dif_neg (by omega), dif_pos (by omega)]
    exact congrArg (fun y => P 2 (ix2 r y)) (Fin.ext (by dsimp only; omega))
  | 3, hv =>
    rw [dif_neg (by omega), dif_neg (by omega), dif_neg (by omega)]
    exact congrArg (fun y => P 3 (ix2 r y)) (Fin.ext (by dsimp only; omega))

/-- A row of a block. -/
abbrev line {R : ℕ} (h : (⟨2, ![R, 2048]⟩ : Shape).Idx → EReal) (r : Fin R) (k : Fin 2048) : EReal := lead le_rfl h r k

theorem meanP_at (x : FVec Ideal S256x2048 .f32) (q : Fin 4) (r : Fin 256) (l : Fin 512) :
    meanP x q (ix2 r l) = Ideal.div (∑ k, part (line x r) q k) w512.val := by
  pointwise
  simp only [piece_at]
  rfl

theorem rstdP_at (x : FVec Ideal S256x2048 .f32) (q : Fin 4) (r : Fin 256) (l : Fin 512) :
    rstdP x q (ix2 r l) = rstd w512 (part (line x r) q) := by
  pointwise
  simp only [piece_at]
  rfl

theorem that_at (x : FVec Ideal S256x2048 .f32) (r : Fin 256) (q : Fin 4) (l : Fin 512) :
    that x (ix2 r (col q l)) = x (ix2 r (col q l)) * rstd w512 (part (line x r) q) :=
  congrArg (x (ix2 r (col q l)) * ·) ((cat_at _ r q l).trans (rstdP_at x q r l))

theorem dt_at (x s : FVec Ideal S256x2048 .f32) (r : Fin 256) (q : Fin 4) (l : Fin 512) :
    dt x s (ix2 r (col q l)) = grad w512 (part (line x r) q) (part (line s r) q) l := by
  have e : meanP (mulf s (that x)) q (ix2 r l)
      = Ideal.div (∑ k, part (line s r) q k * (part (line x r) q k * rstd w512 (part (line x r) q))) w512.val :=
    (meanP_at _ q r l).trans (congrArg (Ideal.div · w512.val)
      (Finset.sum_congr rfl fun k _ => congrArg (s (ix2 r (col q k)) * ·) (that_at x r q k)))
  exact congrArg₂ (· * ·) ((cat_at _ r q l).trans (rstdP_at x q r l))
    (congrArg (s (ix2 r (col q l)) - ·) (congrArg₂ (· * ·) (that_at x r q l) ((cat_at _ r q l).trans e)))

theorem pay9_line (z y : Vec Ideal S256x2048 .f32) (r : Fin 256) : line (k0_pay9 (F := Ideal) z y) r = gated (line z r) (line y r) := by
  funext k
  unfold line lead
  pointwise [k0_pay9, k0_pay8, k0_pay7]
  rw [zero_sub]
  rfl

theorem pay15_line (d : Vec Ideal S256x2048 .bf16) (g : Vec Ideal S1x2048 .f32) (r : Fin 256) :
    line (k0_pay15 (F := Ideal) (k0_pay6 d) g) r = scaled (line d r) (line g 0) := by
  funext k
  unfold line lead
  pointwise [k0_pay15, k0_pay6]
  rfl

/-- The stores, row by row. -/
theorem dt_row (y z : Vec Ideal S256x2048 .f32) (d : Vec Ideal S256x2048 .bf16) (g : Vec Ideal S1x2048 .f32) (r : Fin 256)
    (j : Fin 2048) :
    dt (F := Ideal) (k0_pay9 z y) (k0_pay15 (k0_pay6 d) g) (ix2 r j) = dGated (line z r) (line y r) (line d r) (line g 0) j := by
  conv_lhs => rw [← col_grp j]
  rw [dt_at, pay9_line, pay15_line]
  rfl

theorem pDy_eq (y z : Vec Ideal S256x2048 .f32) (d : Vec Ideal S256x2048 .bf16) (g : Vec Ideal S1x2048 .f32) :
    pDy (F := Ideal) y z d g = allRow (line z) (line y) (line d) (line g 0) := by
  funext i
  obtain ⟨r, j, rfl⟩ : ∃ r j, i = ix2 r j := ⟨i 0, i 1, eq_ix2 i⟩
  refine congrArg₂ (· * ·) (dt_row y z d g r j) ?_
  pointwise [k0_pay8, k0_pay7]
  rw [zero_sub]
  rfl

theorem pDz_eq (y z : Vec Ideal S256x2048 .f32) (d : Vec Ideal S256x2048 .bf16) (g : Vec Ideal S1x2048 .f32) :
    pDz (F := Ideal) y z d g = allArg (line z) (line y) (line d) (line g 0) := by
  funext i
  obtain ⟨r, j, rfl⟩ : ∃ r j, i = ix2 r j := ⟨i 0, i 1, eq_ix2 i⟩
  have h := dt_row y z d g r j
  unfold pDz
  generalize dt (F := Ideal) (k0_pay9 z y) (k0_pay15 (k0_pay6 d) g) = T at h ⊢
  pointwise [k0_pay7]
  rw [h, zero_sub]
  rfl

theorem pDg_eq (y z : Vec Ideal S256x2048 .f32) (d : Vec Ideal S256x2048 .bf16) :
    pDg (F := Ideal) y z d = allScale (line z) (line y) (line d) := by
  funext i
  obtain ⟨u, j, rfl⟩ : ∃ u j, i = ix2 u j := ⟨i 0, i 1, eq_ix2 i⟩
  obtain rfl : u = 0 := Subsingleton.elim u 0
  unfold pDg
  generalize hT : that (k0_pay9 (F := Ideal) z y) = T
  pointwise [k0_pay4, k0_pay6]
  refine Finset.sum_congr rfl fun r _ => congrArg (d (ix2 r j) * ·) ?_
  rw [← hT]
  conv_lhs => rw [← col_grp j]
  rw [that_at, pay9_line, col_grp]
  exact congrArg (· * _) (congrFun (pay9_line z y r) j)

end Cert.GNormIdeal.Hand

end
-- ==== Proof.GNormRef.lean ====
/- The gated norm's gradient by the chain rule, as the reference computes it, row by row. -/
module

public import proofs.«01_k».proof.Defs
public import proofs.«01_k».proof.Proof.Gen.GNormRefIdeal.Run
public import proofs.«01_k».proof.Proof.Gated
public import Idealize.ShloMosaic.Lib.Pipeline.ValueKit

@[expose] public section

set_option maxRecDepth 16384

noncomputable section

namespace Cert.GNormRefIdeal.Hand

open Cert.GNormRefIdeal Cert.GNormRefIdeal.Gen Cert.Rms Cert.Gate Cert.Gated Idealize.ShloMosaic Idealize.SL.Sem

/-- The reference's stages: the gate's argument and the cotangent, the logistic function of the argument, the gated
    rows and the scaled cotangents, both as four groups of columns. -/
def argZ (p : FVec Ideal S8192x11264 .f32) : FVec Ideal S8192x2048 .f32 :=
  extractStridedSlice S8192x2048 ![0, 0] p slices_S8192x11264_S8192x2048_0_0
def cot (d : FVec Ideal S8192x4096 .bf16) : FVec Ideal S8192x2048 .f32 :=
  extf .f32 (extractStridedSlice S8192x2048 ![0, 0] d slices_S8192x4096_S8192x2048_0_0) bitsLt_bf16_f32
def one : FVec Ideal S8192x2048 .f32 := broadcastInDim S8192x2048 ![] bcast_S_S8192x2048 (constant S_ .f32 0x3F800000#32)
def sig (p : FVec Ideal S8192x11264 .f32) : FVec Ideal S8192x2048 .f32 :=
  Host.divf one (addf one (Host.exp (Host.negf (argZ p))))
def grouped (x : FVec Ideal S8192x2048 .f32) : FVec Ideal S8192x4x512 .f32 := shapeCast _ x shapeCasts_S8192x2048_S8192x4x512
def flat (x : FVec Ideal S8192x4x512 .f32) : FVec Ideal S8192x2048 .f32 := shapeCast _ x shapeCasts_S8192x4x512_S8192x2048
def rows (y : FVec Ideal S8192x2048 .f32) (p : FVec Ideal S8192x11264 .f32) : FVec Ideal S8192x2048 .f32 :=
  mulf y (mulf (argZ p) (sig p))
def cots (d : FVec Ideal S8192x4096 .bf16) (g : FVec Ideal S1x2048 .f32) : FVec Ideal S8192x2048 .f32 :=
  mulf (cot d) (broadcastInDim S8192x2048 ![0, 1] bcast_S1x2048_S8192x2048_0_1 (broadcastInDim S1x2048 ![1] bcast_S2048_S1x2048_1 (shapeCast _ g shapeCasts_S1x2048_S2048)))

/-- The mean squares, the cotangents of the sums of squares, and the gradient of the groups `t` for the cotangents `s`. -/
def width : FVec Ideal S8192x4x1 .f32 := broadcastInDim S8192x4x1 ![] bcast_S_S8192x4x1 (constant S_ .f32 0x44000000#32)
def sq (t : FVec Ideal S8192x4x512 .f32) : FVec Ideal S8192x4x1 .f32 :=
  addf (Host.divf (broadcastInDim S8192x4x1 ![0, 1] bcast_S8192x4_S8192x4x1_0_1 (Host.reduceAdd (mulf t t) (constant S_ .f32 0x00000000#32) reducesTo_S8192x4x512_S8192x4_d2 h_S_)) width) (broadcastInDim S8192x4x1 ![] bcast_S_S8192x4x1 (constant S_ .f32 0x3727C5AC#32))
def inv (t : FVec Ideal S8192x4x512 .f32) : FVec Ideal S8192x4x512 .f32 :=
  broadcastInDim S8192x4x512 ![0, 1, 2] bcast_S8192x4x1_S8192x4x512_0_1_2 (Host.rsqrt (sq t))
def slopes (t s : FVec Ideal S8192x4x512 .f32) : FVec Ideal S8192x4x512 .f32 :=
  broadcastInDim S8192x4x512 ![0, 1] bcast_S8192x4_S8192x4x512_0_1 (Host.reduceAdd (Host.divf (mulf (shapeCast _ (Host.reduceAdd (mulf t s) (constant S_ .f32 0x00000000#32) reducesTo_S8192x4x512_S8192x4_d2 h_S_) shapeCasts_S8192x4_S8192x4x1) (mulf (broadcastInDim S8192x4x1 ![] bcast_S_S8192x4x1 (constant S_ .f32 0xBF000000#32)) (Host.divf (Host.rsqrt (sq t)) (sq t)))) width) (constant S_ .f32 0x00000000#32) reducesTo_S8192x4x1_S8192x4_d2 h_S_)
def dt (t s : FVec Ideal S8192x4x512 .f32) : FVec Ideal S8192x4x512 .f32 :=
  addf (addf (mulf s (inv t)) (mulf t (slopes t s))) (mulf (slopes t s) t)

/-- The reference's results. -/
def dy (y : FVec Ideal S8192x2048 .f32) (p : FVec Ideal S8192x11264 .f32) (d : FVec Ideal S8192x4096 .bf16)
    (g : FVec Ideal S1x2048 .f32) : FVec Ideal S8192x2048 .f32 :=
  mulf (flat (dt (grouped (rows y p)) (grouped (cots d g)))) (mulf (argZ p) (sig p))
def dz (y : FVec Ideal S8192x2048 .f32) (p : FVec Ideal S8192x11264 .f32) (d : FVec Ideal S8192x4096 .bf16)
    (g : FVec Ideal S1x2048 .f32) : FVec Ideal S8192x2048 .bf16 :=
  truncf .bf16 (addf (mulf (mulf y (flat (dt (grouped (rows y p)) (grouped (cots d g))))) (sig p))
    (mulf (mulf (argZ p) (mulf y (flat (dt (grouped (rows y p)) (grouped (cots d g)))))) (mulf (sig p) (subf one (sig p))))) bitsLt_bf16_f32
def dg (y : FVec Ideal S8192x2048 .f32) (p : FVec Ideal S8192x11264 .f32) (d : FVec Ideal S8192x4096 .bf16) :
    FVec Ideal S1x2048 .f32 :=
  shapeCast _ (Host.reduceAdd (shapeCast _ (Host.reduceAdd (mulf (flat (mulf (grouped (rows y p)) (inv (grouped (rows y p))))) (cot d)) (constant S_ .f32 0x00000000#32) reducesTo_S8192x2048_S2048_d0 h_S_) shapeCasts_S2048_S1x2048) (constant S_ .f32 0x00000000#32) reducesTo_S1x2048_S2048_d0 h_S_) shapeCasts_S2048_S1x2048

theorem grouped_at (x : FVec Ideal S8192x2048 .f32) (r : Fin 8192) (q : Fin 4) (l : Fin 512) :
    grouped x (ix3 r q l) = x (ix2 r (col q l)) := by
  refine shapeCast_apply x _ _ _ ?_
  rw [Shape.rowMajor_val_two, Shape.rowMajor_val_three]
  change r.val * 2048 + (512 * q.val + l.val) = (r.val * 4 + q.val) * 512 + l.val
  omega

theorem flat_at (x : FVec Ideal S8192x4x512 .f32) (r : Fin 8192) (q : Fin 4) (l : Fin 512) :
    flat x (ix2 r (col q l)) = x (ix3 r q l) := by
  refine shapeCast_apply x _ _ _ ?_
  rw [Shape.rowMajor_val_two, Shape.rowMajor_val_three]
  change (r.val * 4 + q.val) * 512 + l.val = r.val * 2048 + (512 * q.val + l.val)
  omega

/-- Group `q` of row `r`. -/
def group (t : FVec Ideal S8192x4x512 .f32) (r : Fin 8192) (q : Fin 4) (l : Fin 512) : EReal := t (ix3 r q l)

theorem sq_at (t : FVec Ideal S8192x4x512 .f32) (r : Fin 8192) (q : Fin 4) : sq t (ix3 r q 0) = meanSq w512 (group t r q) := by
  pointwise [sq, width]
  rfl

theorem inv_at (t : FVec Ideal S8192x4x512 .f32) (r : Fin 8192) (q : Fin 4) (l : Fin 512) :
    inv t (ix3 r q l) = rstd w512 (group t r q) := by
  pointwise [inv]
  rw [sq_at]
  rfl

theorem slopes_at (t s : FVec Ideal S8192x4x512 .f32) (r : Fin 8192) (q : Fin 4) (l : Fin 512) :
    slopes t s (ix3 r q l) = slope w512 (group t r q) (group s r q) := by
  pointwise [slopes, width]
  rw [Fin.sum_univ_one]
  simp only [sq_at]
  rfl

theorem dt_at (t s : FVec Ideal S8192x4x512 .f32) (r : Fin 8192) (q : Fin 4) (l : Fin 512) :
    dt t s (ix3 r q l) = grad w512 (group t r q) (group s r q) l := by
  pointwise [dt]
  simp only [inv_at, slopes_at]
  exact chain_eq w512 (group t r q) (group s r q) l

/-- The arrays' rows. -/
abbrev rowsZ (p : FVec Ideal S8192x11264 .f32) : Fin 8192 → Fin 2048 → EReal := lead (by decide) p
abbrev rowsD (d : FVec Ideal S8192x4096 .bf16) : Fin 8192 → Fin 2048 → EReal := lead (by decide) d
abbrev rowsY (y : FVec Ideal S8192x2048 .f32) : Fin 8192 → Fin 2048 → EReal := lead le_rfl y
abbrev rowG (g : FVec Ideal S1x2048 .f32) : Fin 2048 → EReal := lead le_rfl g 0

theorem argZ_at (p : FVec Ideal S8192x11264 .f32) (r : Fin 8192) (j : Fin 2048) : argZ p (ix2 r j) = rowsZ p r j := by
  unfold rowsZ lead
  pointwise [argZ]
  rfl

theorem cot_at (d : FVec Ideal S8192x4096 .bf16) (r : Fin 8192) (j : Fin 2048) : cot d (ix2 r j) = rowsD d r j := by
  unfold rowsD lead
  pointwise [cot]
  rfl

theorem sig_at (p : FVec Ideal S8192x11264 .f32) (r : Fin 8192) (j : Fin 2048) : sig p (ix2 r j) = logis (rowsZ p r j) := by
  pointwise [sig, one]
  rw [argZ_at]
  rfl

theorem rows_at (y : FVec Ideal S8192x2048 .f32) (p : FVec Ideal S8192x11264 .f32) (r : Fin 8192) (j : Fin 2048) :
    rows y p (ix2 r j) = gated (rowsZ p r) (rowsY y r) j := by
  pointwise [rows]
  rw [argZ_at, sig_at]
  rfl

theorem cots_at (d : FVec Ideal S8192x4096 .bf16) (g : FVec Ideal S1x2048 .f32) (r : Fin 8192) (j : Fin 2048) :
    cots d g (ix2 r j) = scaled (rowsD d r) (rowG g) j := by
  pointwise [cots]
  rw [cot_at]
  rfl

theorem group_rows (y : FVec Ideal S8192x2048 .f32) (p : FVec Ideal S8192x11264 .f32) (r : Fin 8192) (q : Fin 4) :
    group (grouped (rows y p)) r q = part (gated (rowsZ p r) (rowsY y r)) q :=
  funext fun l => (grouped_at _ r q l).trans (rows_at y p r _)

theorem group_cots (d : FVec Ideal S8192x4096 .bf16) (g : FVec Ideal S1x2048 .f32) (r : Fin 8192) (q : Fin 4) :
    group (grouped (cots d g)) r q = part (scaled (rowsD d r) (rowG g)) q :=
  funext fun l => (grouped_at _ r q l).trans (cots_at d g r _)

/-- The gradient of the gated rows. -/
theorem dflat_at (y : FVec Ideal S8192x2048 .f32) (p : FVec Ideal S8192x11264 .f32) (d : FVec Ideal S8192x4096 .bf16)
    (g : FVec Ideal S1x2048 .f32) (r : Fin 8192) (j : Fin 2048) :
    flat (dt (grouped (rows y p)) (grouped (cots d g))) (ix2 r j) = dGated (rowsZ p r) (rowsY y r) (rowsD d r) (rowG g) j := by
  conv_lhs => rw [← col_grp j]
  rw [flat_at, dt_at, group_rows, group_cots]
  rfl

theorem dy_eq (y : FVec Ideal S8192x2048 .f32) (p : FVec Ideal S8192x11264 .f32) (d : FVec Ideal S8192x4096 .bf16)
    (g : FVec Ideal S1x2048 .f32) : dy y p d g = allRow (rowsZ p) (rowsY y) (rowsD d) (rowG g) := by
  funext i
  obtain ⟨r, j, rfl⟩ : ∃ r j, i = ix2 r j := ⟨i 0, i 1, eq_ix2 i⟩
  exact congrArg₂ (· * ·) (dflat_at y p d g r j) (congrArg₂ (· * ·) (argZ_at p r j) (sig_at p r j))

/-- For real cotangents of the normalized rows. -/
theorem dz_eq (y : FVec Ideal S8192x2048 .f32) (p : FVec Ideal S8192x11264 .f32) (d : FVec Ideal S8192x4096 .bf16)
    (g : FVec Ideal S1x2048 .f32) (h : ∀ r j, ∃ a : ℝ, scaled (rowsD d r) (rowG g) j = a) :
    dz y p d g = allArg (rowsZ p) (rowsY y) (rowsD d) (rowG g) := by
  funext i
  obtain ⟨r, j, rfl⟩ : ∃ r j, i = ix2 r j := ⟨i 0, i 1, eq_ix2 i⟩
  have e := dflat_at y p d g r j
  unfold dz
  generalize flat (dt (grouped (rows y p)) (grouped (cots d g))) = T at e ⊢
  pointwise [one]
  rw [e, argZ_at, sig_at]
  exact dArgRow_eq (rowsZ p r) (rowsY y r) (rowsD d r) (rowG g) (h r) j

theorem dg_eq (y : FVec Ideal S8192x2048 .f32) (p : FVec Ideal S8192x11264 .f32) (d : FVec Ideal S8192x4096 .bf16) :
    dg y p d = allScale (rowsZ p) (rowsY y) (rowsD d) := by
  funext i
  obtain ⟨u, j, rfl⟩ : ∃ u j, i = ix2 u j := ⟨i 0, i 1, eq_ix2 i⟩
  obtain rfl : u = 0 := Subsingleton.elim u 0
  have e : ∀ r, flat (mulf (grouped (rows y p)) (inv (grouped (rows y p)))) (ix2 r j)
      = gated (rowsZ p r) (rowsY y r) j * rstd w512 (part (gated (rowsZ p r) (rowsY y r)) (grp j)) := fun r => by
    conv_lhs => rw [← col_grp j]
    rw [flat_at]
    refine congrArg₂ (· * ·) ?_ ?_
    · rw [grouped_at, rows_at, col_grp]
    · rw [inv_at, group_rows]
  unfold dg
  generalize flat (mulf (grouped (rows y p)) (inv (grouped (rows y p)))) = T at e ⊢
  pointwise
  rw [Fin.sum_univ_one]
  simp only [e, cot_at]
  exact Finset.sum_congr rfl fun r _ => mul_comm _ _

end Cert.GNormRefIdeal.Hand

end
-- ==== Proof.GNorm.lean ====
/- The gradient of the gated norm: the kernel's blocks of rows put together, and its running sum of the scale's
   gradient, are the whole gradient, and so is the reference. -/
module

public import proofs.«01_k».proof.Defs
public import proofs.«01_k».proof.Proof.GNormTile
public import proofs.«01_k».proof.Proof.GNormRef
public import proofs.«01_k».proof.Proof.Gen.Pre_finite_gnorm
public import proofs.«01_k».proof.Proof.Finite

@[expose] public section

set_option maxRecDepth 16384

noncomputable section

namespace Cert.GNormIdeal.Hand

open Cert.GNormIdeal Cert.GNormIdeal.Gen Cert.Gated Idealize.ShloMosaic Idealize.ShloMosaic.Tactic
open Idealize.ShloMosaic.TcCoe

variable (m : (ℓ : Loc nD τ sig) → Buf (Elt Ideal) ℓ)

abbrev argY (c : Dev nD) : Vec Ideal S8192x2048 .f32 := m ((c : Thread nD τ).loc main_arg0)
abbrev argZ (c : Dev nD) : Vec Ideal S8192x11264 .f32 := m ((c : Thread nD τ).loc main_arg1)
abbrev argD (c : Dev nD) : Vec Ideal S8192x4096 .bf16 := m ((c : Thread nD τ).loc main_arg2)
abbrev argG (c : Dev nD) : Vec Ideal S1x2048 .f32 := m ((c : Thread nD τ).loc main_arg3)

/-- The arrays' rows: the gate's argument and the cotangent are the first 2048 columns of theirs. -/
abbrev rowsZ (a : Vec Ideal S8192x11264 .f32) : Fin 8192 → Fin 2048 → EReal := lead (by decide) a
abbrev rowsD (a : Vec Ideal S8192x4096 .bf16) : Fin 8192 → Fin 2048 → EReal := lead (by decide) a

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

theorem lt_N (t : Fin cfg0.N) : t.val < 32 := lt_of_lt_of_eq t.isLt N_0

/-- Row `r` of block `t`, in the whole array. -/
def rowOf (t : Fin cfg0.N) (r : Fin 256) : Fin 8192 := ⟨t.val * 256 + r.val, by have := lt_N t; omega⟩

/-- The blocks of the four arguments at grid point `t`. -/
abbrev bY (c : Dev nD) (t : Fin cfg0.N) : Vec Ideal S256x2048 .f32 := iblk m c 0 t
abbrev bZ (c : Dev nD) (t : Fin cfg0.N) : Vec Ideal S256x2048 .f32 := X0_1 m c t
abbrev bD (c : Dev nD) (t : Fin cfg0.N) : Vec Ideal S256x2048 .bf16 := iblk m c 2 t
abbrev bG (c : Dev nD) (t : Fin cfg0.N) : Vec Ideal S1x2048 .f32 := iblk m c 3 t

theorem blk0 (c : Dev nD) (t : Fin cfg0.N) (r : Fin 256) : line (bY m c t) r = line (argY m c) (rowOf t r) := by
  funext x
  unfold line lead
  blk_ext [iblk, V, idx0 t, rowOf]

theorem blk1 (c : Dev nD) (t : Fin cfg0.N) (r : Fin 256) : line (bZ m c t) r = rowsZ (argZ m c) (rowOf t r) := by
  funext x
  unfold line rowsZ lead
  unfold bZ X0_1 Pipeline.Window.fill
  rw [dif_pos (moved0_1 t _)]
  blk_ext [iblk, V, idx1 t, rowOf]
  rfl

theorem blk2 (c : Dev nD) (t : Fin cfg0.N) (r : Fin 256) : line (bD m c t) r = rowsD (argD m c) (rowOf t r) := by
  funext x
  unfold line rowsD lead
  blk_ext [iblk, V, idx2 t, rowOf]
  rfl

theorem blk3 (c : Dev nD) (t : Fin cfg0.N) : line (bG m c t) 0 = line (argG m c) 0 := by
  funext x
  unfold line lead
  blk_ext [iblk, V, idx3 t]

theorem out_A (c : Dev nD) (t : Fin cfg0.N) (h0 : t.val % 32 = 0) (h1 : ¬1 ≤ t.val) :
    outsAt0 m c t.val t.isLt = (pDy (bY m c t) (bZ m c t) (bD m c t) (bG m c t), pDz (bY m c t) (bZ m c t) (bD m c t) (bG m c t),
      pDg (bY m c t) (bZ m c t) (bD m c t)) := by
  rw [outsAt0_A m c t h0 h1]
  refine congrArg₂ Prod.mk ?_ (congrArg₂ Prod.mk ?_ ?_)
  · frame_out
    rfl
  · frame_out
    rfl
  · frame_out
    rfl

theorem out_B (c : Dev nD) (t : Fin cfg0.N) (h0 : ¬t.val % 32 = 0) (h1 : 1 ≤ t.val) :
    outsAt0 m c t.val t.isLt = (pDy (bY m c t) (bZ m c t) (bD m c t) (bG m c t), pDz (bY m c t) (bZ m c t) (bD m c t) (bG m c t),
      addf (outsAt0 m c (t.val - 1) (Nat.lt_of_le_of_lt (Nat.sub_le _ _) t.isLt)).2.2 (pDg (bY m c t) (bZ m c t) (bD m c t))) := by
  rw [outsAt0_B m c t h0 h1]
  refine congrArg₂ Prod.mk ?_ (congrArg₂ Prod.mk ?_ ?_)
  · frame_out
    rfl
  · frame_out
    rfl
  · frame_out
    generalize (outsAt0 m c (t.val - 1) _).2.2 = X
    unfold k0_pay5
    dsimp only
    rw [shapeCast_self]
    rfl

theorem out4 (c : Dev nD) (t : Fin cfg0.N) : (outsAt0 m c t.val t.isLt).1 = pDy (bY m c t) (bZ m c t) (bD m c t) (bG m c t) := by
  have := lt_N t
  by_cases h0 : t.val % 32 = 0
  · rw [out_A m c t h0 (by omega)]
  · rw [out_B m c t h0 (by omega)]

theorem out5 (c : Dev nD) (t : Fin cfg0.N) : (outsAt0 m c t.val t.isLt).2.1 = pDz (bY m c t) (bZ m c t) (bD m c t) (bG m c t) := by
  have := lt_N t
  by_cases h0 : t.val % 32 = 0
  · rw [out_A m c t h0 (by omega)]
  · rw [out_B m c t h0 (by omega)]

/-- The gradients of the whole arrays. -/
def dY (c : Dev nD) : Vec Ideal S8192x2048 .f32 := allRow (rowsZ (argZ m c)) (line (argY m c)) (rowsD (argD m c)) (line (argG m c) 0)
def dZ (c : Dev nD) : Vec Ideal S8192x2048 .bf16 := allArg (rowsZ (argZ m c)) (line (argY m c)) (rowsD (argD m c)) (line (argG m c) 0)
def dG (c : Dev nD) : Vec Ideal S1x2048 .f32 := allScale (rowsZ (argZ m c)) (line (argY m c)) (rowsD (argD m c))

/-- A block's gradients are that block of the whole gradients. -/
theorem block_dy (c : Dev nD) (t : Fin cfg0.N) (y : S256x2048.Idx) :
    allRow (line (bZ m c t)) (line (bY m c t)) (line (bD m c t)) (line (bG m c t) 0) y = dY m c (ix2 (rowOf t (y 0)) (y 1)) := by
  obtain ⟨r, j, rfl⟩ : ∃ r j, y = ix2 r j := ⟨y 0, y 1, eq_ix2 y⟩
  change dRow (line (bZ m c t) r) (line (bY m c t) r) (line (bD m c t) r) (line (bG m c t) 0) j = _
  rw [blk0, blk1, blk2, blk3]
  rfl

theorem block_dz (c : Dev nD) (t : Fin cfg0.N) (y : S256x2048.Idx) :
    allArg (line (bZ m c t)) (line (bY m c t)) (line (bD m c t)) (line (bG m c t) 0) y = dZ m c (ix2 (rowOf t (y 0)) (y 1)) := by
  obtain ⟨r, j, rfl⟩ : ∃ r j, y = ix2 r j := ⟨y 0, y 1, eq_ix2 y⟩
  change dArgRow (line (bZ m c t) r) (line (bY m c t) r) (line (bD m c t) r) (line (bG m c t) 0) j = _
  rw [blk0, blk1, blk2, blk3]
  rfl

theorem final_dy (c : Dev nD) : (dats m 0 c).arrAt 4 cfg0.N = dY m c := by
  refine (dats m 0 c).arrAt_eq_of_covers 4 _ (by decide +kernel) fun t hf y => ?_
  blk_simp
  rw [after0_4, out4, pDy_eq]
  refine (block_dy m c t y).trans (congrArg _ ?_)
  blk_ext [idx4 t, rowOf]

theorem final_dz (c : Dev nD) : (dats m 0 c).arrAt 5 cfg0.N = dZ m c := by
  refine (dats m 0 c).arrAt_eq_of_covers 5 _ (by decide +kernel) fun t hf y => ?_
  blk_simp
  rw [after0_5, out5, pDz_eq]
  refine (block_dz m c t y).trans (congrArg _ ?_)
  blk_ext [idx5 t, rowOf]

/-- A sum over the rows, block by block. -/
theorem sum_rows (f : Fin 8192 → EReal) : ∑ t : Fin cfg0.N, ∑ r : Fin 256, f (rowOf t r) = ∑ r, f r := by
  rw [Fin.sum_univ_tiles 32 256 (by norm_num) f]
  exact Fintype.sum_equiv (finCongr N_0) _ _ fun t => rfl

/-- The last grid point. -/
def tLast : Fin cfg0.N := ⟨31, lt_of_lt_of_eq (by decide) N_0.symm⟩

/-- The scale's gradient: the blocks' sums, added up over the grid. -/
theorem acc (c : Dev nD) (y : S1x2048.Idx) : (outsAt0 m c 31 tLast.isLt).2.2 y = dG m c y := by
  have h := Pipeline.eq_sum_fin_of_reset_step_apply_last (fun n h => (outsAt0 m c n h).2.2) 32 (fun _ => (0 : EReal))
    (fun t i => pDg (bY m c t) (bZ m c t) (bD m c t) i)
    (fun t h i => by rw [out_A m c t h (by have := lt_N t; omega), zero_add])
    (fun t h i => congrFun (congrArg (fun p => p.2.2) (out_B m c t h (by have := lt_N t; omega))) i)
    (le_of_eq N_0) tLast (N_0.symm : 31 + 1 = cfg0.N) y
  rw [zero_add] at h
  refine h.trans ?_
  have e : ∀ t : Fin cfg0.N, pDg (F := Ideal) (bY m c t) (bZ m c t) (bD m c t) y
      = ∑ r, dScale (rowsZ (argZ m c) (rowOf t r)) (line (argY m c) (rowOf t r)) (rowsD (argD m c) (rowOf t r)) (y 1) := fun t => by
    rw [pDg_eq]
    refine Finset.sum_congr rfl fun r _ => ?_
    rw [blk0, blk1, blk2]
  exact (Finset.sum_congr rfl fun t _ => e t).trans
    (sum_rows fun r => dScale (rowsZ (argZ m c) r) (line (argY m c) r) (rowsD (argD m c) r) (y 1))

theorem final_dg (c : Dev nD) : (dats m 0 c).arrAt 6 cfg0.N = dG m c := by
  refine (dats m 0 c).arrAt_eq_of_after_last 6 tLast (by decide +kernel) _ fun y => ?_
  blk_simp
  rw [after0_6]
  refine (acc m c y).trans (congrArg _ ?_)
  blk_ext [idx6 tLast]

end Cert.GNormIdeal.Hand

namespace Cert.GNormRefIdeal.Hand

open Cert.GNormRefIdeal Cert.GNormRefIdeal.Gen Cert.Gated Idealize.ShloMosaic Idealize.SL.Sem

/-- Finite cotangents and scales have real products. -/
theorem real_of_fn (y : FVec Ideal S8192x2048 .f32) (p : FVec Ideal S8192x11264 .f32) (d : FVec Ideal S8192x4096 .bf16)
    (g : FVec Ideal S1x2048 .f32) (h : Cert.Pre_finite_gnorm.fn (F := Ideal) y p d g = fun _ => 1#1) (r : Fin 8192) (j : Fin 2048) :
    ∃ a : ℝ, scaled (rowsD d r) (rowG g) j = a := by
  have h0 := congrFun h (fun i => i.elim0)
  unfold Cert.Pre_finite_gnorm.fn at h0
  dsimp only at h0
  haveI := Cert.Pre_finite.Hand.subsingleton
  obtain ⟨h1, h2⟩ := Cert.Pre_finite.Hand.split _ _ h0
  have h3 := Host.reduce_andi_all _ _ _ _ _ h1
  have h4 := Host.reduce_andi_all _ _ _ _ _ h2
  obtain ⟨a, ha⟩ := Cert.Pre_finite.Hand.real_of_lt _ (h3 (ix2 r j))
  obtain ⟨b, hb⟩ := Cert.Pre_finite.Hand.real_of_lt _ (h4 (ix2 0 j))
  have ha' : rowsD d r j = a := (cot_at d r j).symm.trans ha
  have hb' : rowG g j = b := hb
  exact ⟨a * b, by rw [scaled, ha', hb', EReal.coe_mul]⟩

theorem frame : Cert.quiescent_GNormRefIdeal := fun m g _ =>
  (θ_run Cert.GNormRefIdeal.defs _ _).mono (fun r h => ⟨fun c => (h c).2.2.2, sem_eq_zero_of_no_sems (by decide) r.2⟩)
    (Cert.GNormRefIdeal.Value.run m g)

/-- The kernel's gradients are the reference's, where the cotangents and the scale are finite. -/
theorem value : Cert.algebraic_GNormIdeal_GNormRefIdeal_pre_finite_gnorm := by
  intro m g m' g' hpre hagree
  refine ⟨fun c => Cert.GNormIdeal.Hand.dY m c, fun c => Cert.GNormIdeal.Hand.dZ m c, fun c => Cert.GNormIdeal.Hand.dG m c, ?_, ?_⟩
  · exact (θ_run Cert.GNormIdeal.defs _ _).mono (fun r h c => ⟨(h c).1.trans (Cert.GNormIdeal.Hand.final_dy m c),
        (h c).2.1.trans (Cert.GNormIdeal.Hand.final_dz m c), (h c).2.2.1.trans (Cert.GNormIdeal.Hand.final_dg m c), (h c).2.2.2⟩)
      (Cert.GNormIdeal.Value.run_blocks m g)
  · refine (θ_run Cert.GNormRefIdeal.defs _ _).mono (fun r h c => ?_) (Cert.GNormRefIdeal.Value.run m' g')
    obtain ⟨e0, e1, e2, e3⟩ := hagree c
    have hr := real_of_fn _ _ _ _ (hpre c)
    have k1 : dy (m' ((c.tc : Thread nD τ).loc main_arg0)) (m' ((c.tc : Thread nD τ).loc main_arg1)) (m' ((c.tc : Thread nD τ).loc main_arg2)) (m' ((c.tc : Thread nD τ).loc main_arg3))
        = Cert.GNormIdeal.Hand.dY m c := by
      rw [e0, e1, e2, e3]
      exact dy_eq _ _ _ _
    have k2 : dz (m' ((c.tc : Thread nD τ).loc main_arg0)) (m' ((c.tc : Thread nD τ).loc main_arg1)) (m' ((c.tc : Thread nD τ).loc main_arg2)) (m' ((c.tc : Thread nD τ).loc main_arg3))
        = Cert.GNormIdeal.Hand.dZ m c := by
      rw [e0, e1, e2, e3]
      exact dz_eq _ _ _ _ hr
    have k3 : dg (m' ((c.tc : Thread nD τ).loc main_arg0)) (m' ((c.tc : Thread nD τ).loc main_arg1)) (m' ((c.tc : Thread nD τ).loc main_arg2))
        = Cert.GNormIdeal.Hand.dG m c := by
      rw [e0, e1, e2]
      exact dg_eq _ _ _
    exact ⟨(h c).1.trans k1, (h c).2.1.trans k2, (h c).2.2.1.trans k3, (h c).2.2.2⟩

end Cert.GNormRefIdeal.Hand

end
-- ==== Proof.Conv.lean ====
/- The gradient of the short gated convolution with its grouped norm, row by row. A row of the product `c * u` is
   convolved with three taps along the rows, gated by `b` and normalized in groups of 128 columns. -/
module

public import proofs.«01_k».proof.Proof.Rms

@[expose] public section

noncomputable section

namespace Cert.Conv

open Cert.Rms Idealize.ShloMosaic

def w128 : Width := ⟨Ideal.ofBits .f32 0x43000000#32, 128, by norm_num, by
  simp [Ideal.ofBits, Ideal.ieee, -EReal.coe_mul]
  norm_num⟩

/-- Column `l` of group `q`. -/
def col {G W : ℕ} (h : 128 * G = W) (q : Fin G) (l : Fin 128) : Fin W := ⟨128 * q.val + l.val, by omega⟩

/-- The entries of column `k`'s group, and the column's place in it. -/
def part {G W : ℕ} (h : 128 * G = W) (x : Fin W → EReal) (k : Fin W) (l : Fin 128) : EReal :=
  x ⟨128 * (k.val / 128) + l.val, by omega⟩
def lane {W : ℕ} (k : Fin W) : Fin 128 := ⟨k.val % 128, by omega⟩

theorem col_split {G W : ℕ} (h : 128 * G = W) (k : Fin W) : ∃ q l, k = col h q l :=
  ⟨⟨k.val / 128, by omega⟩, lane k, Fin.ext (by simp only [col, lane]; omega)⟩

theorem part_col {G W : ℕ} (h : 128 * G = W) (x : Fin W → EReal) (q : Fin G) (l : Fin 128) :
    part h x (col h q l) = fun e => x (col h q e) :=
  funext fun e => congrArg x (Fin.ext (by simp only [col]; omega))

theorem lane_col {G W : ℕ} (h : 128 * G = W) (q : Fin G) (l : Fin 128) : lane (col h q l) = l :=
  Fin.ext (by simp only [col, lane]; omega)

/-- The rows of the four arrays, by their numbers, the taps and the norm's scale. -/
structure Rows (W : ℕ) where
  u : ℕ → Fin W → EReal
  b : ℕ → Fin W → EReal
  c : ℕ → Fin W → EReal
  d : ℕ → Fin W → EReal
  w : Fin 3 → Fin W → EReal
  g : Fin W → EReal

/-- An array's rows, and zero past the last one. -/
def ext {W : ℕ} (a : Fin 8192 → Fin W → EReal) (n : ℕ) (k : Fin W) : EReal := if h : n < 8192 then a ⟨n, h⟩ k else 0

/-- The rows of the step's arrays: `u`, `b` and `c` lie side by side in one, `d` is the second half of another. -/
def rowsOf (p : (⟨2, ![8192, 11264]⟩ : Shape).Idx → EReal) (d : (⟨2, ![8192, 4096]⟩ : Shape).Idx → EReal)
    (w : (⟨2, ![3, 2048]⟩ : Shape).Idx → EReal) (g : (⟨2, ![1, 2048]⟩ : Shape).Idx → EReal) : Rows 2048 where
  u := ext fun r k => p (ix2 r ⟨5120 + k.val, by omega⟩)
  b := ext fun r k => p (ix2 r ⟨7168 + k.val, by omega⟩)
  c := ext fun r k => p (ix2 r ⟨9216 + k.val, by omega⟩)
  d := ext fun r k => d (ix2 r ⟨2048 + k.val, by omega⟩)
  w a k := w (ix2 a k)
  g k := g (ix2 0 k)

variable {G W : ℕ} (h : 128 * G = W) (D : Rows W)

/-- The convolved rows, the row `s` before, the convolution, and what it gates. -/
def Rows.x (n : ℕ) (k : Fin W) : EReal := D.c n k * D.u n k
def Rows.tap (s n : ℕ) (k : Fin W) : EReal := if s ≤ n then D.x (n - s) k else 0
def Rows.conv (n : ℕ) (k : Fin W) : EReal := D.w 0 k * D.tap 2 n k + D.w 1 k * D.tap 1 n k + D.w 2 k * D.x n k
def Rows.v (n : ℕ) (k : Fin W) : EReal := D.b n k * D.conv n k

/-- The normalized row, the cotangent of it, and the gradients of what is normalized, of the convolution and of its rows. -/
def Rows.vhat (n : ℕ) (k : Fin W) : EReal := D.v n k * rstd w128 (part h (D.v n) k)
def Rows.s (n : ℕ) (k : Fin W) : EReal := D.d n k * D.g k
def Rows.dv (n : ℕ) (k : Fin W) : EReal := grad w128 (part h (D.v n) k) (part h (D.s n) k) (lane k)
def Rows.dconv (n : ℕ) (k : Fin W) : EReal := D.dv h n k * D.b n k
def Rows.dx (n : ℕ) (k : Fin W) : EReal :=
  D.w 2 k * D.dconv h n k + D.w 1 k * D.dconv h (n + 1) k + D.w 0 k * D.dconv h (n + 2) k

/-- The gradients: of the rows, and what a row adds to those of a tap and of the scale. -/
def Rows.du (n : ℕ) (k : Fin W) : EReal := D.dx h n k * D.c n k
def Rows.db (n : ℕ) (k : Fin W) : EReal := D.dv h n k * D.conv n k
def Rows.dc (n : ℕ) (k : Fin W) : EReal := D.dx h n k * D.u n k
def Rows.dw (a : Fin 3) (n : ℕ) (k : Fin W) : EReal := D.dconv h n k * D.tap (2 - a.val) n k
def Rows.dg (n : ℕ) (k : Fin W) : EReal := D.d n k * D.vhat h n k

/-- A zero cotangent has a zero gradient. -/
theorem grad_zero {ι : Type} [Fintype ι] (n : Width) (x : ι → EReal) (j : ι) : grad n x (fun _ => 0) j = 0 := by
  unfold grad
  simp only [zero_mul, Finset.sum_const_zero]
  rw [n.eq, Ideal.div_coe n.pos.ne', zero_mul, mul_zero, sub_zero, mul_zero]

/-- The gradients of the whole arrays. -/
def wholeDu (D : Rows 2048) : (⟨2, ![8192, 2048]⟩ : Shape).Idx → EReal := fun i => D.du (G := 16) rfl (i 0).val (i 1)
def wholeDb (D : Rows 2048) : (⟨2, ![8192, 2048]⟩ : Shape).Idx → EReal := fun i => D.db (G := 16) rfl (i 0).val (i 1)
def wholeDc (D : Rows 2048) : (⟨2, ![8192, 2048]⟩ : Shape).Idx → EReal := fun i => D.dc (G := 16) rfl (i 0).val (i 1)
def wholeDw (D : Rows 2048) : (⟨3, ![3, 1, 2048]⟩ : Shape).Idx → EReal :=
  fun i => ∑ r : Fin 8192, D.dw (G := 16) rfl (i 0) r.val (i 2)
def wholeDg (D : Rows 2048) : (⟨2, ![1, 2048]⟩ : Shape).Idx → EReal :=
  fun i => ∑ r : Fin 8192, D.dg (G := 16) rfl r.val (i 1)

end Cert.Conv

end
-- ==== Proof.ScTile.lean ====
/- One block of the short convolution's gradient: what the body computes, over whole blocks. -/
module

public import proofs.«01_k».proof.Proof.Gen.ScIdeal.Skeleton
public import proofs.«01_k».proof.Proof.Conv
public import Idealize.ShloMosaic.Lib.Pipeline.ValueKit

@[expose] public section

set_option maxRecDepth 16384

noncomputable section

namespace Cert.ScIdeal.Hand

open Cert.ScIdeal Cert.ScIdeal.Gen Cert.Rms Cert.Conv Idealize.ShloMosaic Idealize.ShloMosaic.Tactic

variable {F : FTy → Type} [FloatOps F]

/-- A group's columns. -/
def piece (x : FVec F S264x1024 .f32) : Fin 8 → FVec F S264x128 .f32
  | 0 => extractStridedSlice S264x128 ![0, 0] x slices_S264x1024_o0_0_S264x128
  | 1 => extractStridedSlice S264x128 ![0, 128] x slices_S264x1024_o0_128_S264x128
  | 2 => extractStridedSlice S264x128 ![0, 256] x slices_S264x1024_o0_256_S264x128
  | 3 => extractStridedSlice S264x128 ![0, 384] x slices_S264x1024_o0_384_S264x128
  | 4 => extractStridedSlice S264x128 ![0, 512] x slices_S264x1024_o0_512_S264x128
  | 5 => extractStridedSlice S264x128 ![0, 640] x slices_S264x1024_o0_640_S264x128
  | 6 => extractStridedSlice S264x128 ![0, 768] x slices_S264x1024_o0_768_S264x128
  | 7 => extractStridedSlice S264x128 ![0, 896] x slices_S264x1024_o0_896_S264x128

/-- The mean of each row of a group, and its reciprocal root mean square, along the group's columns. -/
abbrev mean (x : FVec F S264x128 .f32) : FVec F S264x1 .f32 :=
  divf (shapeCast S264x1 (multiReduction .add [1] S264 x 0x00000000#32 reduces_S264x128_S264 (.inl rfl) rfl) shapeCasts_S264_S264x1)
    (broadcast S264x1 (Scalar.ofBits .f32 0x43000000#32))
abbrev along (x : FVec F S264x1 .f32) : FVec F S264x128 .f32 :=
  broadcastTo S264x128 (shapeCast S264x1 x shapeCasts_S264x1_S264x1) broadcasts_S264x1_S264x128
abbrev meanP (x : FVec F S264x1024 .f32) (q : Fin 8) : FVec F S264x128 .f32 := along (mean (piece x q))
abbrev rstdP (x : FVec F S264x1024 .f32) (q : Fin 8) : FVec F S264x128 .f32 :=
  along (rsqrt (addf (mean (mulf (piece x q) (piece x q))) (broadcast S264x1 (Scalar.ofBits .f32 0x3727C5AC#32))))

/-- Eight groups side by side. -/
abbrev cat (P : Fin 8 → FVec F S264x128 .f32) : FVec F S264x1024 .f32 :=
  concatenate S264x1024 1 [⟨S264x128, P 0⟩, ⟨S264x128, P 1⟩, ⟨S264x128, P 2⟩, ⟨S264x128, P 3⟩, ⟨S264x128, P 4⟩, ⟨S264x128, P 5⟩, ⟨S264x128, P 6⟩, ⟨S264x128, P 7⟩]
    concatenates_S264x128_S264x128_S264x128_S264x128_S264x128_S264x128_S264x128_S264x128_S264x1024_d1

/-- The normalized rows, and the gradient of the rows. -/
abbrev that (x : FVec F S264x1024 .f32) : FVec F S264x1024 .f32 := mulf x (cat (rstdP x))
abbrev dt (x s : FVec F S264x1024 .f32) : FVec F S264x1024 .f32 :=
  mulf (cat (rstdP x)) (subf s (mulf (that x) (cat (meanP (mulf s (that x))))))

abbrev wide : 128 * 8 = 1024 := rfl

theorem piece_at (x : FVec Ideal S264x1024 .f32) (q : Fin 8) (r : Fin 264) (l : Fin 128) :
    piece x q (ix2 r l) = x (ix2 r (col wide q l)) := by
  match q with
  | 0 | 1 | 2 | 3 | 4 | 5 | 6 | 7 => pointwise [piece]; exact congrArg (fun y => x (ix2 r y)) (Fin.ext (by simp only [col]; omega))

theorem cat_at (P : Fin 8 → FVec Ideal S264x128 .f32) (r : Fin 264) (q : Fin 8) (l : Fin 128) :
    cat P (ix2 r (col wide q l)) = P q (ix2 r l) := by
  have he := l.isLt
  generalize hc : col wide q l = c
  have hv : c.val = 128 * q.val + l.val := by rw [← hc]; rfl
  unfold cat
  generalize h0 : P 0 = a0
  generalize h1 : P 1 = a1
  generalize h2 : P 2 = a2
  generalize h3 : P 3 = a3
  generalize h4 : P 4 = a4
  generalize h5 : P 5 = a5
  generalize h6 : P 6 = a6
  generalize h7 : P 7 = a7
  pointwise
  subst h0 h1 h2 h3 h4 h5 h6 h7
  match q, hv with
  | 0, hv => rw [dif_pos (by omega)]; exact congrArg (fun y => P 0 (ix2 r y)) (Fin.ext (by dsimp only; omega))
  | 1, hv => iterate 1 rw [dif_neg (by omega)]
             rw [dif_pos (by omega)]; exact congrArg (fun y => P 1 (ix2 r y)) (Fin.ext (by dsimp only; omega))
  | 2, hv => iterate 2 rw [dif_neg (by omega)]
             rw [dif_pos (by omega)]; exact congrArg (fun y => P 2 (ix2 r y)) (Fin.ext (by dsimp only; omega))
  | 3, hv => iterate 3 rw [dif_neg (by omega)]
             rw [dif_pos (by omega)]; exact congrArg (fun y => P 3 (ix2 r y)) (Fin.ext (by dsimp only; omega))
  | 4, hv => iterate 4 rw [dif_neg (by omega)]
             rw [dif_pos (by omega)]; exact congrArg (fun y => P 4 (ix2 r y)) (Fin.ext (by dsimp only; omega))
  | 5, hv => iterate 5 rw [dif_neg (by omega)]
             rw [dif_pos (by omega)]; exact congrArg (fun y => P 5 (ix2 r y)) (Fin.ext (by dsimp only; omega))
  | 6, hv => iterate 6 rw [dif_neg (by omega)]
             rw [dif_pos (by omega)]; exact congrArg (fun y => P 6 (ix2 r y)) (Fin.ext (by dsimp only; omega))
  | 7, hv => iterate 7 rw [dif_neg (by omega)]
             exact congrArg (fun y => P 7 (ix2 r y)) (Fin.ext (by dsimp only; omega))

/-- A row of a block. -/
abbrev line {R C : ℕ} (x : (⟨2, ![R, C]⟩ : Shape).Idx → EReal) (r : Fin R) (k : Fin C) : EReal := x (ix2 r k)

theorem meanP_at (x : FVec Ideal S264x1024 .f32) (q : Fin 8) (r : Fin 264) (l : Fin 128) :
    meanP x q (ix2 r l) = Ideal.div (∑ k, x (ix2 r (col wide q k))) w128.val := by
  pointwise
  simp only [piece_at]
  rfl

theorem rstdP_at (x : FVec Ideal S264x1024 .f32) (q : Fin 8) (r : Fin 264) (l : Fin 128) :
    rstdP x q (ix2 r l) = rstd w128 (fun k => x (ix2 r (col wide q k))) := by
  pointwise
  simp only [piece_at]
  rfl

theorem that_col (x : FVec Ideal S264x1024 .f32) (r : Fin 264) (q : Fin 8) (l : Fin 128) :
    that x (ix2 r (col wide q l)) = x (ix2 r (col wide q l)) * rstd w128 (fun k => x (ix2 r (col wide q k))) :=
  congrArg (x (ix2 r (col wide q l)) * ·) ((cat_at _ r q l).trans (rstdP_at x q r l))

theorem dt_col (x s : FVec Ideal S264x1024 .f32) (r : Fin 264) (q : Fin 8) (l : Fin 128) :
    dt x s (ix2 r (col wide q l)) = grad w128 (fun k => x (ix2 r (col wide q k))) (fun k => s (ix2 r (col wide q k))) l := by
  have e : meanP (mulf s (that x)) q (ix2 r l)
      = Ideal.div (∑ k, s (ix2 r (col wide q k)) * (x (ix2 r (col wide q k)) * rstd w128 (fun k => x (ix2 r (col wide q k))))) w128.val :=
    (meanP_at _ q r l).trans (congrArg (Ideal.div · w128.val)
      (Finset.sum_congr rfl fun k _ => congrArg (s (ix2 r (col wide q k)) * ·) (that_col x r q k)))
  exact congrArg₂ (· * ·) ((cat_at _ r q l).trans (rstdP_at x q r l))
    (congrArg (s (ix2 r (col wide q l)) - ·) (congrArg₂ (· * ·) (that_col x r q l) ((cat_at _ r q l).trans e)))

theorem that_at (x : FVec Ideal S264x1024 .f32) (r : Fin 264) (k : Fin 1024) :
    that x (ix2 r k) = x (ix2 r k) * rstd w128 (part wide (line x r) k) := by
  obtain ⟨q, l, rfl⟩ := col_split wide k
  rw [that_col, part_col]

theorem dt_at (x s : FVec Ideal S264x1024 .f32) (r : Fin 264) (k : Fin 1024) :
    dt x s (ix2 r k) = grad w128 (part wide (line x r) k) (part wide (line s r) k) (lane k) := by
  obtain ⟨q, l, rfl⟩ := col_split wide k
  rw [dt_col, part_col, part_col, lane_col]

/-- The blocks hold the rows from `256 * i` on: `u`, `b`, `c` and `d` 256 of them, `up` and `cp` the eight before (of the
    first block, any), `un`, `bn`, `cn` and `dn` the eight after (of the last block, any). -/
structure Fits (E : Rows 1024) (i : grid0.Coords) (u b c : Vec Ideal S256x1024 .f32) (up cp un bn cn : Vec Ideal S8x1024 .f32)
    (d : Vec Ideal S256x1024 .bf16) (dn : Vec Ideal S8x1024 .bf16) : Prop where
  lt : (i 1).val < 32
  u : ∀ r k, u (ix2 r k) = E.u (256 * (i 1).val + r.val) k
  b : ∀ r k, b (ix2 r k) = E.b (256 * (i 1).val + r.val) k
  c : ∀ r k, c (ix2 r k) = E.c (256 * (i 1).val + r.val) k
  d : ∀ r k, d (ix2 r k) = E.d (256 * (i 1).val + r.val) k
  up : 0 < (i 1).val → ∀ r k, up (ix2 r k) = E.u (256 * (i 1).val + r.val - 8) k
  cp : 0 < (i 1).val → ∀ r k, cp (ix2 r k) = E.c (256 * (i 1).val + r.val - 8) k
  un : (i 1).val < 31 → ∀ r k, un (ix2 r k) = E.u (256 * (i 1).val + 256 + r.val) k
  bn : (i 1).val < 31 → ∀ r k, bn (ix2 r k) = E.b (256 * (i 1).val + 256 + r.val) k
  cn : (i 1).val < 31 → ∀ r k, cn (ix2 r k) = E.c (256 * (i 1).val + 256 + r.val) k
  dn : (i 1).val < 31 → ∀ r k, dn (ix2 r k) = E.d (256 * (i 1).val + 256 + r.val) k
  past : ∀ n k, 8192 ≤ n → E.b n k = 0

variable {E : Rows 1024} {i : grid0.Coords} {u b c : Vec Ideal S256x1024 .f32} {up cp un bn cn : Vec Ideal S8x1024 .f32}
  {d : Vec Ideal S256x1024 .bf16} {dn : Vec Ideal S8x1024 .bf16}

theorem first_val : ∀ n : Fin 32, Scalar.cmpi .sgt (BitVec.ofNat 32 n.val) 0#32 = if 0 < n.val then 1#1 else 0#1 := by decide
theorem last_val : ∀ n : Fin 32, Scalar.cmpi .slt (BitVec.ofNat 32 n.val) 31#32 = if n.val < 31 then 1#1 else 0#1 := by decide

theorem x_at (hf : Fits E i u b c up cp un bn cn d dn) (p : Fin 272) (k : Fin 1024) (hp : 256 * (i 1).val + p.val < 8200) :
    k0_pay15 (F := Ideal) i u c cp up cn un (ix2 p k)
      = if 8 ≤ 256 * (i 1).val + p.val then E.x (256 * (i 1).val + p.val - 8) k else 0 := by
  have hi := hf.lt
  unfold k0_pay15
  dsimp only
  rw [first_val ⟨(i 1).val, hi⟩]
  dsimp only
  by_cases h8 : p.val < 8
  · by_cases h0 : 0 < (i 1).val
    · rw [if_pos h0, if_pos (by omega)]
      pointwise
      rw [dif_pos h8, hf.up h0, hf.cp h0]
      rfl
    · rw [if_neg h0, if_neg (by omega)]
      pointwise
      rw [dif_pos h8]
  · generalize Scalar.select _ _ _ = T
    rw [if_pos (by omega)]
    pointwise
    rw [dif_neg h8]
    by_cases h2 : p.val - 8 < 256
    · rw [dif_pos h2, hf.c, hf.u]
      unfold Rows.x
      rw [show 256 * (i 1).val + (p.val - 8) = 256 * (i 1).val + p.val - 8 by omega]
    · rw [dif_neg h2, hf.cn (by omega), hf.un (by omega)]
      unfold Rows.x
      rw [show 256 * (i 1).val + 256 + (p.val - 8 - 256) = 256 * (i 1).val + p.val - 8 by omega]

/-- The two rotated copies, at the rows they are read at. -/
theorem tap2_at (hf : Fits E i u b c up cp un bn cn d dn) (p : Fin 272) (k : Fin 1024) (h8 : 8 ≤ p.val)
    (hp : 256 * (i 1).val + p.val < 8200) :
    k0_pay16 (F := Ideal) i u c cp up cn un (ix2 p k) = E.tap 2 (256 * (i 1).val + p.val - 8) k := by
  have e : k0_pay16 (F := Ideal) i u c cp up cn un (ix2 p k)
      = k0_pay15 (F := Ideal) i u c cp up cn un (ix2 ⟨p.val - 2, by omega⟩ k) := by
    unfold k0_pay16
    generalize k0_pay15 (F := Ideal) i u c cp up cn un = T
    pointwise
    exact congrArg (fun y => T (ix2 y k)) (Fin.ext (by change (p.val + 272 - 2 % 272) % 272 = p.val - 2; omega))
  rw [e, x_at hf _ k (by dsimp only; omega)]
  unfold Rows.tap
  dsimp only
  by_cases h : 2 ≤ 256 * (i 1).val + p.val - 8
  · rw [if_pos h, if_pos (by omega)]
    congr 1
    omega
  · rw [if_neg h, if_neg (by omega)]

theorem tap1_at (hf : Fits E i u b c up cp un bn cn d dn) (p : Fin 272) (k : Fin 1024) (h8 : 8 ≤ p.val)
    (hp : 256 * (i 1).val + p.val < 8200) :
    k0_pay17 (F := Ideal) i u c cp up cn un (ix2 p k) = E.tap 1 (256 * (i 1).val + p.val - 8) k := by
  have e : k0_pay17 (F := Ideal) i u c cp up cn un (ix2 p k)
      = k0_pay15 (F := Ideal) i u c cp up cn un (ix2 ⟨p.val - 1, by omega⟩ k) := by
    unfold k0_pay17
    generalize k0_pay15 (F := Ideal) i u c cp up cn un = T
    pointwise
    exact congrArg (fun y => T (ix2 y k)) (Fin.ext (by change (p.val + 272 - 1 % 272) % 272 = p.val - 1; omega))
  rw [e, x_at hf _ k (by dsimp only; omega)]
  unfold Rows.tap
  dsimp only
  by_cases h : 1 ≤ 256 * (i 1).val + p.val - 8
  · rw [if_pos h, if_pos (by omega)]
    congr 1
    omega
  · rw [if_neg h, if_neg (by omega)]

theorem tap0_at (hf : Fits E i u b c up cp un bn cn d dn) (p : Fin 272) (k : Fin 1024) (h8 : 8 ≤ p.val)
    (hp : 256 * (i 1).val + p.val < 8200) :
    k0_pay15 (F := Ideal) i u c cp up cn un (ix2 p k) = E.tap 0 (256 * (i 1).val + p.val - 8) k := by
  rw [x_at hf p k hp, if_pos (by omega)]
  rfl

/-- The body's stages: the convolution, the gate and the cotangent, with their eight rows after. -/
abbrev cv (i : grid0.Coords) (u c : Vec F S256x1024 .f32) (up cp un cn : Vec F S8x1024 .f32) (w0 w1 w2 : Vec F S1x1024 .f32) :
    FVec F S264x1024 .f32 := k0_pay18 i u c cp up cn un w0 w1 w2
abbrev gt (b : Vec F S256x1024 .f32) (bn : Vec F S8x1024 .f32) : FVec F S264x1024 .f32 := k0_pay19 b bn
abbrev ct (i : grid0.Coords) (d : Vec F S256x1024 .bf16) (dn : Vec F S8x1024 .bf16) : FVec F S264x1024 .f32 :=
  k0_pay20 (BitVec.ofNat 32 (i 1).val) d dn

/-- The taps and the scale. -/
structure Weights (E : Rows 1024) (w0 w1 w2 g : Vec Ideal S1x1024 .f32) : Prop where
  w0 : ∀ k, w0 (ix2 0 k) = E.w 0 k
  w1 : ∀ k, w1 (ix2 0 k) = E.w 1 k
  w2 : ∀ k, w2 (ix2 0 k) = E.w 2 k
  g : ∀ k, g (ix2 0 k) = E.g k

variable {w0 w1 w2 g : Vec Ideal S1x1024 .f32}

theorem cv_at (hf : Fits E i u b c up cp un bn cn d dn) (hw : Weights E w0 w1 w2 g) (s : Fin 264) (k : Fin 1024)
    (hs : 256 * (i 1).val + s.val < 8192) :
    cv (F := Ideal) i u c up cp un cn w0 w1 w2 (ix2 s k) = E.conv (256 * (i 1).val + s.val) k := by
  have e2 := tap2_at hf ⟨8 + s.val, by omega⟩ k (by dsimp only; omega) (by dsimp only; omega)
  have e1 := tap1_at hf ⟨8 + s.val, by omega⟩ k (by dsimp only; omega) (by dsimp only; omega)
  have e0 := x_at hf ⟨8 + s.val, by omega⟩ k (by dsimp only; omega)
  rw [if_pos (by dsimp only; omega)] at e0
  rw [show 256 * (i 1).val + (8 + s.val) - 8 = 256 * (i 1).val + s.val by omega] at e0 e1 e2
  unfold cv k0_pay18
  generalize k0_pay15 (F := Ideal) i u c cp up cn un = T0 at e0 ⊢
  generalize k0_pay17 (F := Ideal) i u c cp up cn un = T1 at e1 ⊢
  generalize k0_pay16 (F := Ideal) i u c cp up cn un = T2 at e2 ⊢
  pointwise
  rw [e0, e1, e2, hw.w0, hw.w1, hw.w2]
  rfl

theorem gt_at (hf : Fits E i u b c up cp un bn cn d dn) (s : Fin 264) (k : Fin 1024) (hs : 256 * (i 1).val + s.val < 8192) :
    gt (F := Ideal) b bn (ix2 s k) = E.b (256 * (i 1).val + s.val) k := by
  unfold gt
  pointwise [k0_pay19]
  by_cases h : s.val < 256
  · rw [dif_pos h]
    exact hf.b _ _
  · rw [dif_neg h, hf.bn (by omega)]
    exact congrArg (E.b · k) (by dsimp only; omega)

theorem ct_at (hf : Fits E i u b c up cp un bn cn d dn) (s : Fin 264) (k : Fin 1024) :
    ct (F := Ideal) i d dn (ix2 s k) = if 256 * (i 1).val + s.val < 8192 then E.d (256 * (i 1).val + s.val) k else 0 := by
  have hi := hf.lt
  unfold ct k0_pay20
  dsimp only
  rw [last_val ⟨(i 1).val, hi⟩]
  dsimp only
  by_cases h : s.val < 256
  · rw [if_pos (show 256 * (i 1).val + s.val < 8192 by omega)]
    generalize Scalar.select _ _ _ = T
    pointwise
    rw [dif_pos h]
    exact hf.d _ _
  · by_cases h1 : (i 1).val < 31
    · rw [if_pos h1, if_pos (by omega)]
      pointwise
      rw [dif_neg h]
      refine (hf.dn h1 _ _).trans (congrArg (E.d · k) (by dsimp only; omega))
    · rw [if_neg h1, if_neg (by omega)]
      pointwise
      rw [dif_neg h]

/-- The gradient of the gated rows. -/
theorem dv_at (hf : Fits E i u b c up cp un bn cn d dn) (hw : Weights E w0 w1 w2 g) (s : Fin 264) (k : Fin 1024) :
    dt (F := Ideal) (mulf (gt b bn) (cv i u c up cp un cn w0 w1 w2)) (k0_pay34 (ct i d dn) g) (ix2 s k)
      = if 256 * (i 1).val + s.val < 8192 then E.dv wide (256 * (i 1).val + s.val) k else 0 := by
  rw [dt_at]
  have ec : ∀ k, k0_pay34 (F := Ideal) (ct i d dn) g (ix2 s k) = ct (F := Ideal) i d dn (ix2 s k) * E.g k := fun k => by
    unfold k0_pay34
    generalize ct (F := Ideal) i d dn = T
    pointwise
    rw [hw.g]
  by_cases h : 256 * (i 1).val + s.val < 8192
  · rw [if_pos h]
    have e1 : line (mulf (gt (F := Ideal) b bn) (cv i u c up cp un cn w0 w1 w2)) s = E.v (256 * (i 1).val + s.val) :=
      funext fun k => congrArg₂ (· * ·) (gt_at hf s k h) (cv_at hf hw s k h)
    have e2 : line (k0_pay34 (F := Ideal) (ct i d dn) g) s = E.s (256 * (i 1).val + s.val) :=
      funext fun k => (ec k).trans (by rw [ct_at hf, if_pos h]; rfl)
    rw [e1, e2]
    rfl
  · rw [if_neg h]
    have e2 : line (k0_pay34 (F := Ideal) (ct i d dn) g) s = fun _ => 0 :=
      funext fun k => (ec k).trans (by rw [ct_at hf, if_neg h, zero_mul])
    rw [e2]
    exact grad_zero _ _ _

/-- The body's values: the gradient of what is normalized, of the convolution, and of its rows. -/
abbrev tDv (i : grid0.Coords) (u b c : Vec F S256x1024 .f32) (up cp un bn cn : Vec F S8x1024 .f32) (d : Vec F S256x1024 .bf16)
    (dn : Vec F S8x1024 .bf16) (w0 w1 w2 g : Vec F S1x1024 .f32) : FVec F S264x1024 .f32 :=
  dt (mulf (gt b bn) (cv i u c up cp un cn w0 w1 w2)) (k0_pay34 (ct i d dn) g)
abbrev tDconv (i : grid0.Coords) (u b c : Vec F S256x1024 .f32) (up cp un bn cn : Vec F S8x1024 .f32) (d : Vec F S256x1024 .bf16)
    (dn : Vec F S8x1024 .bf16) (w0 w1 w2 g : Vec F S1x1024 .f32) : FVec F S264x1024 .f32 :=
  mulf (tDv i u b c up cp un bn cn d dn w0 w1 w2 g) (gt b bn)
def tDx (q : FVec F S264x1024 .f32) (w0 w1 w2 : Vec F S1x1024 .f32) : FVec F S256x1024 .f32 :=
  addf (addf (mulf (broadcastTo S256x1024 w2 broadcasts_S1x1024_S256x1024) (extractStridedSlice S256x1024 ![0, 0] q slices_S264x1024_o0_0_S256x1024))
    (mulf (broadcastTo S256x1024 w1 broadcasts_S1x1024_S256x1024) (extractStridedSlice S256x1024 ![0, 0] (dynamicRotate 0 263#32 none q rotates_S264x1024_d0) slices_S264x1024_o0_0_S256x1024)))
    (mulf (broadcastTo S256x1024 w0 broadcasts_S1x1024_S256x1024) (extractStridedSlice S256x1024 ![0, 0] (dynamicRotate 0 262#32 none q rotates_S264x1024_d0) slices_S264x1024_o0_0_S256x1024))

/-- Row `r` of a block, with the rows after it. -/
abbrev up8 (r : Fin 256) : Fin 264 := ⟨r.val, by omega⟩

theorem dconv_at (hf : Fits E i u b c up cp un bn cn d dn) (hw : Weights E w0 w1 w2 g) (s : Fin 264) (k : Fin 1024) :
    tDconv (F := Ideal) i u b c up cp un bn cn d dn w0 w1 w2 g (ix2 s k) = E.dconv wide (256 * (i 1).val + s.val) k := by
  refine (congrArg (· * gt (F := Ideal) b bn (ix2 s k)) (dv_at hf hw s k)).trans ?_
  unfold Rows.dconv
  by_cases h : 256 * (i 1).val + s.val < 8192
  · rw [if_pos h, gt_at hf s k h]
  · rw [if_neg h, zero_mul, hf.past _ k (by omega), mul_zero]

theorem dx_at (hf : Fits E i u b c up cp un bn cn d dn) (hw : Weights E w0 w1 w2 g) (r : Fin 256) (k : Fin 1024) :
    tDx (F := Ideal) (tDconv i u b c up cp un bn cn d dn w0 w1 w2 g) w0 w1 w2 (ix2 r k) = E.dx wide (256 * (i 1).val + r.val) k := by
  have e := fun s => dconv_at hf hw s k
  unfold tDx
  generalize tDconv (F := Ideal) i u b c up cp un bn cn d dn w0 w1 w2 g = T at e ⊢
  pointwise
  rw [hw.w0, hw.w1, hw.w2, e, e, e]
  unfold Rows.dx
  dsimp only
  rw [show (r.val + 264 - 263) % 264 = r.val + 1 by omega, show (r.val + 264 - 262) % 264 = r.val + 2 by omega]
  rfl

/-- The body's stores, of the blocks. -/
abbrev pDu (i : grid0.Coords) (u b c : Vec F S256x1024 .f32) (up cp un bn cn : Vec F S8x1024 .f32) (d : Vec F S256x1024 .bf16)
    (dn : Vec F S8x1024 .bf16) (w0 w1 w2 g : Vec F S1x1024 .f32) : FVec F S256x1024 .bf16 :=
  truncf .bf16 (mulf (tDx (tDconv i u b c up cp un bn cn d dn w0 w1 w2 g) w0 w1 w2) c) bitsLt_bf16_f32
abbrev pDb (i : grid0.Coords) (u b c : Vec F S256x1024 .f32) (up cp un bn cn : Vec F S8x1024 .f32) (d : Vec F S256x1024 .bf16)
    (dn : Vec F S8x1024 .bf16) (w0 w1 w2 g : Vec F S1x1024 .f32) : FVec F S256x1024 .bf16 :=
  k0_pay2 (cv i u c up cp un cn w0 w1 w2) (tDv i u b c up cp un bn cn d dn w0 w1 w2 g)
abbrev pDc (i : grid0.Coords) (u b c : Vec F S256x1024 .f32) (up cp un bn cn : Vec F S8x1024 .f32) (d : Vec F S256x1024 .bf16)
    (dn : Vec F S8x1024 .bf16) (w0 w1 w2 g : Vec F S1x1024 .f32) : FVec F S256x1024 .bf16 :=
  k0_pay1 u (tDx (tDconv i u b c up cp un bn cn d dn w0 w1 w2 g) w0 w1 w2)

/-- The block's share of the gradient of a tap, of the tap's copy of the rows, and of the scale's. -/
abbrev pDw (T : FVec F S272x1024 .f32) (i : grid0.Coords) (u b c : Vec F S256x1024 .f32) (up cp un bn cn : Vec F S8x1024 .f32)
    (d : Vec F S256x1024 .bf16) (dn : Vec F S8x1024 .bf16) (w0 w1 w2 g : Vec F S1x1024 .f32) : FVec F S1x1024 .f32 :=
  k0_pay6 T (tDconv i u b c up cp un bn cn d dn w0 w1 w2 g)
abbrev pDg (i : grid0.Coords) (u b c : Vec F S256x1024 .f32) (up cp un bn cn : Vec F S8x1024 .f32) (d : Vec F S256x1024 .bf16)
    (dn : Vec F S8x1024 .bf16) (w0 w1 w2 : Vec F S1x1024 .f32) : FVec F S1x1024 .f32 :=
  k0_pay7 (ct i d dn) (that (mulf (gt b bn) (cv i u c up cp un cn w0 w1 w2)))

theorem pDu_at (hf : Fits E i u b c up cp un bn cn d dn) (hw : Weights E w0 w1 w2 g) (r : Fin 256) (k : Fin 1024) :
    pDu (F := Ideal) i u b c up cp un bn cn d dn w0 w1 w2 g (ix2 r k) = E.du wide (256 * (i 1).val + r.val) k :=
  congrArg₂ (· * ·) (dx_at hf hw r k) (hf.c r k)

theorem pDc_at (hf : Fits E i u b c up cp un bn cn d dn) (hw : Weights E w0 w1 w2 g) (r : Fin 256) (k : Fin 1024) :
    pDc (F := Ideal) i u b c up cp un bn cn d dn w0 w1 w2 g (ix2 r k) = E.dc wide (256 * (i 1).val + r.val) k :=
  congrArg₂ (· * ·) (dx_at hf hw r k) (hf.u r k)

theorem pDb_at (hf : Fits E i u b c up cp un bn cn d dn) (hw : Weights E w0 w1 w2 g) (r : Fin 256) (k : Fin 1024) :
    pDb (F := Ideal) i u b c up cp un bn cn d dn w0 w1 w2 g (ix2 r k) = E.db wide (256 * (i 1).val + r.val) k := by
  have hi := hf.lt
  have h : 256 * (i 1).val + (up8 r).val < 8192 := by dsimp only; omega
  have e1 := dv_at hf hw (up8 r) k
  rw [if_pos h] at e1
  have e2 := cv_at hf hw (up8 r) k h
  unfold pDb k0_pay2 tDv
  generalize dt (F := Ideal) _ _ = T at e1 ⊢
  generalize cv (F := Ideal) i u c up cp un cn w0 w1 w2 = V at e2 ⊢
  pointwise
  exact congrArg₂ (· * ·) e1 e2

theorem pDw_at (hf : Fits E i u b c up cp un bn cn d dn) (hw : Weights E w0 w1 w2 g) (T : FVec Ideal S272x1024 .f32) (a : Fin 3)
    (hT : ∀ (p : Fin 272) (k : Fin 1024), 8 ≤ p.val → 256 * (i 1).val + p.val < 8200 → T (ix2 p k) = E.tap (2 - a.val) (256 * (i 1).val + p.val - 8) k)
    (k : Fin 1024) :
    pDw (F := Ideal) T i u b c up cp un bn cn d dn w0 w1 w2 g (ix2 0 k) = ∑ r : Fin 256, E.dw wide a (256 * (i 1).val + r.val) k := by
  have hi := hf.lt
  have e := fun s => dconv_at hf hw s k
  unfold pDw
  generalize tDconv (F := Ideal) i u b c up cp un bn cn d dn w0 w1 w2 g = Q at e ⊢
  pointwise [k0_pay6, k0_pay3]
  refine Finset.sum_congr rfl fun r _ => ?_
  rw [e, hT _ _ (by dsimp only; omega) (by dsimp only; omega)]
  unfold Rows.dw
  dsimp only
  rw [show 256 * (i 1).val + (8 + r.val) - 8 = 256 * (i 1).val + r.val by omega]

theorem pDg_at (hf : Fits E i u b c up cp un bn cn d dn) (hw : Weights E w0 w1 w2 g) (k : Fin 1024) :
    pDg (F := Ideal) i u b c up cp un bn cn d dn w0 w1 w2 (ix2 0 k) = ∑ r : Fin 256, E.dg wide (256 * (i 1).val + r.val) k := by
  have hi := hf.lt
  have e1 : ∀ r : Fin 256, ct (F := Ideal) i d dn (ix2 (up8 r) k) = E.d (256 * (i 1).val + r.val) k := fun r =>
    (ct_at hf (up8 r) k).trans (if_pos (by dsimp only; omega))
  have e2 : ∀ r : Fin 256, that (F := Ideal) (mulf (gt b bn) (cv i u c up cp un cn w0 w1 w2)) (ix2 (up8 r) k)
      = E.vhat wide (256 * (i 1).val + r.val) k := fun r => by
    have h : 256 * (i 1).val + (up8 r).val < 8192 := by dsimp only; omega
    have hl : line (mulf (gt (F := Ideal) b bn) (cv i u c up cp un cn w0 w1 w2)) (up8 r) = E.v (256 * (i 1).val + r.val) :=
      funext fun k => congrArg₂ (· * ·) (gt_at hf (up8 r) k h) (cv_at hf hw (up8 r) k h)
    rw [that_at, hl]
    exact congrArg (· * _) (congrFun hl k)
  unfold pDg
  generalize that (F := Ideal) _ = T at e2 ⊢
  generalize ct (F := Ideal) i d dn = S at e1 ⊢
  pointwise [k0_pay7]
  exact Finset.sum_congr rfl fun r _ => congrArg₂ (· * ·) (e1 r) (e2 r)

end Cert.ScIdeal.Hand

end
-- ==== Proof.ScFit.lean ====
/- The blocks of the short convolution's gradient: the two halves of the columns, and what each grid point reads. -/
module

public import proofs.«01_k».proof.Proof.Gen.ScIdeal.Value
public import proofs.«01_k».proof.Proof.ScTile

@[expose] public section

set_option maxRecDepth 16384

noncomputable section

namespace Cert.Conv

open Cert.Rms Idealize.ShloMosaic

/-- Column `l` of half `j` of the columns. -/
def place (j : Fin 2) (l : Fin 1024) : Fin 2048 := ⟨1024 * j.val + l.val, by omega⟩

abbrev whole : 128 * 16 = 2048 := rfl
abbrev half : 128 * 8 = 1024 := rfl

theorem part_place (x : Fin 2048 → EReal) (j : Fin 2) (l : Fin 1024) :
    part half (fun k => x (place j k)) l = part whole x (place j l) :=
  funext fun e => congrArg x (Fin.ext (by simp only [place]; omega))

theorem lane_place (j : Fin 2) (l : Fin 1024) : lane (place j l) = lane l :=
  Fin.ext (by simp only [place, lane]; omega)

/-- The rows' half: no group of columns lies across the two. -/
def Rows.block (D : Rows 2048) (j : Fin 2) : Rows 1024 where
  u n l := D.u n (place j l)
  b n l := D.b n (place j l)
  c n l := D.c n (place j l)
  d n l := D.d n (place j l)
  w a l := D.w a (place j l)
  g l := D.g (place j l)

variable (D : Rows 2048) (j : Fin 2) (n : ℕ) (l : Fin 1024)

theorem block_dv : (D.block j).dv half n l = D.dv whole n (place j l) := by
  unfold Rows.dv
  rw [lane_place, ← part_place, ← part_place]
  rfl

theorem block_dconv : (D.block j).dconv half n l = D.dconv whole n (place j l) :=
  congrArg (· * D.b n (place j l)) (block_dv D j n l)

theorem block_dx : (D.block j).dx half n l = D.dx whole n (place j l) := by
  unfold Rows.dx
  rw [block_dconv, block_dconv, block_dconv]
  rfl

theorem block_vhat : (D.block j).vhat half n l = D.vhat whole n (place j l) := by
  unfold Rows.vhat
  rw [← part_place]
  rfl

theorem block_du : (D.block j).du half n l = D.du whole n (place j l) :=
  congrArg (· * D.c n (place j l)) (block_dx D j n l)
theorem block_dc : (D.block j).dc half n l = D.dc whole n (place j l) :=
  congrArg (· * D.u n (place j l)) (block_dx D j n l)
theorem block_db : (D.block j).db half n l = D.db whole n (place j l) :=
  congrArg (· * D.conv n (place j l)) (block_dv D j n l)
theorem block_dw (a : Fin 3) : (D.block j).dw half a n l = D.dw whole a n (place j l) :=
  congrArg (· * D.tap (2 - a.val) n (place j l)) (block_dconv D j n l)
theorem block_dg : (D.block j).dg half n l = D.dg whole n (place j l) :=
  congrArg (D.d n (place j l) * ·) (block_vhat D j n l)

theorem ext_at {W : ℕ} (a : Fin 8192 → Fin W → EReal) (n : ℕ) (r : Fin 8192) (h : n = r.val) (k : Fin W) : ext a n k = a r k := by
  subst h
  exact dif_pos r.isLt

end Cert.Conv

namespace Cert.ScIdeal.Hand

open Cert.ScIdeal Cert.ScIdeal.Gen Cert.Rms Cert.Conv Idealize.ShloMosaic Idealize.ShloMosaic.Tactic
open Idealize.ShloMosaic.TcCoe

variable (m : (ℓ : Loc nD τ sig) → Buf (Elt Ideal) ℓ)

abbrev argP (c : Dev nD) : Vec Ideal S8192x11264 .f32 := m ((c : Thread nD τ).loc main_arg0)
abbrev argD (c : Dev nD) : Vec Ideal S8192x4096 .bf16 := m ((c : Thread nD τ).loc main_arg1)
abbrev argW (c : Dev nD) : Vec Ideal S3x2048 .f32 := m ((c : Thread nD τ).loc main_arg2)
abbrev argG (c : Dev nD) : Vec Ideal S1x2048 .f32 := m ((c : Thread nD τ).loc main_arg3)

/-- The rows of the whole arrays. -/
abbrev rows (c : Dev nD) : Rows 2048 := rowsOf (argP m c) (argD m c) (argW m c) (argG m c)

/-- Rows of the four arrays, read in the two that hold them. -/
theorem rows_u (c : Dev nD) (j : Fin 2) (n : ℕ) (r : Fin 8192) (h : n = r.val) (k : Fin 1024) :
    ((rows m c).block j).u n k = argP m c (ix2 r ⟨5120 + (place j k).val, by omega⟩) :=
  ext_at (fun r k => argP m c (ix2 r ⟨5120 + k.val, by omega⟩)) n r h (place j k)
theorem rows_b (c : Dev nD) (j : Fin 2) (n : ℕ) (r : Fin 8192) (h : n = r.val) (k : Fin 1024) :
    ((rows m c).block j).b n k = argP m c (ix2 r ⟨7168 + (place j k).val, by omega⟩) :=
  ext_at (fun r k => argP m c (ix2 r ⟨7168 + k.val, by omega⟩)) n r h (place j k)
theorem rows_c (c : Dev nD) (j : Fin 2) (n : ℕ) (r : Fin 8192) (h : n = r.val) (k : Fin 1024) :
    ((rows m c).block j).c n k = argP m c (ix2 r ⟨9216 + (place j k).val, by omega⟩) :=
  ext_at (fun r k => argP m c (ix2 r ⟨9216 + k.val, by omega⟩)) n r h (place j k)
theorem rows_d (c : Dev nD) (j : Fin 2) (n : ℕ) (r : Fin 8192) (h : n = r.val) (k : Fin 1024) :
    ((rows m c).block j).d n k = argD m c (ix2 r ⟨2048 + (place j k).val, by omega⟩) :=
  ext_at (fun r k => argD m c (ix2 r ⟨2048 + k.val, by omega⟩)) n r h (place j k)

theorem lt_N (t : Fin cfg0.N) : t.val < 64 := lt_of_lt_of_eq t.isLt N_0

/-- The half of the columns that a grid point works on. -/
def side (t : Fin cfg0.N) : Fin 2 := ⟨t.val / 32, by have := lt_N t; omega⟩

theorem coord1 : ∀ t : Fin cfg0.N, (grid0.coords t 1).val = t.val % 32 := (by decide +kernel : ∀ t : Fin grid0.N, _)

theorem idx0 : ∀ t : Fin cfg0.N, win0_0.index t = ![t.val % 32, t.val / 32 + 5] := (by decide +kernel : ∀ t : Fin grid0.N, _)
theorem idx1 : ∀ t : Fin cfg0.N, win0_1.index t = ![t.val % 32, t.val / 32 + 7] := (by decide +kernel : ∀ t : Fin grid0.N, _)
theorem idx2 : ∀ t : Fin cfg0.N, win0_2.index t = ![t.val % 32, t.val / 32 + 9] := (by decide +kernel : ∀ t : Fin grid0.N, _)
theorem idx3 : ∀ t : Fin cfg0.N, win0_3.index t = ![32 * (t.val % 32) - 1, t.val / 32 + 5] := (by decide +kernel : ∀ t : Fin grid0.N, _)
theorem idx4 : ∀ t : Fin cfg0.N, win0_4.index t = ![32 * (t.val % 32) - 1, t.val / 32 + 9] := (by decide +kernel : ∀ t : Fin grid0.N, _)
theorem idx5 : ∀ t : Fin cfg0.N, win0_5.index t = ![min (32 * (t.val % 32) + 32) 1023, t.val / 32 + 5] := (by decide +kernel : ∀ t : Fin grid0.N, _)
theorem idx6 : ∀ t : Fin cfg0.N, win0_6.index t = ![min (32 * (t.val % 32) + 32) 1023, t.val / 32 + 7] := (by decide +kernel : ∀ t : Fin grid0.N, _)
theorem idx7 : ∀ t : Fin cfg0.N, win0_7.index t = ![min (32 * (t.val % 32) + 32) 1023, t.val / 32 + 9] := (by decide +kernel : ∀ t : Fin grid0.N, _)
theorem idx8 : ∀ t : Fin cfg0.N, win0_8.index t = ![t.val % 32, t.val / 32 + 2] := (by decide +kernel : ∀ t : Fin grid0.N, _)
theorem idx9 : ∀ t : Fin cfg0.N, win0_9.index t = ![min (32 * (t.val % 32) + 32) 1023, t.val / 32 + 2] := (by decide +kernel : ∀ t : Fin grid0.N, _)
theorem idx10 : ∀ t : Fin cfg0.N, win0_10.index t = ![0, t.val / 32] := (by decide +kernel : ∀ t : Fin grid0.N, _)
theorem idx11 : ∀ t : Fin cfg0.N, win0_11.index t = ![0, t.val / 32] := (by decide +kernel : ∀ t : Fin grid0.N, _)
theorem idx12 : ∀ t : Fin cfg0.N, win0_12.index t = ![t.val % 32, t.val / 32] := (by decide +kernel : ∀ t : Fin grid0.N, _)
theorem idx13 : ∀ t : Fin cfg0.N, win0_13.index t = ![t.val % 32, t.val / 32] := (by decide +kernel : ∀ t : Fin grid0.N, _)
theorem idx14 : ∀ t : Fin cfg0.N, win0_14.index t = ![t.val % 32, t.val / 32] := (by decide +kernel : ∀ t : Fin grid0.N, _)
theorem idx15 : ∀ t : Fin cfg0.N, win0_15.index t = ![0, 0, t.val / 32] := (by decide +kernel : ∀ t : Fin grid0.N, _)
theorem idx16 : ∀ t : Fin cfg0.N, win0_16.index t = ![0, t.val / 32] := (by decide +kernel : ∀ t : Fin grid0.N, _)

/-- The rows of the taps' block. -/
abbrev bW0 (c : Dev nD) (t : Fin cfg0.N) : Vec Ideal S1x1024 .f32 :=
  View.ld (iblk m c 10 t) (Rect.unit (s := S3x1024) ![0, 0] ![1, 1024] inb_S3x1024_S1x1024_0_0)
abbrev bW1 (c : Dev nD) (t : Fin cfg0.N) : Vec Ideal S1x1024 .f32 :=
  View.ld (iblk m c 10 t) (Rect.unit (s := S3x1024) ![1, 0] ![1, 1024] inb_S3x1024_S1x1024_1_0)
abbrev bW2 (c : Dev nD) (t : Fin cfg0.N) : Vec Ideal S1x1024 .f32 :=
  View.ld (iblk m c 10 t) (Rect.unit (s := S3x1024) ![2, 0] ![1, 1024] inb_S3x1024_S1x1024_2_0)

/-- A grid point reads its rows, and those beside them. -/
theorem fits (c : Dev nD) (t : Fin cfg0.N) :
    Fits ((rows m c).block (side t)) (grid0.coords t) (iblk m c 0 t) (iblk m c 1 t) (iblk m c 2 t) (iblk m c 3 t) (iblk m c 4 t)
      (iblk m c 5 t) (iblk m c 6 t) (iblk m c 7 t) (iblk m c 8 t) (iblk m c 9 t) := by
  have hN := lt_N t
  have hc := coord1 t
  constructor
  · omega
  · intro r k
    rw [hc]
    refine Eq.trans ?_ (rows_u m c _ _ ⟨256 * (t.val % 32) + r.val, by omega⟩ rfl _).symm
    blk_ext [iblk, V, idx0 t, place, side]
  · intro r k
    rw [hc]
    refine Eq.trans ?_ (rows_b m c _ _ ⟨256 * (t.val % 32) + r.val, by omega⟩ rfl _).symm
    blk_ext [iblk, V, idx1 t, place, side]
  · intro r k
    rw [hc]
    refine Eq.trans ?_ (rows_c m c _ _ ⟨256 * (t.val % 32) + r.val, by omega⟩ rfl _).symm
    blk_ext [iblk, V, idx2 t, place, side]
  · intro r k
    rw [hc]
    refine Eq.trans ?_ (rows_d m c _ _ ⟨256 * (t.val % 32) + r.val, by omega⟩ rfl _).symm
    blk_ext [iblk, V, idx8 t, place, side]
  · intro h r k
    rw [hc]
    refine Eq.trans ?_ (rows_u m c _ _ ⟨256 * (t.val % 32) + r.val - 8, by omega⟩ rfl _).symm
    blk_ext [iblk, V, idx3 t, place, side]
  · intro h r k
    rw [hc]
    refine Eq.trans ?_ (rows_c m c _ _ ⟨256 * (t.val % 32) + r.val - 8, by omega⟩ rfl _).symm
    blk_ext [iblk, V, idx4 t, place, side]
  · intro h r k
    rw [hc]
    refine Eq.trans ?_ (rows_u m c _ _ ⟨256 * (t.val % 32) + 256 + r.val, by omega⟩ rfl _).symm
    blk_ext [iblk, V, idx5 t, place, side]
  · intro h r k
    rw [hc]
    refine Eq.trans ?_ (rows_b m c _ _ ⟨256 * (t.val % 32) + 256 + r.val, by omega⟩ rfl _).symm
    blk_ext [iblk, V, idx6 t, place, side]
  · intro h r k
    rw [hc]
    refine Eq.trans ?_ (rows_c m c _ _ ⟨256 * (t.val % 32) + 256 + r.val, by omega⟩ rfl _).symm
    blk_ext [iblk, V, idx7 t, place, side]
  · intro h r k
    rw [hc]
    refine Eq.trans ?_ (rows_d m c _ _ ⟨256 * (t.val % 32) + 256 + r.val, by omega⟩ rfl _).symm
    blk_ext [iblk, V, idx9 t, place, side]
  · intro n k h
    exact dif_neg (by omega)

theorem weights (c : Dev nD) (t : Fin cfg0.N) :
    Weights ((rows m c).block (side t)) (bW0 m c t) (bW1 m c t) (bW2 m c t) (iblk m c 11 t) := by
  constructor
  · intro k
    refine (View.ld_unit_apply_of _ _ _ _ _ (ix2 0 k) (by intro a; fin_cases a <;> simp)).trans ?_
    change _ = argW m c (ix2 0 (place (side t) k))
    blk_ext [iblk, V, idx10 t, place, side]
  · intro k
    refine (View.ld_unit_apply_of _ _ _ _ _ (ix2 1 k) (by intro a; fin_cases a <;> simp)).trans ?_
    change _ = argW m c (ix2 1 (place (side t) k))
    blk_ext [iblk, V, idx10 t, place, side]
  · intro k
    refine (View.ld_unit_apply_of _ _ _ _ _ (ix2 2 k) (by intro a; fin_cases a <;> simp)).trans ?_
    change _ = argW m c (ix2 2 (place (side t) k))
    blk_ext [iblk, V, idx10 t, place, side]
  · intro k
    change _ = argG m c (ix2 0 (place (side t) k))
    blk_ext [iblk, V, idx11 t, place, side]

end Cert.ScIdeal.Hand

end
-- ==== Proof.ScRef.lean ====
/- The short convolution's gradient by the chain rule, as the reference computes it, row by row. -/
module

public import proofs.«01_k».proof.Defs
public import proofs.«01_k».proof.Proof.Gen.ScRefIdeal.Run
public import proofs.«01_k».proof.Proof.Conv
public import Idealize.ShloMosaic.Lib.Pipeline.ValueKit

@[expose] public section

set_option maxRecDepth 16384

noncomputable section

namespace Cert.ScRefIdeal.Hand

open Cert.ScRefIdeal Cert.ScRefIdeal.Gen Cert.ScRefIdeal.Value Cert.Rms Cert.Conv Idealize.ShloMosaic Idealize.SL.Sem

variable (V : Valuation τ sig (Elt Ideal))

abbrev D : Rows 2048 :=
  rowsOf (V (Proc.devRef .tc main_arg0)) (V (Proc.devRef .tc main_arg1)) (V (Proc.devRef .tc main_arg2)) (V (Proc.devRef .tc main_arg3))

abbrev whole : 128 * 16 = 2048 := rfl

variable (r : Fin 8192) (k : Fin 2048)

theorem ext_at (a : Fin 8192 → Fin 2048 → EReal) (x : EReal) (h : x = a r k) : ext a r.val k = x := (dif_pos r.isLt).trans h.symm

theorem v0_at : res_main_v0 V (ix2 r k) = (D V).u r.val k := by
  unfold res_main_v0
  pointwise
  exact (ext_at r k (fun r k => V (Proc.devRef .tc main_arg0) (ix2 r ⟨5120 + k.val, by omega⟩)) _ rfl).symm

theorem v1_at : res_main_v1 V (ix2 r k) = (D V).b r.val k := by
  unfold res_main_v1
  pointwise
  exact (ext_at r k (fun r k => V (Proc.devRef .tc main_arg0) (ix2 r ⟨7168 + k.val, by omega⟩)) _ rfl).symm

theorem v2_at : res_main_v2 V (ix2 r k) = (D V).c r.val k := by
  unfold res_main_v2
  pointwise
  exact (ext_at r k (fun r k => V (Proc.devRef .tc main_arg0) (ix2 r ⟨9216 + k.val, by omega⟩)) _ rfl).symm

theorem v52_at : res_main_v52 V (ix2 r k) = (D V).d r.val k := by
  unfold res_main_v52
  pointwise
  exact (ext_at r k (fun r k => V (Proc.devRef .tc main_arg1) (ix2 r ⟨2048 + k.val, by omega⟩)) _ rfl).symm

theorem v4_at : res_main_v4 V (ix2 r k) = (D V).x r.val k :=
  congrArg₂ (· * ·) (v2_at V r k) (v0_at V r k)

theorem v9_at : res_main_v9 V (ix2 r k) = (D V).tap 2 r.val k := by
  have e := fun r => v4_at V r k
  unfold res_main_v9
  generalize res_main_v4 V = T at e ⊢
  pointwise
  unfold Rows.tap
  by_cases h : r.val < 2
  · rw [dif_pos h, if_neg (by omega)]
  · rw [dif_neg h]
    exact (e _).trans (if_pos (by omega)).symm

theorem v20_at : res_main_v20 V (ix2 r k) = (D V).tap 1 r.val k := by
  have e := fun r => v4_at V r k
  unfold res_main_v20
  generalize res_main_v4 V = T at e ⊢
  pointwise
  unfold Rows.tap
  by_cases h : r.val < 1
  · rw [dif_pos h, if_neg (by omega)]
  · rw [dif_neg h]
    exact (e _).trans (if_pos (by omega)).symm

theorem v11_at : res_main_v11 V (ix2 0 k) = (D V).w 0 k := by
  unfold res_main_v11
  pointwise
  rfl

theorem v22_at : res_main_v22 V (ix2 0 k) = (D V).w 1 k := by
  unfold res_main_v22
  pointwise
  rfl

theorem v28_at : res_main_v28 V (ix2 0 k) = (D V).w 2 k := by
  unfold res_main_v28
  pointwise
  rfl

theorem v48_at : res_main_v48 V (ix2 0 k) = (D V).g k := by
  unfold res_main_v48
  pointwise
  rfl

theorem v31_at : res_main_v31 V (ix2 r k) = (D V).conv r.val k := by
  have e9 := v9_at V r k
  have e20 := v20_at V r k
  have e4 := v4_at V r k
  have e11 := v11_at V k
  have e22 := v22_at V k
  have e28 := v28_at V k
  unfold res_main_v31
  generalize res_main_v9 V = T9 at e9 ⊢
  generalize res_main_v20 V = T20 at e20 ⊢
  generalize res_main_v4 V = T4 at e4 ⊢
  generalize res_main_v11 V = T11 at e11 ⊢
  generalize res_main_v22 V = T22 at e22 ⊢
  generalize res_main_v28 V = T28 at e28 ⊢
  pointwise
  rw [e4, e9, e20, e11, e22, e28]
  rfl

theorem vv_at : mulf (F := Ideal) (s := S8192x2048) (φ := .f32) (res_main_v1 V) (res_main_v31 V) (ix2 r k) = (D V).v r.val k :=
  congrArg₂ (· * ·) (v1_at V r k) (v31_at V r k)

theorem group_at (x : FVec Ideal S8192x2048 .f32) (q : Fin 16) (l : Fin 128) :
    shapeCast S8192x16x128 x shapeCasts_S8192x2048_S8192x16x128 (ix3 r q l) = x (ix2 r (col whole q l)) := by
  refine shapeCast_apply x _ _ _ ?_
  rw [Shape.rowMajor_val_two, Shape.rowMajor_val_three]
  change r.val * 2048 + (128 * q.val + l.val) = (r.val * 16 + q.val) * 128 + l.val
  omega

theorem flat_at (x : FVec Ideal S8192x16x128 .f32) (q : Fin 16) (l : Fin 128) :
    shapeCast S8192x2048 x shapeCasts_S8192x16x128_S8192x2048 (ix2 r (col whole q l)) = x (ix3 r q l) := by
  refine shapeCast_apply x _ _ _ ?_
  rw [Shape.rowMajor_val_two, Shape.rowMajor_val_three]
  change (r.val * 16 + q.val) * 128 + l.val = r.val * 2048 + (128 * q.val + l.val)
  omega

variable (q : Fin 16) (l : Fin 128)

/-- The normalized groups and their cotangents. -/
abbrev X (n : ℕ) (l : Fin 128) : EReal := (D V).v n (col whole q l)
abbrev Y (n : ℕ) (l : Fin 128) : EReal := (D V).s n (col whole q l)

theorem v33_at : res_main_v33 V (ix3 r q l) = X V q r.val l :=
  (group_at r _ q l).trans (vv_at V r _)

theorem v59_at : res_main_v59 V (ix3 r q l) = Y V q r.val l := by
  refine (group_at r _ q l).trans (congrArg₂ (· * ·) (v52_at V r _) ?_)
  have e := v48_at V (col whole q l)
  generalize res_main_v48 V = T at e ⊢
  pointwise
  exact e

theorem v40_at : res_main_v40 V (ix3 r q 0) = meanSq w128 (X V q r.val) := by
  have e := fun l => v33_at V r q l
  unfold res_main_v40
  generalize res_main_v33 V = T at e ⊢
  pointwise
  simp only [e]
  rfl

theorem v41_at : res_main_v41 V (ix3 r q 0) = rstd w128 (X V q r.val) :=
  congrArg Ideal.rsqrt (v40_at V r q)

theorem v69_at : res_main_v69 V (ix3 r q l) = slope w128 (X V q r.val) (Y V q r.val) := by
  have e1 := fun l => v33_at V r q l
  have e2 := fun l => v59_at V r q l
  have e3 := v40_at V r q
  have e4 := v41_at V r q
  unfold res_main_v69
  generalize res_main_v33 V = T33 at e1 ⊢
  generalize res_main_v59 V = T59 at e2 ⊢
  generalize res_main_v40 V = T40 at e3 ⊢
  generalize res_main_v41 V = T41 at e4 ⊢
  pointwise
  rw [Fin.sum_univ_one]
  simp only [e1, e2, e3, e4]
  rfl

theorem v74_at : res_main_v74 V (ix2 r k) = (D V).dv whole r.val k := by
  obtain ⟨q, l, rfl⟩ := col_split whole k
  unfold Rows.dv
  rw [part_col, part_col, lane_col]
  refine (flat_at r _ q l).trans ?_
  have e1 := v33_at V r q l
  have e2 := v59_at V r q l
  have e4 := v41_at V r q
  have e5 := v69_at V r q l
  generalize res_main_v33 V = T33 at e1 ⊢
  generalize res_main_v59 V = T59 at e2 ⊢
  generalize res_main_v69 V = T69 at e5 ⊢
  generalize res_main_v41 V = T41 at e4 ⊢
  pointwise
  rw [e1, e2, e4, e5]
  exact chain_eq w128 (X V q r.val) (Y V q r.val) l

theorem v47_at : res_main_v47 V (ix2 r k) = (D V).vhat whole r.val k := by
  obtain ⟨q, l, rfl⟩ := col_split whole k
  unfold Rows.vhat
  rw [part_col]
  refine (flat_at r _ q l).trans ?_
  have e1 := v33_at V r q l
  have e4 := v41_at V r q
  generalize res_main_v33 V = T33 at e1 ⊢
  generalize res_main_v41 V = T41 at e4 ⊢
  pointwise
  rw [e1, e4]

theorem v75_at : res_main_v75 V (ix2 r k) = (D V).dconv whole r.val k :=
  (congrArg₂ (fun a b : EReal => a * b) (v1_at V r k) (v74_at V r k)).trans (mul_comm (_ : EReal) _)

/-- Past the last row the convolution has no gradient. -/
theorem dconv_past (n : ℕ) (h : 8192 ≤ n) : (D V).dconv whole n k = 0 :=
  (congrArg (_ * ·) (dif_neg (by omega))).trans (mul_zero _)

theorem v107_at : res_main_v107 V (ix2 r k) = (D V).dx whole r.val k := by
  have e := fun r => v75_at V r k
  have e11 := v11_at V k
  have e22 := v22_at V k
  have e28 := v28_at V k
  unfold res_main_v107 res_main_v86 res_main_v99
  generalize res_main_v75 V = T at e ⊢
  generalize res_main_v11 V = T11 at e11 ⊢
  generalize res_main_v22 V = T22 at e22 ⊢
  generalize res_main_v28 V = T28 at e28 ⊢
  pointwise
  have p1 : (if h : r.val < 8191 then @HMul.hMul EReal EReal EReal _ (T22 (ix2 0 k)) (T (ix2 ⟨1 + r.val, by omega⟩ k)) else (0 : EReal))
      = (D V).w 1 k * (D V).dconv whole (r.val + 1) k := by
    by_cases h : r.val < 8191
    · rw [dif_pos h, e, e22]; exact congrArg (fun n => (D V).w 1 k * (D V).dconv whole n k) (Nat.add_comm _ _)
    · rw [dif_neg h, dconv_past V k _ (by omega), mul_zero]
  have p2 : (if h : r.val < 8190 then @HMul.hMul EReal EReal EReal _ (T11 (ix2 0 k)) (T (ix2 ⟨2 + r.val, by omega⟩ k)) else (0 : EReal))
      = (D V).w 0 k * (D V).dconv whole (r.val + 2) k := by
    by_cases h : r.val < 8190
    · rw [dif_pos h, e, e11]; exact congrArg (fun n => (D V).w 0 k * (D V).dconv whole n k) (Nat.add_comm _ _)
    · rw [dif_neg h, dconv_past V k _ (by omega), mul_zero]
  exact congrArg₂ (fun a b : EReal => a + b) (congrArg₂ (fun a b : EReal => a + b) (congrArg₂ (fun a b : EReal => a * b) e28 (e r)) p1) p2

/-- The reference's results. -/
theorem du_eq : truncf (F := Ideal) (s := S8192x2048) .bf16 (mulf (φ := .f32) (res_main_v2 V) (res_main_v107 V)) bitsLt_bf16_f32 = wholeDu (D V) := by
  funext i
  obtain ⟨r, k, rfl⟩ : ∃ r k, i = ix2 r k := ⟨i 0, i 1, eq_ix2 i⟩
  exact (congrArg₂ (fun a b : EReal => a * b) (v2_at V r k) (v107_at V r k)).trans (mul_comm (_ : EReal) _)

theorem db_eq : truncf (F := Ideal) (s := S8192x2048) .bf16 (mulf (φ := .f32) (res_main_v74 V) (res_main_v31 V)) bitsLt_bf16_f32 = wholeDb (D V) := by
  funext i
  obtain ⟨r, k, rfl⟩ : ∃ r k, i = ix2 r k := ⟨i 0, i 1, eq_ix2 i⟩
  exact congrArg₂ (fun a b : EReal => a * b) (v74_at V r k) (v31_at V r k)

theorem dc_eq : truncf (F := Ideal) (s := S8192x2048) .bf16 (mulf (φ := .f32) (res_main_v107 V) (res_main_v0 V)) bitsLt_bf16_f32 = wholeDc (D V) := by
  funext i
  obtain ⟨r, k, rfl⟩ : ∃ r k, i = ix2 r k := ⟨i 0, i 1, eq_ix2 i⟩
  exact congrArg₂ (fun a b : EReal => a * b) (v107_at V r k) (v0_at V r k)

/-- The sum over the rows. -/
def total (x : FVec Ideal S8192x2048 .f32) : FVec Ideal S2048 .f32 :=
  Host.reduceAdd (shapeCast _ (Host.reduceAdd x (constant S_ .f32 0x00000000#32) reducesTo_S8192x2048_S2048_d0 h_S_) shapeCasts_S2048_S1x2048) (constant S_ .f32 0x00000000#32) reducesTo_S1x2048_S2048_d0 h_S_

theorem total_at (x : FVec Ideal S8192x2048 .f32) : total x (ix1 k) = ∑ r, x (ix2 r k) := by
  pointwise [total]
  rw [Fin.sum_univ_one]

/-- A row of sums, as one of three rows, the others zero. -/
def dwOf (a b c : FVec Ideal S2048 .f32) : FVec Ideal S3x1x2048 .f32 :=
  shapeCast _ (addf (addf (pad S3x2048 ![2, 0] ![0, 0] ![0, 0] (broadcastInDim S1x2048 ![1] bcast_S2048_S1x2048_1 a) (constant S_ .f32 0x00000000#32) pads_S1x2048_S3x2048_200_000 h_S_) (pad S3x2048 ![1, 0] ![1, 0] ![0, 0] (broadcastInDim S1x2048 ![1] bcast_S2048_S1x2048_1 b) (constant S_ .f32 0x00000000#32) pads_S1x2048_S3x2048_110_000 h_S_)) (pad S3x2048 ![0, 0] ![2, 0] ![0, 0] (broadcastInDim S1x2048 ![1] bcast_S2048_S1x2048_1 c) (constant S_ .f32 0x00000000#32) pads_S1x2048_S3x2048_020_000 h_S_)) shapeCasts_S3x2048_S3x1x2048

theorem dwOf_at (a b c : FVec Ideal S2048 .f32) (t : Fin 3) : dwOf a b c (ix3 t 0 k) = ![c (ix1 k), b (ix1 k), a (ix1 k)] t := by
  match t with
  | 0 | 1 | 2 => pointwise [dwOf]

theorem dg_eq : shapeCast S1x2048 (total (mulf (φ := .f32) (res_main_v47 V) (res_main_v52 V))) shapeCasts_S2048_S1x2048 = wholeDg (D V) := by
  funext i
  obtain ⟨u, k, rfl⟩ : ∃ u k, i = ix2 u k := ⟨i 0, i 1, eq_ix2 i⟩
  obtain rfl : u = 0 := Subsingleton.elim u 0
  have e := total_at k (mulf (φ := .f32) (res_main_v47 V) (res_main_v52 V))
  generalize total (mulf (φ := .f32) (res_main_v47 V) (res_main_v52 V)) = T at e ⊢
  pointwise
  rw [e]
  exact Finset.sum_congr rfl fun r _ =>
    (congrArg₂ (fun a b : EReal => a * b) (v47_at V r k) (v52_at V r k)).trans (mul_comm (_ : EReal) _)

theorem dw_eq : dwOf (total (mulf (φ := .f32) (res_main_v75 V) (res_main_v4 V))) (total (mulf (φ := .f32) (res_main_v75 V) (res_main_v20 V)))
    (total (mulf (φ := .f32) (res_main_v75 V) (res_main_v9 V))) = wholeDw (D V) := by
  funext i
  obtain ⟨t, u, k, rfl⟩ : ∃ t u k, i = ix3 t u k := ⟨i 0, i 1, i 2, eq_ix3 i⟩
  obtain rfl : u = 0 := Subsingleton.elim u 0
  rw [dwOf_at, total_at, total_at, total_at]
  have e (a : Fin 3) (x y : FVec Ideal S8192x2048 .f32) (hx : ∀ r : Fin 8192, x (ix2 r k) = (D V).dconv whole r.val k)
      (hy : ∀ r : Fin 8192, y (ix2 r k) = (D V).tap (2 - a.val) r.val k) : ∑ r, mulf x y (ix2 r k) = wholeDw (D V) (ix3 a 0 k) :=
    Finset.sum_congr rfl fun r _ => congrArg₂ (fun a b : EReal => a * b) (hx r) (hy r)
  match t with
  | 0 => exact e 0 _ _ (fun r => v75_at V r k) (fun r => v9_at V r k)
  | 1 => exact e 1 _ _ (fun r => v75_at V r k) (fun r => v20_at V r k)
  | 2 => exact e 2 _ _ (fun r => v75_at V r k) (fun r => v4_at V r k)

end Cert.ScRefIdeal.Hand

end
-- ==== Proof.Sc.lean ====
/- The gradient of the short convolution: the kernel's blocks put together, and its running sums of the taps' and the
   scale's gradients, are the whole gradient, and so is the reference. -/
module

public import proofs.«01_k».proof.Defs
public import proofs.«01_k».proof.Proof.ScFit
public import proofs.«01_k».proof.Proof.ScRef
public import Idealize.ShloMosaic.Lib.Pipeline.RowLoads

@[expose] public section

set_option maxRecDepth 16384

noncomputable section

namespace Cert.ScIdeal.Hand

open Cert.ScIdeal Cert.ScIdeal.Gen Cert.Rms Cert.Conv Idealize.ShloMosaic Idealize.ShloMosaic.Tactic
open Idealize.ShloMosaic.TcCoe

variable (m : (ℓ : Loc nD τ sig) → Buf (Elt Ideal) ℓ)

/-- What a grid point computes from its blocks. -/
abbrev sDu (c : Dev nD) (t : Fin cfg0.N) : FVec Ideal S256x1024 .bf16 :=
  pDu (grid0.coords t) (iblk m c 0 t) (iblk m c 1 t) (iblk m c 2 t) (iblk m c 3 t) (iblk m c 4 t) (iblk m c 5 t) (iblk m c 6 t)
    (iblk m c 7 t) (iblk m c 8 t) (iblk m c 9 t) (bW0 m c t) (bW1 m c t) (bW2 m c t) (iblk m c 11 t)
abbrev sDb (c : Dev nD) (t : Fin cfg0.N) : FVec Ideal S256x1024 .bf16 :=
  pDb (grid0.coords t) (iblk m c 0 t) (iblk m c 1 t) (iblk m c 2 t) (iblk m c 3 t) (iblk m c 4 t) (iblk m c 5 t) (iblk m c 6 t)
    (iblk m c 7 t) (iblk m c 8 t) (iblk m c 9 t) (bW0 m c t) (bW1 m c t) (bW2 m c t) (iblk m c 11 t)
abbrev sDc (c : Dev nD) (t : Fin cfg0.N) : FVec Ideal S256x1024 .bf16 :=
  pDc (grid0.coords t) (iblk m c 0 t) (iblk m c 1 t) (iblk m c 2 t) (iblk m c 3 t) (iblk m c 4 t) (iblk m c 5 t) (iblk m c 6 t)
    (iblk m c 7 t) (iblk m c 8 t) (iblk m c 9 t) (bW0 m c t) (bW1 m c t) (bW2 m c t) (iblk m c 11 t)
abbrev sDg (c : Dev nD) (t : Fin cfg0.N) : FVec Ideal S1x1024 .f32 :=
  pDg (grid0.coords t) (iblk m c 0 t) (iblk m c 1 t) (iblk m c 2 t) (iblk m c 3 t) (iblk m c 4 t) (iblk m c 5 t) (iblk m c 6 t)
    (iblk m c 7 t) (iblk m c 8 t) (iblk m c 9 t) (bW0 m c t) (bW1 m c t) (bW2 m c t)

/-- The rows that tap `a` multiplies: two rows, one row and no row before. -/
def moved (c : Dev nD) (t : Fin cfg0.N) : Fin 3 → FVec Ideal S272x1024 .f32
  | 0 => k0_pay16 (grid0.coords t) (iblk m c 0 t) (iblk m c 2 t) (iblk m c 4 t) (iblk m c 3 t) (iblk m c 7 t) (iblk m c 5 t)
  | 1 => k0_pay17 (grid0.coords t) (iblk m c 0 t) (iblk m c 2 t) (iblk m c 4 t) (iblk m c 3 t) (iblk m c 7 t) (iblk m c 5 t)
  | 2 => k0_pay15 (grid0.coords t) (iblk m c 0 t) (iblk m c 2 t) (iblk m c 4 t) (iblk m c 3 t) (iblk m c 7 t) (iblk m c 5 t)
abbrev sDw (c : Dev nD) (t : Fin cfg0.N) (a : Fin 3) : FVec Ideal S1x1024 .f32 :=
  pDw (moved m c t a) (grid0.coords t) (iblk m c 0 t) (iblk m c 1 t) (iblk m c 2 t) (iblk m c 3 t) (iblk m c 4 t) (iblk m c 5 t) (iblk m c 6 t)
    (iblk m c 7 t) (iblk m c 8 t) (iblk m c 9 t) (bW0 m c t) (bW1 m c t) (bW2 m c t) (iblk m c 11 t)

theorem out12 (c : Dev nD) (t : Fin cfg0.N) : (outsAt0 m c t.val t.isLt).1 = sDu m c t := by
  by_cases h0 : t.val % 32 = 0
  · rw [outsAt0_A m c t h0 (by omega)]
    dsimp only
    frame_out
    rfl
  · rw [outsAt0_B m c t h0 (by omega)]
    dsimp only
    frame_out
    rfl

theorem out13 (c : Dev nD) (t : Fin cfg0.N) : (outsAt0 m c t.val t.isLt).2.1 = sDb m c t := by
  by_cases h0 : t.val % 32 = 0
  · rw [outsAt0_A m c t h0 (by omega)]
    dsimp only
    frame_out
    rfl
  · rw [outsAt0_B m c t h0 (by omega)]
    dsimp only
    frame_out
    rfl

theorem out14 (c : Dev nD) (t : Fin cfg0.N) : (outsAt0 m c t.val t.isLt).2.2.1 = sDc m c t := by
  by_cases h0 : t.val % 32 = 0
  · rw [outsAt0_A m c t h0 (by omega)]
    dsimp only
    frame_out
    rfl
  · rw [outsAt0_B m c t h0 (by omega)]
    dsimp only
    frame_out
    rfl

theorem out16_A (c : Dev nD) (t : Fin cfg0.N) (h0 : t.val % 32 = 0) : (outsAt0 m c t.val t.isLt).2.2.2.2 = sDg m c t := by
  rw [outsAt0_A m c t h0 (by omega)]
  dsimp only
  frame_out
  rfl

theorem out16_B (c : Dev nD) (t : Fin cfg0.N) (h0 : ¬t.val % 32 = 0) : (outsAt0 m c t.val t.isLt).2.2.2.2
    = addf (outsAt0 m c (t.val - 1) (Nat.lt_of_le_of_lt (Nat.sub_le _ _) t.isLt)).2.2.2.2 (sDg m c t) := by
  rw [outsAt0_B m c t h0 (by omega)]
  dsimp only
  frame_out
  generalize (outsAt0 m c (t.val - 1) _).2.2.2.2 = X
  unfold k0_pay14
  dsimp only
  rw [shapeCast_self]
  rfl

/-- Three rows stored one after the other, and row `a` of three. -/
abbrev three (P : Fin 3 → Vec Ideal S1x1x1024 .f32) : Vec Ideal S3x1x1024 .f32 :=
  View.canon [⟨Rect.unit (s := S3x1x1024) ![2, 0, 0] S1x1x1024.size inb_S3x1x1024_S1x1x1024_2_0_0, P 2⟩,
    ⟨Rect.unit (s := S3x1x1024) ![1, 0, 0] S1x1x1024.size inb_S3x1x1024_S1x1x1024_1_0_0, P 1⟩,
    ⟨Rect.unit (s := S3x1x1024) ![0, 0, 0] S1x1x1024.size inb_S3x1x1024_S1x1x1024_0_0_0, P 0⟩]
def rowOf3 (X : Vec Ideal S3x1x1024 .f32) : Fin 3 → Vec Ideal S1x1x1024 .f32
  | 0 => View.ld X (Rect.unit (s := S3x1x1024) ![0, 0, 0] S1x1x1024.size inb_S3x1x1024_S1x1x1024_0_0_0)
  | 1 => View.ld X (Rect.unit (s := S3x1x1024) ![1, 0, 0] S1x1x1024.size inb_S3x1x1024_S1x1x1024_1_0_0)
  | 2 => View.ld X (Rect.unit (s := S3x1x1024) ![2, 0, 0] S1x1x1024.size inb_S3x1x1024_S1x1x1024_2_0_0)

theorem three_at (P : Fin 3 → Vec Ideal S1x1x1024 .f32) (a : Fin 3) (k : Fin 1024) : three P (ix3 a 0 k) = P a (ix3 0 0 k) := by
  have e2 := fun a h => View.canon_storedRow1_of_ne (K := 3) a 2 h k inb_S3x1x1024_S1x1x1024_2_0_0 (P 2)
    [⟨Rect.unit (s := S3x1x1024) ![1, 0, 0] S1x1x1024.size inb_S3x1x1024_S1x1x1024_1_0_0, P 1⟩,
      ⟨Rect.unit (s := S3x1x1024) ![0, 0, 0] S1x1x1024.size inb_S3x1x1024_S1x1x1024_0_0_0, P 0⟩]
  match a with
  | 2 => exact View.canon_storedRow1 (K := 3) 2 k inb_S3x1x1024_S1x1x1024_2_0_0 (P 2) _
  | 1 => exact (e2 1 (by decide)).trans (View.canon_storedRow1 (K := 3) 1 k inb_S3x1x1024_S1x1x1024_1_0_0 (P 1) _)
  | 0 => exact (e2 0 (by decide)).trans ((View.canon_storedRow1_of_ne (K := 3) 0 1 (by decide) k inb_S3x1x1024_S1x1x1024_1_0_0 (P 1) _).trans
      (View.canon_storedRow1 (K := 3) 0 k inb_S3x1x1024_S1x1x1024_0_0_0 (P 0) _))

theorem rowOf3_at (X : Vec Ideal S3x1x1024 .f32) (a : Fin 3) (k : Fin 1024) : rowOf3 X a (ix3 0 0 k) = X (ix3 a 0 k) := by
  match a with
  | 0 | 1 | 2 => exact View.ld_unit_apply_of _ _ _ _ _ _ (by intro x; fin_cases x <;> simp)

theorem out15_A (c : Dev nD) (t : Fin cfg0.N) (h0 : t.val % 32 = 0) :
    (outsAt0 m c t.val t.isLt).2.2.2.1 = three fun a => shapeCast S1x1x1024 (sDw m c t a) shapeCasts_S1x1024_S1x1x1024 := by
  rw [outsAt0_A m c t h0 (by omega)]
  dsimp only
  frame_out
  rfl

theorem out15_B (c : Dev nD) (t : Fin cfg0.N) (h0 : ¬t.val % 32 = 0) : (outsAt0 m c t.val t.isLt).2.2.2.1
    = three fun a => k0_pay13 (moved m c t a) (tDconv (grid0.coords t) (iblk m c 0 t) (iblk m c 1 t) (iblk m c 2 t) (iblk m c 3 t)
        (iblk m c 4 t) (iblk m c 5 t) (iblk m c 6 t) (iblk m c 7 t) (iblk m c 8 t) (iblk m c 9 t) (bW0 m c t) (bW1 m c t) (bW2 m c t) (iblk m c 11 t))
      (rowOf3 (outsAt0 m c (t.val - 1) (Nat.lt_of_le_of_lt (Nat.sub_le _ _) t.isLt)).2.2.2.1 a) := by
  rw [outsAt0_B m c t h0 (by omega)]
  dsimp only
  frame_out
  rfl

theorem dw_A (c : Dev nD) (t : Fin cfg0.N) (h0 : t.val % 32 = 0) (a : Fin 3) (k : Fin 1024) :
    (outsAt0 m c t.val t.isLt).2.2.2.1 (ix3 a 0 k) = sDw m c t a (ix2 0 k) := by
  rw [out15_A m c t h0, three_at]
  generalize sDw m c t a = X
  pointwise

theorem dw_B (c : Dev nD) (t : Fin cfg0.N) (h0 : ¬t.val % 32 = 0) (a : Fin 3) (k : Fin 1024) :
    (outsAt0 m c t.val t.isLt).2.2.2.1 (ix3 a 0 k)
      = (outsAt0 m c (t.val - 1) (Nat.lt_of_le_of_lt (Nat.sub_le _ _) t.isLt)).2.2.2.1 (ix3 a 0 k) + sDw m c t a (ix2 0 k) := by
  rw [out15_B m c t h0, three_at,
    ← rowOf3_at (outsAt0 m c (t.val - 1) (Nat.lt_of_le_of_lt (Nat.sub_le _ _) t.isLt)).2.2.2.1 a k]
  generalize rowOf3 _ a = X
  unfold sDw pDw k0_pay13
  generalize k0_pay6 (F := Ideal) (moved m c t a) _ = Y
  pointwise

/-- A grid point's share of the sums over the rows. -/
theorem sDw_at (c : Dev nD) (t : Fin cfg0.N) (a : Fin 3) (k : Fin 1024) :
    sDw m c t a (ix2 0 k) = ∑ r : Fin 256, (rows m c).dw whole a (256 * (t.val % 32) + r.val) (place (side t) k) := by
  have hf := fits m c t
  refine (pDw_at hf (weights m c t) (moved m c t a) a (fun p k h8 hp => ?_) k).trans (Finset.sum_congr rfl fun r _ => ?_)
  · match a with
    | 0 => exact tap2_at hf p k h8 hp
    | 1 => exact tap1_at hf p k h8 hp
    | 2 => exact tap0_at hf p k h8 hp
  · rw [coord1]
    exact block_dw _ _ _ _ a

theorem sDg_at (c : Dev nD) (t : Fin cfg0.N) (k : Fin 1024) :
    sDg m c t (ix2 0 k) = ∑ r : Fin 256, (rows m c).dg whole (256 * (t.val % 32) + r.val) (place (side t) k) := by
  refine (pDg_at (fits m c t) (weights m c t) k).trans (Finset.sum_congr rfl fun r _ => ?_)
  rw [coord1]
  exact block_dg _ _ _ _

/-- A sum over the rows, block by block. -/
theorem sum_rows (f : ℕ → EReal) : ∑ i ∈ Finset.range 32, ∑ r : Fin 256, f (256 * i + r.val) = ∑ r : Fin 8192, f r.val := by
  rw [Finset.sum_range, Fin.sum_univ_tiles 32 256 (by norm_num) fun r : Fin 8192 => f r.val]
  refine Finset.sum_congr rfl fun i _ => Finset.sum_congr rfl fun r _ => ?_
  rw [Nat.mul_comm]

/-- The columns of half `q`, for any number `q`. -/
def halfOf (q : ℕ) : Fin 2 := ⟨q % 2, Nat.mod_lt _ (by decide)⟩
theorem halfOf_side (t : Fin cfg0.N) : halfOf (t.val / 32) = side t :=
  Fin.ext (Nat.mod_eq_of_lt (side t).isLt)

/-- What is added up over the blocks of a half of the columns is the sum over all rows. -/
theorem acc (f : (n : ℕ) → n < cfg0.N → EReal) (g : ℕ → Fin 2048 → EReal) (k : Fin 1024)
    (h0 : ∀ t : Fin cfg0.N, t.val % 32 = 0 → f t.val t.isLt = ∑ r : Fin 256, g (256 * (t.val % 32) + r.val) (place (side t) k))
    (hs : ∀ t : Fin cfg0.N, ¬t.val % 32 = 0 → f t.val t.isLt = f (t.val - 1) (Nat.lt_of_le_of_lt (Nat.sub_le _ _) t.isLt)
      + ∑ r : Fin 256, g (256 * (t.val % 32) + r.val) (place (side t) k))
    (t : Fin cfg0.N) (ht : t.val % 32 = 31) : f t.val t.isLt = ∑ r : Fin 8192, g r.val (place (side t) k) := by
  have h := Pipeline.eq_sum_of_reset_step_divmod f 32 0 (fun q i => ∑ r : Fin 256, g (256 * i + r.val) (place (halfOf q) k))
    (fun t h => by rw [zero_add, halfOf_side]; exact h0 t h) (fun t h => by rw [halfOf_side]; exact hs t h) t
  rw [zero_add, ht, halfOf_side] at h
  exact h.trans (sum_rows fun n => g n (place (side t) k))

/-- A block's rows, in the whole array. -/
def rowOf (t : Fin cfg0.N) (r : Fin 256) : Fin 8192 := ⟨256 * (t.val % 32) + r.val, by omega⟩

theorem block_du (c : Dev nD) (t : Fin cfg0.N) (y : S256x1024.Idx) :
    sDu m c t y = wholeDu (rows m c) (ix2 (rowOf t (y 0)) (place (side t) (y 1))) := by
  obtain ⟨r, k, rfl⟩ : ∃ r k, y = ix2 r k := ⟨y 0, y 1, eq_ix2 y⟩
  refine (pDu_at (fits m c t) (weights m c t) r k).trans ?_
  rw [coord1]
  exact Cert.Conv.block_du _ _ _ _

theorem block_db (c : Dev nD) (t : Fin cfg0.N) (y : S256x1024.Idx) :
    sDb m c t y = wholeDb (rows m c) (ix2 (rowOf t (y 0)) (place (side t) (y 1))) := by
  obtain ⟨r, k, rfl⟩ : ∃ r k, y = ix2 r k := ⟨y 0, y 1, eq_ix2 y⟩
  refine (pDb_at (fits m c t) (weights m c t) r k).trans ?_
  rw [coord1]
  exact Cert.Conv.block_db _ _ _ _

theorem block_dc (c : Dev nD) (t : Fin cfg0.N) (y : S256x1024.Idx) :
    sDc m c t y = wholeDc (rows m c) (ix2 (rowOf t (y 0)) (place (side t) (y 1))) := by
  obtain ⟨r, k, rfl⟩ : ∃ r k, y = ix2 r k := ⟨y 0, y 1, eq_ix2 y⟩
  refine (pDc_at (fits m c t) (weights m c t) r k).trans ?_
  rw [coord1]
  exact Cert.Conv.block_dc _ _ _ _

theorem block_dw (c : Dev nD) (t : Fin cfg0.N) (ht : t.val % 32 = 31) (y : S3x1x1024.Idx) :
    (outsAt0 m c t.val t.isLt).2.2.2.1 y = wholeDw (rows m c) (ix3 (y 0) 0 (place (side t) (y 2))) := by
  obtain ⟨a, z, k, rfl⟩ : ∃ a z k, y = ix3 a z k := ⟨y 0, y 1, y 2, eq_ix3 y⟩
  obtain rfl : z = 0 := Subsingleton.elim _ _
  exact acc (fun n h => (outsAt0 m c n h).2.2.2.1 (ix3 a 0 k)) ((rows m c).dw whole a) k
    (fun t h => (dw_A m c t h a k).trans (sDw_at m c t a k))
    (fun t h => (dw_B m c t h a k).trans (congrArg (_ + ·) (sDw_at m c t a k))) t ht

theorem block_dg (c : Dev nD) (t : Fin cfg0.N) (ht : t.val % 32 = 31) (y : S1x1024.Idx) :
    (outsAt0 m c t.val t.isLt).2.2.2.2 y = wholeDg (rows m c) (ix2 0 (place (side t) (y 1))) := by
  obtain ⟨z, k, rfl⟩ : ∃ z k, y = ix2 z k := ⟨y 0, y 1, eq_ix2 y⟩
  obtain rfl : z = 0 := Subsingleton.elim _ _
  exact acc (fun n h => (outsAt0 m c n h).2.2.2.2 (ix2 0 k)) ((rows m c).dg whole) k
    (fun t h => (congrFun (out16_A m c t h) _).trans (sDg_at m c t k))
    (fun t h => (congrFun (out16_B m c t h) _).trans (congrArg (_ + ·) (sDg_at m c t k))) t ht

theorem final_du (c : Dev nD) : (dats m 0 c).arrAt 12 cfg0.N = wholeDu (rows m c) := by
  refine (dats m 0 c).arrAt_eq_of_covers 12 _ (by decide +kernel) fun t hf y => ?_
  blk_simp
  rw [after0_12, out12]
  refine (block_du m c t y).trans (congrArg _ ?_)
  blk_ext [idx12 t, rowOf, place, side]

theorem final_db (c : Dev nD) : (dats m 0 c).arrAt 13 cfg0.N = wholeDb (rows m c) := by
  refine (dats m 0 c).arrAt_eq_of_covers 13 _ (by decide +kernel) fun t hf y => ?_
  blk_simp
  rw [after0_13, out13]
  refine (block_db m c t y).trans (congrArg _ ?_)
  blk_ext [idx13 t, rowOf, place, side]

theorem final_dc (c : Dev nD) : (dats m 0 c).arrAt 14 cfg0.N = wholeDc (rows m c) := by
  refine (dats m 0 c).arrAt_eq_of_covers 14 _ (by decide +kernel) fun t hf y => ?_
  blk_simp
  rw [after0_14, out14]
  refine (block_dc m c t y).trans (congrArg _ ?_)
  blk_ext [idx14 t, rowOf, place, side]

theorem final_dw (c : Dev nD) : (dats m 0 c).arrAt 15 cfg0.N = wholeDw (rows m c) := by
  refine (dats m 0 c).arrAt_eq_of_covers 15 _ (by decide +kernel) fun t hf y => ?_
  blk_simp
  rw [after0_15]
  refine (block_dw m c t ((flush0_15 t).mp hf) y).trans (congrArg _ ?_)
  blk_ext [idx15 t, place, side]

theorem final_dg (c : Dev nD) : (dats m 0 c).arrAt 16 cfg0.N = wholeDg (rows m c) := by
  refine (dats m 0 c).arrAt_eq_of_covers 16 _ (by decide +kernel) fun t hf y => ?_
  blk_simp
  rw [after0_16]
  refine (block_dg m c t ((flush0_16 t).mp hf) y).trans (congrArg _ ?_)
  blk_ext [idx16 t, place, side]

end Cert.ScIdeal.Hand

namespace Cert.ScRefIdeal.Hand

open Cert.ScRefIdeal Cert.ScRefIdeal.Gen Cert.Conv Idealize.ShloMosaic Idealize.SL.Sem

theorem frame : Cert.quiescent_ScRefIdeal := fun m g _ =>
  (θ_run Cert.ScRefIdeal.defs _ _).mono (fun r h => ⟨fun c => (h c).2.2.2.2.2, sem_eq_zero_of_no_sems (by decide) r.2⟩)
    (Cert.ScRefIdeal.Value.run m g)

/-- The kernel's gradients are the reference's. -/
theorem value : Cert.algebraic_ScIdeal_ScRefIdeal := by
  intro m g m' g' _ hagree
  refine ⟨fun c => wholeDu (Cert.ScIdeal.Hand.rows m c), fun c => wholeDb (Cert.ScIdeal.Hand.rows m c),
    fun c => wholeDc (Cert.ScIdeal.Hand.rows m c), fun c => wholeDw (Cert.ScIdeal.Hand.rows m c),
    fun c => wholeDg (Cert.ScIdeal.Hand.rows m c), ?_, ?_⟩
  · exact (θ_run Cert.ScIdeal.defs _ _).mono (fun r h c => ⟨(h c).1.trans (Cert.ScIdeal.Hand.final_du m c),
        (h c).2.1.trans (Cert.ScIdeal.Hand.final_db m c), (h c).2.2.1.trans (Cert.ScIdeal.Hand.final_dc m c),
        (h c).2.2.2.1.trans (Cert.ScIdeal.Hand.final_dw m c), (h c).2.2.2.2.1.trans (Cert.ScIdeal.Hand.final_dg m c), (h c).2.2.2.2.2⟩)
      (Cert.ScIdeal.Value.run_blocks m g)
  · refine (θ_run Cert.ScRefIdeal.defs _ _).mono (fun r h c => ?_) (Cert.ScRefIdeal.Value.run m' g')
    have e : D (StableHlo.launchContents m' c) = Cert.ScIdeal.Hand.rows m c := by
      obtain ⟨e0, e1, e2, e3⟩ := hagree c
      change rowsOf (m' ((c.tc : Thread nD τ).loc main_arg0)) (m' ((c.tc : Thread nD τ).loc main_arg1))
        (m' ((c.tc : Thread nD τ).loc main_arg2)) (m' ((c.tc : Thread nD τ).loc main_arg3)) = _
      rw [e0, e1, e2, e3]
    exact ⟨(h c).1.trans ((du_eq _).trans (congrArg wholeDu e)), (h c).2.1.trans ((db_eq _).trans (congrArg wholeDb e)),
      (h c).2.2.1.trans ((dc_eq _).trans (congrArg wholeDc e)), (h c).2.2.2.1.trans ((dw_eq _).trans (congrArg wholeDw e)),
      (h c).2.2.2.2.1.trans ((dg_eq _).trans (congrArg wholeDg e)), (h c).2.2.2.2.2⟩

end Cert.ScRefIdeal.Hand

end
-- ==== Proof.lean ====
/- The proof of the claims about the attention's gradient: the frames of the kernel, of its idealization and of the
   reference, and the equality of the kernel's three results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.Do
public import proofs.«01_k».proof.Proof.Gen.Do.Skeleton
public import proofs.«01_k».proof.Proof.Gen.Do.Launch
public import proofs.«01_k».proof.Proof.Gen.Do.Points
public import proofs.«01_k».proof.Proof.Gen.Do.Frame
public import proofs.«01_k».proof.Proof.Gen.DoIdeal
public import proofs.«01_k».proof.Proof.Gen.DoIdeal.Skeleton
public import proofs.«01_k».proof.Proof.Gen.DoIdeal.Launch
public import proofs.«01_k».proof.Proof.Gen.DoIdeal.Points
public import proofs.«01_k».proof.Proof.Gen.DoIdeal.Frame
public import proofs.«01_k».proof.Proof.Gen.DoIdeal.Value
public import proofs.«01_k».proof.Proof.Gen.DoRefIdeal
public import proofs.«01_k».proof.Proof.Gen.DoRefIdeal.Run
public import proofs.«01_k».proof.Proof.Gen.Dhx
public import proofs.«01_k».proof.Proof.Gen.Dhx.Skeleton
public import proofs.«01_k».proof.Proof.Gen.Dhx.Launch
public import proofs.«01_k».proof.Proof.Gen.Dhx.Points
public import proofs.«01_k».proof.Proof.Gen.Dhx.Frame
public import proofs.«01_k».proof.Proof.Gen.DhxIdeal
public import proofs.«01_k».proof.Proof.Gen.DhxIdeal.Skeleton
public import proofs.«01_k».proof.Proof.Gen.DhxIdeal.Launch
public import proofs.«01_k».proof.Proof.Gen.DhxIdeal.Points
public import proofs.«01_k».proof.Proof.Gen.DhxIdeal.Frame
public import proofs.«01_k».proof.Proof.Gen.DhxIdeal.Value
public import proofs.«01_k».proof.Proof.Gen.DhxRefIdeal
public import proofs.«01_k».proof.Proof.Gen.DhxRefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwO
public import proofs.«01_k».proof.Proof.Gen.DwO.Skeleton
public import proofs.«01_k».proof.Proof.Gen.DwO.Launch
public import proofs.«01_k».proof.Proof.Gen.DwO.Points
public import proofs.«01_k».proof.Proof.Gen.DwO.Frame
public import proofs.«01_k».proof.Proof.Gen.DwOIdeal
public import proofs.«01_k».proof.Proof.Gen.DwOIdeal.Skeleton
public import proofs.«01_k».proof.Proof.Gen.DwOIdeal.Launch
public import proofs.«01_k».proof.Proof.Gen.DwOIdeal.Points
public import proofs.«01_k».proof.Proof.Gen.DwOIdeal.Frame
public import proofs.«01_k».proof.Proof.Gen.DwOIdeal.Value
public import proofs.«01_k».proof.Proof.Gen.DwORefIdeal
public import proofs.«01_k».proof.Proof.Gen.DwORefIdeal.Run
public import proofs.«01_k».proof.Proof.Gen.DwQ
public import proofs.«01_k».proof.Proof.Gen.DwQ.Skeleton
public import proofs.«01_k».proof.Proof.Gen.DwQ.Launch
public import proofs.«01_k».proof.Proof.Gen.DwQ.Points
public import proofs.«01_k».proof.Proof.Gen.DwQ.Frame
public import proofs.«01_k».proof.Proof.Gen.DwQIdeal
public import proofs.«01_k».proof.Proof.Gen.DwQIdeal.Skeleton
public import proofs.«01_k».proof.Proof.Gen.DwQIdeal.Launch
public import proofs.«01_k».proof.Proof.Gen.DwQIdeal.Points
public import proofs.«01_k».proof.Proof.Gen.DwQIdeal.Frame
public import proofs.«01_k».proof.Proof.Gen.DwQIdeal.Value
public import proofs.«01_k».proof.Proof.Gen.DwQRefIdeal
public import proofs.«01_k».proof.Proof.Gen.DwQRefIdeal.Run
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwGu
public import proofs.«01_k».proof.Proof.Gen.DwGu.Skeleton
public import proofs.«01_k».proof.Proof.Gen.DwGu.Launch
public import proofs.«01_k».proof.Proof.Gen.DwGu.Points
public import proofs.«01_k».proof.Proof.Gen.DwGu.Frame
public import proofs.«01_k».proof.Proof.Gen.DwGuIdeal
public import proofs.«01_k».proof.Proof.Gen.DwGuIdeal.Skeleton
public import proofs.«01_k».proof.Proof.Gen.DwGuIdeal.Launch
public import proofs.«01_k».proof.Proof.Gen.DwGuIdeal.Points
public import proofs.«01_k».proof.Proof.Gen.DwGuIdeal.Frame
public import proofs.«01_k».proof.Proof.Gen.DwGuIdeal.Value
public import proofs.«01_k».proof.Proof.Gen.DwGuRefIdeal
public import proofs.«01_k».proof.Proof.Gen.DwGuRefIdeal.Run
public import proofs.«01_k».proof.Proof.Gen.Dhf
public import proofs.«01_k».proof.Proof.Gen.Dhf.Skeleton
public import proofs.«01_k».proof.Proof.Gen.Dhf.Launch
public import proofs.«01_k».proof.Proof.Gen.Dhf.Points
public import proofs.«01_k».proof.Proof.Gen.Dhf.Frame
public import proofs.«01_k».proof.Proof.Gen.DhfIdeal
public import proofs.«01_k».proof.Proof.Gen.DhfIdeal.Skeleton
public import proofs.«01_k».proof.Proof.Gen.DhfIdeal.Launch
public import proofs.«01_k».proof.Proof.Gen.DhfIdeal.Points
public import proofs.«01_k».proof.Proof.Gen.DhfIdeal.Frame
public import proofs.«01_k».proof.Proof.Gen.DhfIdeal.Value
public import proofs.«01_k».proof.Proof.Gen.DhfRefIdeal
public import proofs.«01_k».proof.Proof.Gen.DhfRefIdeal.Run
public import proofs.«01_k».proof.Proof.Gen.Dcat
public import proofs.«01_k».proof.Proof.Gen.Dcat.Skeleton
public import proofs.«01_k».proof.Proof.Gen.Dcat.Launch
public import proofs.«01_k».proof.Proof.Gen.Dcat.Points
public import proofs.«01_k».proof.Proof.Gen.Dcat.Frame
public import proofs.«01_k».proof.Proof.Gen.DcatIdeal
public import proofs.«01_k».proof.Proof.Gen.DcatIdeal.Skeleton
public import proofs.«01_k».proof.Proof.Gen.DcatIdeal.Launch
public import proofs.«01_k».proof.Proof.Gen.DcatIdeal.Points
public import proofs.«01_k».proof.Proof.Gen.DcatIdeal.Frame
public import proofs.«01_k».proof.Proof.Gen.DcatIdeal.Value
public import proofs.«01_k».proof.Proof.Gen.DcatRefIdeal
public import proofs.«01_k».proof.Proof.Gen.DcatRefIdeal.Run
public import proofs.«01_k».proof.Proof.Gen.DwMain
public import proofs.«01_k».proof.Proof.Gen.DwMain.Skeleton
public import proofs.«01_k».proof.Proof.Gen.DwMain.Launch
public import proofs.«01_k».proof.Proof.Gen.DwMain.Points
public import proofs.«01_k».proof.Proof.Gen.DwMain.Frame
public import proofs.«01_k».proof.Proof.Gen.DwMainIdeal
public import proofs.«01_k».proof.Proof.Gen.DwMainIdeal.Skeleton
public import proofs.«01_k».proof.Proof.Gen.DwMainIdeal.Launch
public import proofs.«01_k».proof.Proof.Gen.DwMainIdeal.Points
public import proofs.«01_k».proof.Proof.Gen.DwMainIdeal.Frame
public import proofs.«01_k».proof.Proof.Gen.DwMainIdeal.Value
public import proofs.«01_k».proof.Proof.Gen.DwMainRefIdeal
public import proofs.«01_k».proof.Proof.Gen.DwMainRefIdeal.Run
public import proofs.«01_k».proof.Proof.Gen.Dhn
public import proofs.«01_k».proof.Proof.Gen.Dhn.Skeleton
public import proofs.«01_k».proof.Proof.Gen.Dhn.Launch
public import proofs.«01_k».proof.Proof.Gen.Dhn.Points
public import proofs.«01_k».proof.Proof.Gen.Dhn.Frame
public import proofs.«01_k».proof.Proof.Gen.DhnIdeal
public import proofs.«01_k».proof.Proof.Gen.DhnIdeal.Skeleton
public import proofs.«01_k».proof.Proof.Gen.DhnIdeal.Launch
public import proofs.«01_k».proof.Proof.Gen.DhnIdeal.Points
public import proofs.«01_k».proof.Proof.Gen.DhnIdeal.Frame
public import proofs.«01_k».proof.Proof.Gen.DhnIdeal.Value
public import proofs.«01_k».proof.Proof.Gen.DhnRefIdeal
public import proofs.«01_k».proof.Proof.Gen.DhnRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Q
public import proofs.«01_k».proof.Proof.Gen.Q.Skeleton
public import proofs.«01_k».proof.Proof.Gen.Q.Launch
public import proofs.«01_k».proof.Proof.Gen.Q.Points
public import proofs.«01_k».proof.Proof.Gen.Q.Frame
public import proofs.«01_k».proof.Proof.Gen.QIdeal
public import proofs.«01_k».proof.Proof.Gen.QIdeal.Skeleton
public import proofs.«01_k».proof.Proof.Gen.QIdeal.Launch
public import proofs.«01_k».proof.Proof.Gen.QIdeal.Points
public import proofs.«01_k».proof.Proof.Gen.QIdeal.Frame
public import proofs.«01_k».proof.Proof.Gen.QIdeal.Value
public import proofs.«01_k».proof.Proof.Gen.QRefIdeal
public import proofs.«01_k».proof.Proof.Gen.QRefIdeal.Run
public import proofs.«01_k».proof.Proof.Gen.O
public import proofs.«01_k».proof.Proof.Gen.O.Skeleton
public import proofs.«01_k».proof.Proof.Gen.O.Launch
public import proofs.«01_k».proof.Proof.Gen.O.Points
public import proofs.«01_k».proof.Proof.Gen.O.Frame
public import proofs.«01_k».proof.Proof.Gen.OIdeal
public import proofs.«01_k».proof.Proof.Gen.OIdeal.Skeleton
public import proofs.«01_k».proof.Proof.Gen.OIdeal.Launch
public import proofs.«01_k».proof.Proof.Gen.OIdeal.Points
public import proofs.«01_k».proof.Proof.Gen.OIdeal.Frame
public import proofs.«01_k».proof.Proof.Gen.OIdeal.Value
public import proofs.«01_k».proof.Proof.Gen.ORefIdeal
public import proofs.«01_k».proof.Proof.Gen.ORefIdeal.Run
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuIdeal.Value
public import proofs.«01_k».proof.Proof.Gen.GuRefIdeal
public import proofs.«01_k».proof.Proof.Gen.GuRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.GNorm
public import proofs.«01_k».proof.Proof.Gen.GNorm.Skeleton
public import proofs.«01_k».proof.Proof.Gen.GNorm.Launch
public import proofs.«01_k».proof.Proof.Gen.GNorm.Points
public import proofs.«01_k».proof.Proof.Gen.GNorm.Frame
public import proofs.«01_k».proof.Proof.Gen.GNormIdeal
public import proofs.«01_k».proof.Proof.Gen.GNormIdeal.Skeleton
public import proofs.«01_k».proof.Proof.Gen.GNormIdeal.Launch
public import proofs.«01_k».proof.Proof.Gen.GNormIdeal.Points
public import proofs.«01_k».proof.Proof.Gen.GNormIdeal.Frame
public import proofs.«01_k».proof.Proof.Gen.GNormIdeal.Value
public import proofs.«01_k».proof.Proof.Gen.GNormRefIdeal
public import proofs.«01_k».proof.Proof.Gen.GNormRefIdeal.Run
public import proofs.«01_k».proof.Proof.Gen.Sc
public import proofs.«01_k».proof.Proof.Gen.Sc.Skeleton
public import proofs.«01_k».proof.Proof.Gen.Sc.Launch
public import proofs.«01_k».proof.Proof.Gen.Sc.Points
public import proofs.«01_k».proof.Proof.Gen.Sc.Frame
public import proofs.«01_k».proof.Proof.Gen.ScIdeal
public import proofs.«01_k».proof.Proof.Gen.ScIdeal.Skeleton
public import proofs.«01_k».proof.Proof.Gen.ScIdeal.Launch
public import proofs.«01_k».proof.Proof.Gen.ScIdeal.Points
public import proofs.«01_k».proof.Proof.Gen.ScIdeal.Frame
public import proofs.«01_k».proof.Proof.Gen.ScIdeal.Value
public import proofs.«01_k».proof.Proof.Gen.ScRefIdeal
public import proofs.«01_k».proof.Proof.Gen.ScRefIdeal.Run
public import proofs.«01_k».proof.Proof.Gen.Pre_finite
public import proofs.«01_k».proof.Proof.Gen.Pre_finite_gate
public import proofs.«01_k».proof.Proof.Gen.Pre_finite_gnorm
public import proofs.«01_k».proof.Proof.KernelValue
public import proofs.«01_k».proof.Proof.RefValue
public import proofs.«01_k».proof.Proof.Finite
public import proofs.«01_k».proof.Proof.Dact
public import proofs.«01_k».proof.Proof.Do
public import proofs.«01_k».proof.Proof.Dhx
public import proofs.«01_k».proof.Proof.DwOut
public import proofs.«01_k».proof.Proof.DwO
public import proofs.«01_k».proof.Proof.DwQ
public import proofs.«01_k».proof.Proof.Swiglu
public import proofs.«01_k».proof.Proof.DwDown
public import proofs.«01_k».proof.Proof.DwGu
public import proofs.«01_k».proof.Proof.Dhf
public import proofs.«01_k».proof.Proof.Dcat
public import proofs.«01_k».proof.Proof.DwMain
public import proofs.«01_k».proof.Proof.Dhn
public import proofs.«01_k».proof.Proof.Proj
public import proofs.«01_k».proof.Proof.Out
public import proofs.«01_k».proof.Proof.Q
public import proofs.«01_k».proof.Proof.O
public import proofs.«01_k».proof.Proof.Gu
public import proofs.«01_k».proof.Proof.Down
public import proofs.«01_k».proof.Proof.Norm
public import proofs.«01_k».proof.Proof.GNorm
public import proofs.«01_k».proof.Proof.Sc
public import Idealize.ShloMosaic.Adequacy
public import Idealize.ShloMosaic.Init

@[expose] public section

noncomputable section

namespace Cert.Proof

open Idealize.ShloMosaic Idealize.SL.Sem Cert.Attn

/-- The reference keeps its arguments; it declares no semaphore. -/
theorem reference_frame : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Hand.run_stages m g)

/-- The kernel's three gradients are the reference's where the queries and keys are finite. -/
theorem value : Cert.algebraic_KernelIdeal_ReferenceIdeal_pre_finite := by
  intro m g m' g' hpre hagree
  refine ⟨fun c => gradQ (Cert.KernelIdeal.Hand.argQ m c) (Cert.KernelIdeal.Hand.argD m c) (Cert.KernelIdeal.Hand.argK m c)
      (Cert.KernelIdeal.Hand.argV m c),
    fun c => gradK (Cert.KernelIdeal.Hand.argQ m c) (Cert.KernelIdeal.Hand.argD m c) (Cert.KernelIdeal.Hand.argK m c)
      (Cert.KernelIdeal.Hand.argV m c),
    fun c => gradV (Cert.KernelIdeal.Hand.argQ m c) (Cert.KernelIdeal.Hand.argD m c) (Cert.KernelIdeal.Hand.argK m c),
    ?_, ?_⟩
  · exact (θ_run Cert.KernelIdeal.defs _ _).mono (fun r h c => ⟨(h c).1.trans (Cert.KernelIdeal.Hand.final_q m c),
      (h c).2.1.trans (Cert.KernelIdeal.Hand.final_k m c), (h c).2.2.1.trans (Cert.KernelIdeal.Hand.final_v m c), (h c).2.2.2⟩)
      (Cert.KernelIdeal.Value.run_blocks m g)
  · refine (θ_run Cert.ReferenceIdeal.defs _ _).mono (fun r h c => ?_) (Cert.ReferenceIdeal.Hand.run_stages m' g')
    obtain ⟨h0, h1, h2, hkeep⟩ := h c
    obtain ⟨a0, a1, a2, a3⟩ := hagree c
    obtain ⟨hq, hk⟩ := Cert.Pre_finite.Hand.real_of_fn _ _ _ _ (hpre c)
    have e0 : Cert.ReferenceIdeal.Hand.argQ m' c = Cert.KernelIdeal.Hand.argQ m c := a0
    have e1 : Cert.ReferenceIdeal.Hand.argK m' c = Cert.KernelIdeal.Hand.argK m c := a1
    have e2 : Cert.ReferenceIdeal.Hand.argV m' c = Cert.KernelIdeal.Hand.argV m c := a2
    have e3 : Cert.ReferenceIdeal.Hand.argD m' c = Cert.KernelIdeal.Hand.argD m c := a3
    rw [e0, e1, e2, e3] at h0 h1
    rw [e0, e1, e3] at h2
    exact ⟨h0.trans (Cert.ReferenceIdeal.Hand.rDq_eq _ _ _ _ hq hk), h1.trans (Cert.ReferenceIdeal.Hand.rDk_eq _ _ _ _ hq hk),
      h2.trans (Cert.ReferenceIdeal.Hand.rDv_eq _ _ _), hkeep⟩

theorem claim : Cert.Claim := ⟨Cert.Kernel.Gen.facts, Cert.KernelIdeal.Gen.facts, Cert.ReferenceIdeal.Gen.facts,
  Cert.Dact.Gen.facts, Cert.DactIdeal.Gen.facts, Cert.DactRefIdeal.Gen.facts, Cert.Do.Gen.facts,
  Cert.DoIdeal.Gen.facts, Cert.DoRefIdeal.Gen.facts, Cert.Dhx.Gen.facts, Cert.DhxIdeal.Gen.facts,
  Cert.DhxRefIdeal.Gen.facts, Cert.DwOut.Gen.facts, Cert.DwOutIdeal.Gen.facts, Cert.DwOutRefIdeal.Gen.facts,
  Cert.DwO.Gen.facts, Cert.DwOIdeal.Gen.facts, Cert.DwORefIdeal.Gen.facts, Cert.DwQ.Gen.facts, Cert.DwQIdeal.Gen.facts,
  Cert.DwQRefIdeal.Gen.facts, Cert.Swiglu.Gen.facts, Cert.SwigluIdeal.Gen.facts, Cert.SwigluRefIdeal.Gen.facts,
  Cert.DwDown.Gen.facts, Cert.DwDownIdeal.Gen.facts, Cert.DwDownRefIdeal.Gen.facts, Cert.DwGu.Gen.facts,
  Cert.DwGuIdeal.Gen.facts, Cert.DwGuRefIdeal.Gen.facts, Cert.Dhf.Gen.facts, Cert.DhfIdeal.Gen.facts,
  Cert.DhfRefIdeal.Gen.facts, Cert.Dcat.Gen.facts, Cert.DcatIdeal.Gen.facts, Cert.DcatRefIdeal.Gen.facts,
  Cert.DwMain.Gen.facts, Cert.DwMainIdeal.Gen.facts, Cert.DwMainRefIdeal.Gen.facts, Cert.Dhn.Gen.facts,
  Cert.DhnIdeal.Gen.facts, Cert.DhnRefIdeal.Gen.facts, Cert.Proj.Gen.facts, Cert.ProjIdeal.Gen.facts,
  Cert.ProjRefIdeal.Gen.facts, Cert.Out.Gen.facts, Cert.OutIdeal.Gen.facts, Cert.OutRefIdeal.Gen.facts,
  Cert.Q.Gen.facts, Cert.QIdeal.Gen.facts, Cert.QRefIdeal.Gen.facts, Cert.O.Gen.facts, Cert.OIdeal.Gen.facts,
  Cert.ORefIdeal.Gen.facts, Cert.Gu.Gen.facts, Cert.GuIdeal.Gen.facts, Cert.GuRefIdeal.Gen.facts, Cert.Down.Gen.facts,
  Cert.DownIdeal.Gen.facts, Cert.DownRefIdeal.Gen.facts, Cert.Norm.Gen.facts, Cert.NormIdeal.Gen.facts,
  Cert.NormRefIdeal.Gen.facts, Cert.GNorm.Gen.facts, Cert.GNormIdeal.Gen.facts, Cert.GNormRefIdeal.Gen.facts,
  Cert.Sc.Gen.facts, Cert.ScIdeal.Gen.facts, Cert.ScRefIdeal.Gen.facts, Cert.Pre_finite.Gen.facts,
  Cert.Pre_finite_gate.Gen.facts, Cert.Pre_finite_gnorm.Gen.facts, fun m g _ => Cert.Kernel.Gen.frame m g,
  fun m g _ => Cert.KernelIdeal.Gen.frame m g, fun m g _ => Cert.KernelIdeal.Gen.frame m g,
  fun m g _ => reference_frame m g ⟨⟩, fun m g _ => reference_frame m g ⟨⟩, fun m g _ => Cert.Dact.Gen.frame m g,
  fun m g _ => Cert.DactIdeal.Gen.frame m g, Cert.DactRefIdeal.Hand.frame, fun m g _ => Cert.Do.Gen.frame m g,
  fun m g _ => Cert.DoIdeal.Gen.frame m g, Cert.DoRefIdeal.Hand.frame, fun m g _ => Cert.Dhx.Gen.frame m g,
  fun m g _ => Cert.DhxIdeal.Gen.frame m g, Cert.DhxRefIdeal.Hand.frame, fun m g _ => Cert.DwOut.Gen.frame m g,
  fun m g _ => Cert.DwOutIdeal.Gen.frame m g, Cert.DwOutRefIdeal.Hand.frame, fun m g _ => Cert.DwO.Gen.frame m g,
  fun m g _ => Cert.DwOIdeal.Gen.frame m g, Cert.DwORefIdeal.Hand.frame, fun m g _ => Cert.DwQ.Gen.frame m g,
  fun m g _ => Cert.DwQIdeal.Gen.frame m g, Cert.DwQRefIdeal.Hand.frame, fun m g _ => Cert.Swiglu.Gen.frame m g,
  fun m g _ => Cert.SwigluIdeal.Gen.frame m g, fun m g _ => Cert.SwigluIdeal.Gen.frame m g,
  Cert.SwigluRefIdeal.Hand.frame, fun m g _ => Cert.SwigluRefIdeal.Hand.frame m g ⟨⟩,
  fun m g _ => Cert.DwDown.Gen.frame m g, fun m g _ => Cert.DwDownIdeal.Gen.frame m g, Cert.DwDownRefIdeal.Hand.frame,
  fun m g _ => Cert.DwGu.Gen.frame m g, fun m g _ => Cert.DwGuIdeal.Gen.frame m g, Cert.DwGuRefIdeal.Hand.frame,
  fun m g _ => Cert.Dhf.Gen.frame m g, fun m g _ => Cert.DhfIdeal.Gen.frame m g, Cert.DhfRefIdeal.Hand.frame,
  fun m g _ => Cert.Dcat.Gen.frame m g, fun m g _ => Cert.DcatIdeal.Gen.frame m g, Cert.DcatRefIdeal.Hand.frame,
  fun m g _ => Cert.DwMain.Gen.frame m g, fun m g _ => Cert.DwMainIdeal.Gen.frame m g, Cert.DwMainRefIdeal.Hand.frame,
  fun m g _ => Cert.Dhn.Gen.frame m g, fun m g _ => Cert.DhnIdeal.Gen.frame m g, Cert.DhnRefIdeal.Hand.frame,
  fun m g _ => Cert.Proj.Gen.frame m g, fun m g _ => Cert.ProjIdeal.Gen.frame m g, Cert.ProjRefIdeal.Hand.frame,
  fun m g _ => Cert.Out.Gen.frame m g, fun m g _ => Cert.OutIdeal.Gen.frame m g, Cert.OutRefIdeal.Hand.frame,
  fun m g _ => Cert.Q.Gen.frame m g, fun m g _ => Cert.QIdeal.Gen.frame m g, Cert.QRefIdeal.Hand.frame,
  fun m g _ => Cert.O.Gen.frame m g, fun m g _ => Cert.OIdeal.Gen.frame m g, Cert.ORefIdeal.Hand.frame,
  fun m g _ => Cert.Gu.Gen.frame m g, fun m g _ => Cert.GuIdeal.Gen.frame m g, Cert.GuRefIdeal.Hand.frame,
  fun m g _ => Cert.Down.Gen.frame m g, fun m g _ => Cert.DownIdeal.Gen.frame m g, Cert.DownRefIdeal.Hand.frame,
  fun m g _ => Cert.Norm.Gen.frame m g, fun m g _ => Cert.NormIdeal.Gen.frame m g, Cert.NormRefIdeal.Hand.frame,
  fun m g _ => Cert.GNorm.Gen.frame m g, fun m g _ => Cert.GNormIdeal.Gen.frame m g,
  fun m g _ => Cert.GNormIdeal.Gen.frame m g, Cert.GNormRefIdeal.Hand.frame,
  fun m g _ => Cert.GNormRefIdeal.Hand.frame m g ⟨⟩, fun m g _ => Cert.Sc.Gen.frame m g,
  fun m g _ => Cert.ScIdeal.Gen.frame m g, Cert.ScRefIdeal.Hand.frame, trivial, value, trivial,
  Cert.DactRefIdeal.Hand.value, trivial, Cert.DoRefIdeal.Hand.value, trivial, Cert.DhxRefIdeal.Hand.value, trivial,
  Cert.DwOutRefIdeal.Hand.value, trivial, Cert.DwORefIdeal.Hand.value, trivial, Cert.DwQRefIdeal.Hand.value, trivial,
  Cert.SwigluRefIdeal.Hand.value, trivial, Cert.DwDownRefIdeal.Hand.value, trivial, Cert.DwGuRefIdeal.Hand.value,
  trivial, Cert.DhfRefIdeal.Hand.value, trivial, Cert.DcatRefIdeal.Hand.value, trivial, Cert.DwMainRefIdeal.Hand.value,
  trivial, Cert.DhnRefIdeal.Hand.value, trivial, Cert.ProjRefIdeal.Hand.value, trivial, Cert.OutRefIdeal.Hand.value,
  trivial, Cert.QRefIdeal.Hand.value, trivial, Cert.ORefIdeal.Hand.value, trivial, Cert.GuRefIdeal.Hand.value, trivial,
  Cert.DownRefIdeal.Hand.value, trivial, Cert.NormRefIdeal.Hand.value, trivial, Cert.GNormRefIdeal.Hand.value, trivial,
  Cert.ScRefIdeal.Hand.value⟩

end Cert.Proof

end
